-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_segments [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sorted_segments [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_sorted_segments [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sorted_segments : Cert.Pre_sorted_segments.Facts),
    quiescent_Kernel (hKernel := hKernel)
    ∧ quiescent_KernelIdeal (hKernelIdeal := hKernelIdeal)
    ∧ quiescent_KernelIdeal_pre_sorted_segments (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal_pre_sorted_segments (hKernelIdeal := hKernelIdeal) (hReferenceIdeal := hReferenceIdeal) (hPre_sorted_segments := hPre_sorted_segments)
-- ==== Pre_sorted_segments.lean ====
abbrev S8x4096x4096 : Shape := ⟨3, ![8, 4096, 4096]⟩
abbrev S8x4096x1024 : Shape := ⟨3, ![8, 4096, 1024]⟩
abbrev S32 : Shape := ⟨1, ![32]⟩
abbrev S8 : Shape := ⟨1, ![8]⟩
abbrev S8x4096 : Shape := ⟨2, ![8, 4096]⟩
abbrev S8x4095 : Shape := ⟨2, ![8, 4095]⟩
abbrev S_ : Shape := ⟨0, ![]⟩

class Facts : Prop where
  slices_S8x4096_S8x4095_0_1 : S8x4096.Slices ![0, 1] S8x4095
  slices_S8x4096_S8x4095_0_0 : S8x4096.Slices ![0, 0] S8x4095
  reducesTo_S8x4095_S_d0_1 : S8x4095.ReducesTo [0, 1] S_
  h_S_ : 0 < S_.numel

variable [Facts]

def fn {F : FTy → Type} [FloatOps F] (main_arg0 : FVec F S8x4096x4096 .fp8e4m3) (main_arg1 : FVec F S8x4096x1024 .fp8e4m3) (main_arg2 : FVec F S8x4096x1024 .fp8e4m3) (main_arg3 : FVec F S32 .f32) (main_arg4 : FVec F S8 .f32) (main_arg5 : FVec F S8 .f32) (main_arg6 : IVec S8x4096 32) : IVec S_ 1 :=
  let main_v0 : IVec S8x4095 32 := (extractStridedSlice S8x4095 ![0, 1] · slices_S8x4096_S8x4095_0_1) main_arg6
  let main_v1 : IVec S8x4095 32 := (extractStridedSlice S8x4095 ![0, 0] · slices_S8x4096_S8x4095_0_0) main_arg6
  let main_v2 : IVec S8x4095 1 := cmpi .sge main_v0 main_v1
  let main_c : IVec S_ 1 := constantI S_ 1 1#1
  let main_v3 : IVec S_ 1 := (fun x v => Host.reduce IntOp.andi x v reducesTo_S8x4095_S_d0_1 h_S_) main_v2 main_c
  main_v3
-- ==== Kernel.lean ====
abbrev S8x4096x4096 : Shape := ⟨3, ![8, 4096, 4096]⟩
abbrev S8x4096x1024 : Shape := ⟨3, ![8, 4096, 1024]⟩
abbrev S32 : Shape := ⟨1, ![32]⟩
abbrev S8 : Shape := ⟨1, ![8]⟩
abbrev S8x4096 : Shape := ⟨2, ![8, 4096]⟩
abbrev S4096 : Shape := ⟨1, ![4096]⟩
abbrev S1x4096 : Shape := ⟨2, ![1, 4096]⟩
abbrev S_ : Shape := ⟨0, ![]⟩
abbrev S8x1 : Shape := ⟨2, ![8, 1]⟩
abbrev S8x4095 : Shape := ⟨2, ![8, 4095]⟩
abbrev S8x64x64 : Shape := ⟨3, ![8, 64, 64]⟩
abbrev S1x8x1x64x1x64 : Shape := ⟨6, ![1, 8, 1, 64, 1, 64]⟩
abbrev S1x8x1x64x2x64 : Shape := ⟨6, ![1, 8, 1, 64, 2, 64]⟩
abbrev S8x64x128 : Shape := ⟨3, ![8, 64, 128]⟩
abbrev S8x64 : Shape := ⟨2, ![8, 64]⟩
abbrev S8x4 : Shape := ⟨2, ![8, 4]⟩
abbrev S8x4x64 : Shape := ⟨3, ![8, 4, 64]⟩
abbrev S8x256 : Shape := ⟨2, ![8, 256]⟩
abbrev S8x8x8x128 : Shape := ⟨4, ![8, 8, 8, 128]⟩
abbrev S1x512x4096 : Shape := ⟨3, ![1, 512, 4096]⟩
abbrev S1x4096x1024 : Shape := ⟨3, ![1, 4096, 1024]⟩
abbrev S1x1x8x128 : Shape := ⟨4, ![1, 1, 8, 128]⟩
abbrev S1024x128 : Shape := ⟨2, ![1024, 128]⟩
abbrev S1 : Shape := ⟨1, ![1]⟩
abbrev S1x1 : Shape := ⟨2, ![1, 1]⟩
abbrev S128x128 : Shape := ⟨2, ![128, 128]⟩
abbrev S1x1x1x128 : Shape := ⟨4, ![1, 1, 1, 128]⟩
abbrev S1x128 : Shape := ⟨2, ![1, 128]⟩
abbrev S1x128x128 : Shape := ⟨3, ![1, 128, 128]⟩
abbrev S1x64x128 : Shape := ⟨3, ![1, 64, 128]⟩
abbrev S64x128 : Shape := ⟨2, ![64, 128]⟩
abbrev S256x128 : Shape := ⟨2, ![256, 128]⟩
abbrev S128x256 : Shape := ⟨2, ![128, 256]⟩
abbrev S1x256 : Shape := ⟨2, ![1, 256]⟩
abbrev S256 : Shape := ⟨1, ![256]⟩
abbrev S1x1x256 : Shape := ⟨3, ![1, 1, 256]⟩
abbrev S1x1x1 : Shape := ⟨3, ![1, 1, 1]⟩
abbrev S1x256x128 : Shape := ⟨3, ![1, 256, 128]⟩
abbrev S256x256 : Shape := ⟨2, ![256, 256]⟩
abbrev S384x128 : Shape := ⟨2, ![384, 128]⟩
abbrev S1x384x128 : Shape := ⟨3, ![1, 384, 128]⟩
abbrev S384x256 : Shape := ⟨2, ![384, 256]⟩
abbrev S512x128 : Shape := ⟨2, ![512, 128]⟩
abbrev S1x512x128 : Shape := ⟨3, ![1, 512, 128]⟩
abbrev S512x256 : Shape := ⟨2, ![512, 256]⟩
abbrev S640x128 : Shape := ⟨2, ![640, 128]⟩
abbrev S1x640x128 : Shape := ⟨3, ![1, 640, 128]⟩
abbrev S640x256 : Shape := ⟨2, ![640, 256]⟩
abbrev S768x128 : Shape := ⟨2, ![768, 128]⟩
abbrev S1x768x128 : Shape := ⟨3, ![1, 768, 128]⟩
abbrev S768x256 : Shape := ⟨2, ![768, 256]⟩
abbrev S1x1024x128 : Shape := ⟨3, ![1, 1024, 128]⟩
abbrev S1024x256 : Shape := ⟨2, ![1024, 256]⟩

abbrev nBuf : Space → Nat
  | .hbm => 44
  | .vmem => 14
  | .smem => 3
  | _ => 0

abbrev bufTy : (tb : Table) → Fin (tcTables nBuf tb) → BufTy
  | .hbm, ⟨0, _⟩ => ⟨S8x4096x4096, .fp8e4m3⟩
  | .hbm, ⟨1, _⟩ => ⟨S8x4096x1024, .fp8e4m3⟩
  | .hbm, ⟨2, _⟩ => ⟨S8x4096x1024, .fp8e4m3⟩
  | .hbm, ⟨3, _⟩ => ⟨S32, .f32⟩
  | .hbm, ⟨4, _⟩ => ⟨S8, .f32⟩
  | .hbm, ⟨5, _⟩ => ⟨S8, .f32⟩
  | .hbm, ⟨6, _⟩ => ⟨S8x4096, .i32⟩
  | .hbm, ⟨7, _⟩ => ⟨S4096, .i32⟩
  | .hbm, ⟨8, _⟩ => ⟨S1x4096, .i32⟩
  | .hbm, ⟨9, _⟩ => ⟨S_, .i1⟩
  | .hbm, ⟨10, _⟩ => ⟨S8x1, .i1⟩
  | .hbm, ⟨11, _⟩ => ⟨S8x4095, .i32⟩
  | .hbm, ⟨12, _⟩ => ⟨S8x4095, .i32⟩
  | .hbm, ⟨13, _⟩ => ⟨S8x4095, .i1⟩
  | .hbm, ⟨14, _⟩ => ⟨S8x4096, .i1⟩
  | .hbm, ⟨15, _⟩ => ⟨S_, .i32⟩
  | .hbm, ⟨16, _⟩ => ⟨S_, .i32⟩
  | .hbm, ⟨17, _⟩ => ⟨S8x4096, .i32⟩
  | .hbm, ⟨18, _⟩ => ⟨S8x4096, .i32⟩
  | .hbm, ⟨19, _⟩ => ⟨S8x4096, .i32⟩
  | .hbm, ⟨20, _⟩ => ⟨S_, .i32⟩
  | .hbm, ⟨21, _⟩ => ⟨S_, .i32⟩
  | .hbm, ⟨22, _⟩ => ⟨S8x4096, .i32⟩
  | .hbm, ⟨23, _⟩ => ⟨S8x64x64, .i32⟩
  | .hbm, ⟨24, _⟩ => ⟨S1x8x1x64x1x64, .i32⟩
  | .hbm, ⟨25, _⟩ => ⟨S1x8x1x64x2x64, .i32⟩
  | .hbm, ⟨26, _⟩ => ⟨S8x64x128, .i32⟩
  | .hbm, ⟨27, _⟩ => ⟨S8x4096, .i32⟩
  | .hbm, ⟨28, _⟩ => ⟨S8x64x64, .i32⟩
  | .hbm, ⟨29, _⟩ => ⟨S1x8x1x64x1x64, .i32⟩
  | .hbm, ⟨30, _⟩ => ⟨S1x8x1x64x2x64, .i32⟩
  | .hbm, ⟨31, _⟩ => ⟨S8x64x128, .i32⟩
  | .hbm, ⟨32, _⟩ => ⟨S8x4, .f32⟩
  | .hbm, ⟨33, _⟩ => ⟨S8x1, .f32⟩
  | .hbm, ⟨34, _⟩ => ⟨S8x4, .f32⟩
  | .hbm, ⟨35, _⟩ => ⟨S8x4, .f32⟩
  | .hbm, ⟨36, _⟩ => ⟨S_, .f32⟩
  | .hbm, ⟨37, _⟩ => ⟨S8x4, .f32⟩
  | .hbm, ⟨38, _⟩ => ⟨S8x4, .f32⟩
  | .hbm, ⟨39, _⟩ => ⟨S8x4x64, .f32⟩
  | .hbm, ⟨40, _⟩ => ⟨S8x256, .f32⟩
  | .hbm, ⟨41, _⟩ => ⟨S8x8x8x128, .i32⟩
  | .hbm, ⟨42, _⟩ => ⟨S8x8x8x128, .i32⟩
  | .hbm, ⟨43, _⟩ => ⟨S8x4096x4096, .bf16⟩
  | .local _ .vmem, ⟨0, _⟩ => ⟨S1x512x4096, .fp8e4m3⟩
  | .local _ .vmem, ⟨1, _⟩ => ⟨S1x512x4096, .fp8e4m3⟩
  | .local _ .vmem, ⟨2, _⟩ => ⟨S1x4096x1024, .fp8e4m3⟩
  | .local _ .vmem, ⟨3, _⟩ => ⟨S1x4096x1024, .fp8e4m3⟩
  | .local _ .vmem, ⟨4, _⟩ => ⟨S1x4096x1024, .fp8e4m3⟩
  | .local _ .vmem, ⟨5, _⟩ => ⟨S1x4096x1024, .fp8e4m3⟩
  | .local _ .vmem, ⟨6, _⟩ => ⟨S1x1x8x128, .i32⟩
  | .local _ .vmem, ⟨7, _⟩ => ⟨S1x1x8x128, .i32⟩
  | .local _ .vmem, ⟨8, _⟩ => ⟨S1x1x8x128, .i32⟩
  | .local _ .vmem, ⟨9, _⟩ => ⟨S1x1x8x128, .i32⟩
  | .local _ .vmem, ⟨10, _⟩ => ⟨S8x256, .f32⟩
  | .local _ .vmem, ⟨11, _⟩ => ⟨S1x512x4096, .bf16⟩
  | .local _ .vmem, ⟨12, _⟩ => ⟨S1x512x4096, .bf16⟩
  | .local _ .vmem, ⟨13, _⟩ => ⟨S1024x128, .f32⟩
  | .local _ .smem, ⟨0, _⟩ => ⟨S8x64, .i32⟩
  | .local _ .smem, ⟨1, _⟩ => ⟨S8, .f32⟩
  | .local _ .smem, ⟨2, _⟩ => ⟨S1, .i32⟩
  | _, _ => ⟨S8x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v7 : Ref sig .tc := ⟨.hbm, 19, rfl⟩
abbrev main_call1_c : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v18 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_stg6_0 : Ref sig .tc := ⟨.smem, 1, rfl⟩
abbrev cc0_scratch1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (i : grid0.Coords) (k0_t1 : Fin k0_t1_loop.trips) : Fin 2 → Nat :=
  let arg0 : BitVec 32 := BitVec.ofNat 32 (i 0).val
  let v7 : Index := Scalar.indexCast arg0
  let arg1 : BitVec 32 := BitVec.ofNat 32 (i 1).val
  let c8_i32_2 : BitVec 32 := 8#32
  let v5 : BitVec 32 := Scalar.muli arg1 c8_i32_2
  let c0_i32 : BitVec 32 := 0#32
  let c1_i32 : BitVec 32 := 1#32
  let arg13 : BitVec 32 := Scf.iv c0_i32 c1_i32 k0_t1
  let v6 : BitVec 32 := Scalar.addi v5 arg13
  let v8 : Index := Scalar.indexCast v6
  ![v7.toNat, v8.toNat]
def k0_mult1 (i : grid0.Coords) (k0_t1 : Fin k0_t1_loop.trips) : BitVec 32 :=
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c128_i32_22 : BitVec 32 := 128#32
  let v51 : BitVec 32 := Scalar.subi v4 c128_i32_22
  let c0_i32_23 : BitVec 32 := 0#32
  let v52 : BitVec 32 := Scalar.maxsi v51 c0_i32_23
  v52
def k0_off2 (k0_t1 : Fin k0_t1_loop.trips) : Fin 4 → Nat :=
  let c0_24 : Index := 0#32
  let c0_25 : Index := 0#32
  let c0_i32 : BitVec 32 := 0#32
  let c1_i32 : BitVec 32 := 1#32
  let arg13 : BitVec 32 := Scf.iv c0_i32 c1_i32 k0_t1
  let v57 : Index := Scalar.indexCast arg13
  let c0_26 : Index := 0#32
  ![0, 0, v57.toNat, 0]
def k0_off3 (i : grid0.Coords) (k0_t1 : Fin k0_t1_loop.trips) : Fin 3 → Nat :=
  let c0_33 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c128_i32_22 : BitVec 32 := 128#32
  let v51 : BitVec 32 := Scalar.subi v4 c128_i32_22
  let c0_i32_23 : BitVec 32 := 0#32
  let v52 : BitVec 32 := Scalar.maxsi v51 c0_i32_23
  let v53 : BitVec 32 := v52
  let v74 : Index := Scalar.indexCast v53
  let c0_34 : Index := 0#32
  ![0, v74.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  v77
def k0_off4 (k0_t1 : Fin k0_t1_loop.trips) : Fin 3 → Nat :=
  let c0_36 : Index := 0#32
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  let v78 : BitVec 32 := v77
  let v79 : Index := Scalar.indexCast v78
  let c0_37 : Index := 0#32
  ![0, v79.toNat, 0]
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  v82
def k0_off5 (k0_t1 : Fin k0_t1_loop.trips) : Fin 3 → Nat :=
  let c0_39 : Index := 0#32
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  let v83 : BitVec 32 := v82
  let v84 : Index := Scalar.indexCast v83
  let c128 : Index := 128#32
  ![0, v84.toNat, 128]
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  v87
def k0_off6 (k0_t1 : Fin k0_t1_loop.trips) : Fin 3 → Nat :=
  let c0_41 : Index := 0#32
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  let v88 : BitVec 32 := v87
  let v89 : Index := Scalar.indexCast v88
  let c256 : Index := 256#32
  ![0, v89.toNat, 256]
def k0_mult5 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  v92
def k0_off7 (k0_t1 : Fin k0_t1_loop.trips) : Fin 3 → Nat :=
  let c0_43 : Index := 0#32
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  let v93 : BitVec 32 := v92
  let v94 : Index := Scalar.indexCast v93
  let c384 : Index := 384#32
  ![0, v94.toNat, 384]
def k0_mult6 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_55 : BitVec 32 := 64#32
  let v125 : BitVec 32 := Scalar.muli arg13 c64_i32_55
  v125
def k0_mult7 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_58 : BitVec 32 := 64#32
  let v132 : BitVec 32 := Scalar.muli arg13 c64_i32_58
  v132
def k0_mult8 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_61 : BitVec 32 := 64#32
  let v139 : BitVec 32 := Scalar.muli arg13 c64_i32_61
  v139
def k0_mult9 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_64 : BitVec 32 := 64#32
  let v146 : BitVec 32 := Scalar.muli arg13 c64_i32_64
  v146
def k0_off8 (i : grid0.Coords) (k0_t1 : Fin k0_t1_loop.trips) : Fin 3 → Nat :=
  let c0_69 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c128_i32_22 : BitVec 32 := 128#32
  let v51 : BitVec 32 := Scalar.subi v4 c128_i32_22
  let c0_i32_23 : BitVec 32 := 0#32
  let v52 : BitVec 32 := Scalar.maxsi v51 c0_i32_23
  let v53 : BitVec 32 := v52
  let v157 : Index := Scalar.indexCast v53
  let c128_70 : Index := 128#32
  ![0, v157.toNat, 128]
def k0_mult10 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  v160
def k0_off9 (k0_t1 : Fin k0_t1_loop.trips) : Fin 3 → Nat :=
  let c0_72 : Index := 0#32
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  let v161 : BitVec 32 := v160
  let v162 : Index := Scalar.indexCast v161
  let c512 : Index := 512#32
  ![0, v162.toNat, 512]
def k0_mult11 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  v165
def k0_off10 (k0_t1 : Fin k0_t1_loop.trips) : Fin 3 → Nat :=
  let c0_74 : Index := 0#32
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  let v166 : BitVec 32 := v165
  let v167 : Index := Scalar.indexCast v166
  let c640 : Index := 640#32
  ![0, v167.toNat, 640]
def k0_mult12 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  v170
def k0_off11 (k0_t1 : Fin k0_t1_loop.trips) : Fin 3 → Nat :=
  let c0_76 : Index := 0#32
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  let v171 : BitVec 32 := v170
  let v172 : Index := Scalar.indexCast v171
  let c768 : Index := 768#32
  ![0, v172.toNat, 768]
def k0_mult13 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  v175
def k0_off12 (k0_t1 : Fin k0_t1_loop.trips) : Fin 3 → Nat :=
  let c0_78 : Index := 0#32
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  let v176 : BitVec 32 := v175
  let v177 : Index := Scalar.indexCast v176
  let c896 : Index := 896#32
  ![0, v177.toNat, 896]
def k0_mult14 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_89 : BitVec 32 := 64#32
  let v208 : BitVec 32 := Scalar.muli arg13 c64_i32_89
  v208
def k0_mult15 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_92 : BitVec 32 := 64#32
  let v215 : BitVec 32 := Scalar.muli arg13 c64_i32_92
  v215
def k0_mult16 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_95 : BitVec 32 := 64#32
  let v222 : BitVec 32 := Scalar.muli arg13 c64_i32_95
  v222
def k0_mult17 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_98 : BitVec 32 := 64#32
  let v229 : BitVec 32 := Scalar.muli arg13 c64_i32_98
  v229
def k0_off13 (i : grid0.Coords) (k0_t1 : Fin k0_t1_loop.trips) : Fin 3 → Nat :=
  let c0_103 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c128_i32_22 : BitVec 32 := 128#32
  let v51 : BitVec 32 := Scalar.subi v4 c128_i32_22
  let c0_i32_23 : BitVec 32 := 0#32
  let v52 : BitVec 32 := Scalar.maxsi v51 c0_i32_23
  let v53 : BitVec 32 := v52
  let v241 : Index := Scalar.indexCast v53
  let c256_104 : Index := 256#32
  ![0, v241.toNat, 256]
def k0_mult18 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  v244
def k0_off14 (k0_t1 : Fin k0_t1_loop.trips) : Fin 3 → Nat :=
  let c0_106 : Index := 0#32
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  let v245 : BitVec 32 := v244
  let v246 : Index := Scalar.indexCast v245
  let c1024 : Index := 1024#32
  ![0, v246.toNat, 1024]
def k0_mult19 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  v249
def k0_off15 (k0_t1 : Fin k0_t1_loop.trips) : Fin 3 → Nat :=
  let c0_108 : Index := 0#32
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  let v250 : BitVec 32 := v249
  let v251 : Index := Scalar.indexCast v250
  let c1152 : Index := 1152#32
  ![0, v251.toNat, 1152]
def k0_mult20 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  v254
def k0_off16 (k0_t1 : Fin k0_t1_loop.trips) : Fin 3 → Nat :=
  let c0_110 : Index := 0#32
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  let v255 : BitVec 32 := v254
  let v256 : Index := Scalar.indexCast v255
  let c1280 : Index := 1280#32
  ![0, v256.toNat, 1280]
def k0_mult21 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  v259
def k0_off17 (k0_t1 : Fin k0_t1_loop.trips) : Fin 3 → Nat :=
  let c0_112 : Index := 0#32
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  let v260 : BitVec 32 := v259
  let v261 : Index := Scalar.indexCast v260
  let c1408 : Index := 1408#32
  ![0, v261.toNat, 1408]
def k0_mult22 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_123 : BitVec 32 := 64#32
  let v292 : BitVec 32 := Scalar.muli arg13 c64_i32_123
  v292
def k0_mult23 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_126 : BitVec 32 := 64#32
  let v299 : BitVec 32 := Scalar.muli arg13 c64_i32_126
  v299
def k0_mult24 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_129 : BitVec 32 := 64#32
  let v306 : BitVec 32 := Scalar.muli arg13 c64_i32_129
  v306
def k0_mult25 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_132 : BitVec 32 := 64#32
  let v313 : BitVec 32 := Scalar.muli arg13 c64_i32_132
  v313
def k0_off18 (i : grid0.Coords) (k0_t1 : Fin k0_t1_loop.trips) : Fin 3 → Nat :=
  let c0_137 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c128_i32_22 : BitVec 32 := 128#32
  let v51 : BitVec 32 := Scalar.subi v4 c128_i32_22
  let c0_i32_23 : BitVec 32 := 0#32
  let v52 : BitVec 32 := Scalar.maxsi v51 c0_i32_23
  let v53 : BitVec 32 := v52
  let v325 : Index := Scalar.indexCast v53
  let c384_138 : Index := 384#32
  ![0, v325.toNat, 384]
def k0_mult26 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  v328
def k0_off19 (k0_t1 : Fin k0_t1_loop.trips) : Fin 3 → Nat :=
  let c0_140 : Index := 0#32
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  let v329 : BitVec 32 := v328
  let v330 : Index := Scalar.indexCast v329
  let c1536 : Index := 1536#32
  ![0, v330.toNat, 1536]
def k0_mult27 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  v333
def k0_off20 (k0_t1 : Fin k0_t1_loop.trips) : Fin 3 → Nat :=
  let c0_142 : Index := 0#32
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  let v334 : BitVec 32 := v333
  let v335 : Index := Scalar.indexCast v334
  let c1664 : Index := 1664#32
  ![0, v335.toNat, 1664]
def k0_mult28 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  v338
def k0_off21 (k0_t1 : Fin k0_t1_loop.trips) : Fin 3 → Nat :=
  let c0_144 : Index := 0#32
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  let v339 : BitVec 32 := v338
  let v340 : Index := Scalar.indexCast v339
  let c1792 : Index := 1792#32
  ![0, v340.toNat, 1792]
def k0_mult29 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  v343
def k0_off22 (k0_t1 : Fin k0_t1_loop.trips) : Fin 3 → Nat :=
  let c0_146 : Index := 0#32
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  let v344 : BitVec 32 := v343
  let v345 : Index := Scalar.indexCast v344
  let c1920 : Index := 1920#32
  ![0, v345.toNat, 1920]
def k0_mult30 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_157 : BitVec 32 := 64#32
  let v376 : BitVec 32 := Scalar.muli arg13 c64_i32_157
  v376
def k0_mult31 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_160 : BitVec 32 := 64#32
  let v383 : BitVec 32 := Scalar.muli arg13 c64_i32_160
  v383
def k0_mult32 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_163 : BitVec 32 := 64#32
  let v390 : BitVec 32 := Scalar.muli arg13 c64_i32_163
  v390
def k0_mult33 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_166 : BitVec 32 := 64#32
  let v397 : BitVec 32 := Scalar.muli arg13 c64_i32_166
  v397
def k0_off23 (i : grid0.Coords) (k0_t1 : Fin k0_t1_loop.trips) : Fin 3 → Nat :=
  let c0_171 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c128_i32_22 : BitVec 32 := 128#32
  let v51 : BitVec 32 := Scalar.subi v4 c128_i32_22
  let c0_i32_23 : BitVec 32 := 0#32
  let v52 : BitVec 32 := Scalar.maxsi v51 c0_i32_23
  let v53 : BitVec 32 := v52
  let v409 : Index := Scalar.indexCast v53
  let c512_172 : Index := 512#32
  ![0, v409.toNat, 512]
def k0_mult34 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  v412
def k0_off24 (k0_t1 : Fin k0_t1_loop.trips) : Fin 3 → Nat :=
  let c0_174 : Index := 0#32
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  let v413 : BitVec 32 := v412
  let v414 : Index := Scalar.indexCast v413
  let c2048 : Index := 2048#32
  ![0, v414.toNat, 2048]
def k0_mult35 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  v417
def k0_off25 (k0_t1 : Fin k0_t1_loop.trips) : Fin 3 → Nat :=
  let c0_176 : Index := 0#32
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  let v418 : BitVec 32 := v417
  let v419 : Index := Scalar.indexCast v418
  let c2176 : Index := 2176#32
  ![0, v419.toNat, 2176]
def k0_mult36 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  v422
def k0_off26 (k0_t1 : Fin k0_t1_loop.trips) : Fin 3 → Nat :=
  let c0_178 : Index := 0#32
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  let v423 : BitVec 32 := v422
  let v424 : Index := Scalar.indexCast v423
  let c2304 : Index := 2304#32
  ![0, v424.toNat, 2304]
def k0_mult37 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  v427
def k0_off27 (k0_t1 : Fin k0_t1_loop.trips) : Fin 3 → Nat :=
  let c0_180 : Index := 0#32
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  let v428 : BitVec 32 := v427
  let v429 : Index := Scalar.indexCast v428
  let c2432 : Index := 2432#32
  ![0, v429.toNat, 2432]
def k0_mult38 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_191 : BitVec 32 := 64#32
  let v460 : BitVec 32 := Scalar.muli arg13 c64_i32_191
  v460
def k0_mult39 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_194 : BitVec 32 := 64#32
  let v467 : BitVec 32 := Scalar.muli arg13 c64_i32_194
  v467
def k0_mult40 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_197 : BitVec 32 := 64#32
  let v474 : BitVec 32 := Scalar.muli arg13 c64_i32_197
  v474
def k0_mult41 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_200 : BitVec 32 := 64#32
  let v481 : BitVec 32 := Scalar.muli arg13 c64_i32_200
  v481
def k0_off28 (i : grid0.Coords) (k0_t1 : Fin k0_t1_loop.trips) : Fin 3 → Nat :=
  let c0_205 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c128_i32_22 : BitVec 32 := 128#32
  let v51 : BitVec 32 := Scalar.subi v4 c128_i32_22
  let c0_i32_23 : BitVec 32 := 0#32
  let v52 : BitVec 32 := Scalar.maxsi v51 c0_i32_23
  let v53 : BitVec 32 := v52
  let v493 : Index := Scalar.indexCast v53
  let c640_206 : Index := 640#32
  ![0, v493.toNat, 640]
def k0_mult42 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  v496
def k0_off29 (k0_t1 : Fin k0_t1_loop.trips) : Fin 3 → Nat :=
  let c0_208 : Index := 0#32
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  let v497 : BitVec 32 := v496
  let v498 : Index := Scalar.indexCast v497
  let c2560 : Index := 2560#32
  ![0, v498.toNat, 2560]
def k0_mult43 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  v501
def k0_off30 (k0_t1 : Fin k0_t1_loop.trips) : Fin 3 → Nat :=
  let c0_210 : Index := 0#32
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  let v502 : BitVec 32 := v501
  let v503 : Index := Scalar.indexCast v502
  let c2688 : Index := 2688#32
  ![0, v503.toNat, 2688]
def k0_mult44 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  v506
def k0_off31 (k0_t1 : Fin k0_t1_loop.trips) : Fin 3 → Nat :=
  let c0_212 : Index := 0#32
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  let v507 : BitVec 32 := v506
  let v508 : Index := Scalar.indexCast v507
  let c2816 : Index := 2816#32
  ![0, v508.toNat, 2816]
def k0_mult45 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  v511
def k0_off32 (k0_t1 : Fin k0_t1_loop.trips) : Fin 3 → Nat :=
  let c0_214 : Index := 0#32
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  let v512 : BitVec 32 := v511
  let v513 : Index := Scalar.indexCast v512
  let c2944 : Index := 2944#32
  ![0, v513.toNat, 2944]
def k0_mult46 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_225 : BitVec 32 := 64#32
  let v544 : BitVec 32 := Scalar.muli arg13 c64_i32_225
  v544
def k0_mult47 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_228 : BitVec 32 := 64#32
  let v551 : BitVec 32 := Scalar.muli arg13 c64_i32_228
  v551
def k0_mult48 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_231 : BitVec 32 := 64#32
  let v558 : BitVec 32 := Scalar.muli arg13 c64_i32_231
  v558
def k0_mult49 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_234 : BitVec 32 := 64#32
  let v565 : BitVec 32 := Scalar.muli arg13 c64_i32_234
  v565
def k0_off33 (i : grid0.Coords) (k0_t1 : Fin k0_t1_loop.trips) : Fin 3 → Nat :=
  let c0_239 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c128_i32_22 : BitVec 32 := 128#32
  let v51 : BitVec 32 := Scalar.subi v4 c128_i32_22
  let c0_i32_23 : BitVec 32 := 0#32
  let v52 : BitVec 32 := Scalar.maxsi v51 c0_i32_23
  let v53 : BitVec 32 := v52
  let v577 : Index := Scalar.indexCast v53
  let c768_240 : Index := 768#32
  ![0, v577.toNat, 768]
def k0_mult50 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  v580
def k0_off34 (k0_t1 : Fin k0_t1_loop.trips) : Fin 3 → Nat :=
  let c0_242 : Index := 0#32
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  let v581 : BitVec 32 := v580
  let v582 : Index := Scalar.indexCast v581
  let c3072 : Index := 3072#32
  ![0, v582.toNat, 3072]
def k0_mult51 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  v585
def k0_off35 (k0_t1 : Fin k0_t1_loop.trips) : Fin 3 → Nat :=
  let c0_244 : Index := 0#32
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  let v586 : BitVec 32 := v585
  let v587 : Index := Scalar.indexCast v586
  let c3200 : Index := 3200#32
  ![0, v587.toNat, 3200]
def k0_mult52 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  v590
def k0_off36 (k0_t1 : Fin k0_t1_loop.trips) : Fin 3 → Nat :=
  let c0_246 : Index := 0#32
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  let v591 : BitVec 32 := v590
  let v592 : Index := Scalar.indexCast v591
  let c3328 : Index := 3328#32
  ![0, v592.toNat, 3328]
def k0_mult53 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  v595
def k0_off37 (k0_t1 : Fin k0_t1_loop.trips) : Fin 3 → Nat :=
  let c0_248 : Index := 0#32
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  let v596 : BitVec 32 := v595
  let v597 : Index := Scalar.indexCast v596
  let c3456 : Index := 3456#32
  ![0, v597.toNat, 3456]
def k0_mult54 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_259 : BitVec 32 := 64#32
  let v628 : BitVec 32 := Scalar.muli arg13 c64_i32_259
  v628
def k0_mult55 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_262 : BitVec 32 := 64#32
  let v635 : BitVec 32 := Scalar.muli arg13 c64_i32_262
  v635
def k0_mult56 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_265 : BitVec 32 := 64#32
  let v642 : BitVec 32 := Scalar.muli arg13 c64_i32_265
  v642
def k0_mult57 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_268 : BitVec 32 := 64#32
  let v649 : BitVec 32 := Scalar.muli arg13 c64_i32_268
  v649
def k0_off38 (i : grid0.Coords) (k0_t1 : Fin k0_t1_loop.trips) : Fin 3 → Nat :=
  let c0_273 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c128_i32_22 : BitVec 32 := 128#32
  let v51 : BitVec 32 := Scalar.subi v4 c128_i32_22
  let c0_i32_23 : BitVec 32 := 0#32
  let v52 : BitVec 32 := Scalar.maxsi v51 c0_i32_23
  let v53 : BitVec 32 := v52
  let v661 : Index := Scalar.indexCast v53
  let c896_274 : Index := 896#32
  ![0, v661.toNat, 896]
def k0_mult58 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  v664
def k0_off39 (k0_t1 : Fin k0_t1_loop.trips) : Fin 3 → Nat :=
  let c0_276 : Index := 0#32
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  let v665 : BitVec 32 := v664
  let v666 : Index := Scalar.indexCast v665
  let c3584 : Index := 3584#32
  ![0, v666.toNat, 3584]
def k0_mult59 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  v669
def k0_off40 (k0_t1 : Fin k0_t1_loop.trips) : Fin 3 → Nat :=
  let c0_278 : Index := 0#32
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  let v670 : BitVec 32 := v669
  let v671 : Index := Scalar.indexCast v670
  let c3712 : Index := 3712#32
  ![0, v671.toNat, 3712]
def k0_mult60 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  v674
def k0_off41 (k0_t1 : Fin k0_t1_loop.trips) : Fin 3 → Nat :=
  let c0_280 : Index := 0#32
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  let v675 : BitVec 32 := v674
  let v676 : Index := Scalar.indexCast v675
  let c3840 : Index := 3840#32
  ![0, v676.toNat, 3840]
def k0_mult61 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  v679
def k0_off42 (k0_t1 : Fin k0_t1_loop.trips) : Fin 3 → Nat :=
  let c0_282 : Index := 0#32
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  let v680 : BitVec 32 := v679
  let v681 : Index := Scalar.indexCast v680
  let c3968 : Index := 3968#32
  ![0, v681.toNat, 3968]
def k0_mult62 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_293 : BitVec 32 := 64#32
  let v712 : BitVec 32 := Scalar.muli arg13 c64_i32_293
  v712
def k0_mult63 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_296 : BitVec 32 := 64#32
  let v719 : BitVec 32 := Scalar.muli arg13 c64_i32_296
  v719
def k0_mult64 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_299 : BitVec 32 := 64#32
  let v726 : BitVec 32 := Scalar.muli arg13 c64_i32_299
  v726
def k0_mult65 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_302 : BitVec 32 := 64#32
  let v733 : BitVec 32 := Scalar.muli arg13 c64_i32_302
  v733
def k0_mult66 (i : grid0.Coords) (k0_t1 : Fin k0_t1_loop.trips) : BitVec 32 :=
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_22 : BitVec 32 := 256#32
  let v51 : BitVec 32 := Scalar.subi v4 c256_i32_22
  let c0_i32_23 : BitVec 32 := 0#32
  let v52 : BitVec 32 := Scalar.maxsi v51 c0_i32_23
  v52
def k0_off43 (k0_t1 : Fin k0_t1_loop.trips) : Fin 4 → Nat :=
  let c0_24 : Index := 0#32
  let c0_25 : Index := 0#32
  let c0_i32 : BitVec 32 := 0#32
  let c1_i32 : BitVec 32 := 1#32
  let arg13 : BitVec 32 := Scf.iv c0_i32 c1_i32 k0_t1
  let v57 : Index := Scalar.indexCast arg13
  let c0_26 : Index := 0#32
  ![0, 0, v57.toNat, 0]
def k0_off44 (i : grid0.Coords) (k0_t1 : Fin k0_t1_loop.trips) : Fin 3 → Nat :=
  let c0_33 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_22 : BitVec 32 := 256#32
  let v51 : BitVec 32 := Scalar.subi v4 c256_i32_22
  let c0_i32_23 : BitVec 32 := 0#32
  let v52 : BitVec 32 := Scalar.maxsi v51 c0_i32_23
  let v53 : BitVec 32 := v52
  let v74 : Index := Scalar.indexCast v53
  let c0_34 : Index := 0#32
  ![0, v74.toNat, 0]
def k0_mult67 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  v77
def k0_off45 (k0_t1 : Fin k0_t1_loop.trips) : Fin 3 → Nat :=
  let c0_36 : Index := 0#32
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  let v78 : BitVec 32 := v77
  let v79 : Index := Scalar.indexCast v78
  let c0_37 : Index := 0#32
  ![0, v79.toNat, 0]
def k0_mult68 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  v82
def k0_off46 (k0_t1 : Fin k0_t1_loop.trips) : Fin 3 → Nat :=
  let c0_39 : Index := 0#32
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  let v83 : BitVec 32 := v82
  let v84 : Index := Scalar.indexCast v83
  let c128 : Index := 128#32
  ![0, v84.toNat, 128]
def k0_mult69 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  v87
def k0_off47 (k0_t1 : Fin k0_t1_loop.trips) : Fin 3 → Nat :=
  let c0_41 : Index := 0#32
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  let v88 : BitVec 32 := v87
  let v89 : Index := Scalar.indexCast v88
  let c256 : Index := 256#32
  ![0, v89.toNat, 256]
def k0_mult70 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  v92
def k0_off48 (k0_t1 : Fin k0_t1_loop.trips) : Fin 3 → Nat :=
  let c0_43 : Index := 0#32
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  let v93 : BitVec 32 := v92
  let v94 : Index := Scalar.indexCast v93
  let c384 : Index := 384#32
  ![0, v94.toNat, 384]
def k0_mult71 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_55 : BitVec 32 := 64#32
  let v125 : BitVec 32 := Scalar.muli arg13 c64_i32_55
  v125
def k0_mult72 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_58 : BitVec 32 := 64#32
  let v132 : BitVec 32 := Scalar.muli arg13 c64_i32_58
  v132
def k0_mult73 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_61 : BitVec 32 := 64#32
  let v139 : BitVec 32 := Scalar.muli arg13 c64_i32_61
  v139
def k0_mult74 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_64 : BitVec 32 := 64#32
  let v146 : BitVec 32 := Scalar.muli arg13 c64_i32_64
  v146
def k0_off49 (i : grid0.Coords) (k0_t1 : Fin k0_t1_loop.trips) : Fin 3 → Nat :=
  let c0_69 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_22 : BitVec 32 := 256#32
  let v51 : BitVec 32 := Scalar.subi v4 c256_i32_22
  let c0_i32_23 : BitVec 32 := 0#32
  let v52 : BitVec 32 := Scalar.maxsi v51 c0_i32_23
  let v53 : BitVec 32 := v52
  let v157 : Index := Scalar.indexCast v53
  let c128_70 : Index := 128#32
  ![0, v157.toNat, 128]
def k0_mult75 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  v160
def k0_off50 (k0_t1 : Fin k0_t1_loop.trips) : Fin 3 → Nat :=
  let c0_72 : Index := 0#32
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  let v161 : BitVec 32 := v160
  let v162 : Index := Scalar.indexCast v161
  let c512 : Index := 512#32
  ![0, v162.toNat, 512]
def k0_mult76 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  v165
def k0_off51 (k0_t1 : Fin k0_t1_loop.trips) : Fin 3 → Nat :=
  let c0_74 : Index := 0#32
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  let v166 : BitVec 32 := v165
  let v167 : Index := Scalar.indexCast v166
  let c640 : Index := 640#32
  ![0, v167.toNat, 640]
def k0_mult77 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  v170
def k0_off52 (k0_t1 : Fin k0_t1_loop.trips) : Fin 3 → Nat :=
  let c0_76 : Index := 0#32
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  let v171 : BitVec 32 := v170
  let v172 : Index := Scalar.indexCast v171
  let c768 : Index := 768#32
  ![0, v172.toNat, 768]
def k0_mult78 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  v175
def k0_off53 (k0_t1 : Fin k0_t1_loop.trips) : Fin 3 → Nat :=
  let c0_78 : Index := 0#32
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  let v176 : BitVec 32 := v175
  let v177 : Index := Scalar.indexCast v176
  let c896 : Index := 896#32
  ![0, v177.toNat, 896]
def k0_mult79 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_89 : BitVec 32 := 64#32
  let v208 : BitVec 32 := Scalar.muli arg13 c64_i32_89
  v208
def k0_mult80 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_92 : BitVec 32 := 64#32
  let v215 : BitVec 32 := Scalar.muli arg13 c64_i32_92
  v215
def k0_mult81 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_95 : BitVec 32 := 64#32
  let v222 : BitVec 32 := Scalar.muli arg13 c64_i32_95
  v222
def k0_mult82 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_98 : BitVec 32 := 64#32
  let v229 : BitVec 32 := Scalar.muli arg13 c64_i32_98
  v229
def k0_off54 (i : grid0.Coords) (k0_t1 : Fin k0_t1_loop.trips) : Fin 3 → Nat :=
  let c0_103 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_22 : BitVec 32 := 256#32
  let v51 : BitVec 32 := Scalar.subi v4 c256_i32_22
  let c0_i32_23 : BitVec 32 := 0#32
  let v52 : BitVec 32 := Scalar.maxsi v51 c0_i32_23
  let v53 : BitVec 32 := v52
  let v241 : Index := Scalar.indexCast v53
  let c256_104 : Index := 256#32
  ![0, v241.toNat, 256]
def k0_mult83 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  v244
def k0_off55 (k0_t1 : Fin k0_t1_loop.trips) : Fin 3 → Nat :=
  let c0_106 : Index := 0#32
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  let v245 : BitVec 32 := v244
  let v246 : Index := Scalar.indexCast v245
  let c1024 : Index := 1024#32
  ![0, v246.toNat, 1024]
def k0_mult84 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  v249
def k0_off56 (k0_t1 : Fin k0_t1_loop.trips) : Fin 3 → Nat :=
  let c0_108 : Index := 0#32
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  let v250 : BitVec 32 := v249
  let v251 : Index := Scalar.indexCast v250
  let c1152 : Index := 1152#32
  ![0, v251.toNat, 1152]
def k0_mult85 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  v254
def k0_off57 (k0_t1 : Fin k0_t1_loop.trips) : Fin 3 → Nat :=
  let c0_110 : Index := 0#32
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  let v255 : BitVec 32 := v254
  let v256 : Index := Scalar.indexCast v255
  let c1280 : Index := 1280#32
  ![0, v256.toNat, 1280]
def k0_mult86 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  v259
def k0_off58 (k0_t1 : Fin k0_t1_loop.trips) : Fin 3 → Nat :=
  let c0_112 : Index := 0#32
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  let v260 : BitVec 32 := v259
  let v261 : Index := Scalar.indexCast v260
  let c1408 : Index := 1408#32
  ![0, v261.toNat, 1408]
def k0_mult87 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_123 : BitVec 32 := 64#32
  let v292 : BitVec 32 := Scalar.muli arg13 c64_i32_123
  v292
def k0_mult88 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_126 : BitVec 32 := 64#32
  let v299 : BitVec 32 := Scalar.muli arg13 c64_i32_126
  v299
def k0_mult89 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_129 : BitVec 32 := 64#32
  let v306 : BitVec 32 := Scalar.muli arg13 c64_i32_129
  v306
def k0_mult90 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_132 : BitVec 32 := 64#32
  let v313 : BitVec 32 := Scalar.muli arg13 c64_i32_132
  v313
def k0_off59 (i : grid0.Coords) (k0_t1 : Fin k0_t1_loop.trips) : Fin 3 → Nat :=
  let c0_137 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_22 : BitVec 32 := 256#32
  let v51 : BitVec 32 := Scalar.subi v4 c256_i32_22
  let c0_i32_23 : BitVec 32 := 0#32
  let v52 : BitVec 32 := Scalar.maxsi v51 c0_i32_23
  let v53 : BitVec 32 := v52
  let v325 : Index := Scalar.indexCast v53
  let c384_138 : Index := 384#32
  ![0, v325.toNat, 384]
def k0_mult91 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  v328
def k0_off60 (k0_t1 : Fin k0_t1_loop.trips) : Fin 3 → Nat :=
  let c0_140 : Index := 0#32
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  let v329 : BitVec 32 := v328
  let v330 : Index := Scalar.indexCast v329
  let c1536 : Index := 1536#32
  ![0, v330.toNat, 1536]
def k0_mult92 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  v333
def k0_off61 (k0_t1 : Fin k0_t1_loop.trips) : Fin 3 → Nat :=
  let c0_142 : Index := 0#32
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  let v334 : BitVec 32 := v333
  let v335 : Index := Scalar.indexCast v334
  let c1664 : Index := 1664#32
  ![0, v335.toNat, 1664]
def k0_mult93 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  v338
def k0_off62 (k0_t1 : Fin k0_t1_loop.trips) : Fin 3 → Nat :=
  let c0_144 : Index := 0#32
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  let v339 : BitVec 32 := v338
  let v340 : Index := Scalar.indexCast v339
  let c1792 : Index := 1792#32
  ![0, v340.toNat, 1792]
def k0_mult94 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  v343
def k0_off63 (k0_t1 : Fin k0_t1_loop.trips) : Fin 3 → Nat :=
  let c0_146 : Index := 0#32
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  let v344 : BitVec 32 := v343
  let v345 : Index := Scalar.indexCast v344
  let c1920 : Index := 1920#32
  ![0, v345.toNat, 1920]
def k0_mult95 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_157 : BitVec 32 := 64#32
  let v376 : BitVec 32 := Scalar.muli arg13 c64_i32_157
  v376
def k0_mult96 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_160 : BitVec 32 := 64#32
  let v383 : BitVec 32 := Scalar.muli arg13 c64_i32_160
  v383
def k0_mult97 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_163 : BitVec 32 := 64#32
  let v390 : BitVec 32 := Scalar.muli arg13 c64_i32_163
  v390
def k0_mult98 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_166 : BitVec 32 := 64#32
  let v397 : BitVec 32 := Scalar.muli arg13 c64_i32_166
  v397
def k0_off64 (i : grid0.Coords) (k0_t1 : Fin k0_t1_loop.trips) : Fin 3 → Nat :=
  let c0_171 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_22 : BitVec 32 := 256#32
  let v51 : BitVec 32 := Scalar.subi v4 c256_i32_22
  let c0_i32_23 : BitVec 32 := 0#32
  let v52 : BitVec 32 := Scalar.maxsi v51 c0_i32_23
  let v53 : BitVec 32 := v52
  let v409 : Index := Scalar.indexCast v53
  let c512_172 : Index := 512#32
  ![0, v409.toNat, 512]
def k0_mult99 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  v412
def k0_off65 (k0_t1 : Fin k0_t1_loop.trips) : Fin 3 → Nat :=
  let c0_174 : Index := 0#32
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  let v413 : BitVec 32 := v412
  let v414 : Index := Scalar.indexCast v413
  let c2048 : Index := 2048#32
  ![0, v414.toNat, 2048]
def k0_mult100 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  v417
def k0_off66 (k0_t1 : Fin k0_t1_loop.trips) : Fin 3 → Nat :=
  let c0_176 : Index := 0#32
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  let v418 : BitVec 32 := v417
  let v419 : Index := Scalar.indexCast v418
  let c2176 : Index := 2176#32
  ![0, v419.toNat, 2176]
def k0_mult101 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  v422
def k0_off67 (k0_t1 : Fin k0_t1_loop.trips) : Fin 3 → Nat :=
  let c0_178 : Index := 0#32
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  let v423 : BitVec 32 := v422
  let v424 : Index := Scalar.indexCast v423
  let c2304 : Index := 2304#32
  ![0, v424.toNat, 2304]
def k0_mult102 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  v427
def k0_off68 (k0_t1 : Fin k0_t1_loop.trips) : Fin 3 → Nat :=
  let c0_180 : Index := 0#32
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  let v428 : BitVec 32 := v427
  let v429 : Index := Scalar.indexCast v428
  let c2432 : Index := 2432#32
  ![0, v429.toNat, 2432]
def k0_mult103 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_191 : BitVec 32 := 64#32
  let v460 : BitVec 32 := Scalar.muli arg13 c64_i32_191
  v460
def k0_mult104 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_194 : BitVec 32 := 64#32
  let v467 : BitVec 32 := Scalar.muli arg13 c64_i32_194
  v467
def k0_mult105 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_197 : BitVec 32 := 64#32
  let v474 : BitVec 32 := Scalar.muli arg13 c64_i32_197
  v474
def k0_mult106 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_200 : BitVec 32 := 64#32
  let v481 : BitVec 32 := Scalar.muli arg13 c64_i32_200
  v481
def k0_off69 (i : grid0.Coords) (k0_t1 : Fin k0_t1_loop.trips) : Fin 3 → Nat :=
  let c0_205 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_22 : BitVec 32 := 256#32
  let v51 : BitVec 32 := Scalar.subi v4 c256_i32_22
  let c0_i32_23 : BitVec 32 := 0#32
  let v52 : BitVec 32 := Scalar.maxsi v51 c0_i32_23
  let v53 : BitVec 32 := v52
  let v493 : Index := Scalar.indexCast v53
  let c640_206 : Index := 640#32
  ![0, v493.toNat, 640]
def k0_mult107 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  v496
def k0_off70 (k0_t1 : Fin k0_t1_loop.trips) : Fin 3 → Nat :=
  let c0_208 : Index := 0#32
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  let v497 : BitVec 32 := v496
  let v498 : Index := Scalar.indexCast v497
  let c2560 : Index := 2560#32
  ![0, v498.toNat, 2560]
def k0_mult108 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  v501
def k0_off71 (k0_t1 : Fin k0_t1_loop.trips) : Fin 3 → Nat :=
  let c0_210 : Index := 0#32
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  let v502 : BitVec 32 := v501
  let v503 : Index := Scalar.indexCast v502
  let c2688 : Index := 2688#32
  ![0, v503.toNat, 2688]
def k0_mult109 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  v506
def k0_off72 (k0_t1 : Fin k0_t1_loop.trips) : Fin 3 → Nat :=
  let c0_212 : Index := 0#32
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  let v507 : BitVec 32 := v506
  let v508 : Index := Scalar.indexCast v507
  let c2816 : Index := 2816#32
  ![0, v508.toNat, 2816]
def k0_mult110 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  v511
def k0_off73 (k0_t1 : Fin k0_t1_loop.trips) : Fin 3 → Nat :=
  let c0_214 : Index := 0#32
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  let v512 : BitVec 32 := v511
  let v513 : Index := Scalar.indexCast v512
  let c2944 : Index := 2944#32
  ![0, v513.toNat, 2944]
def k0_mult111 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_225 : BitVec 32 := 64#32
  let v544 : BitVec 32 := Scalar.muli arg13 c64_i32_225
  v544
def k0_mult112 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_228 : BitVec 32 := 64#32
  let v551 : BitVec 32 := Scalar.muli arg13 c64_i32_228
  v551
def k0_mult113 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_231 : BitVec 32 := 64#32
  let v558 : BitVec 32 := Scalar.muli arg13 c64_i32_231
  v558
def k0_mult114 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_234 : BitVec 32 := 64#32
  let v565 : BitVec 32 := Scalar.muli arg13 c64_i32_234
  v565
def k0_off74 (i : grid0.Coords) (k0_t1 : Fin k0_t1_loop.trips) : Fin 3 → Nat :=
  let c0_239 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_22 : BitVec 32 := 256#32
  let v51 : BitVec 32 := Scalar.subi v4 c256_i32_22
  let c0_i32_23 : BitVec 32 := 0#32
  let v52 : BitVec 32 := Scalar.maxsi v51 c0_i32_23
  let v53 : BitVec 32 := v52
  let v577 : Index := Scalar.indexCast v53
  let c768_240 : Index := 768#32
  ![0, v577.toNat, 768]
def k0_mult115 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  v580
def k0_off75 (k0_t1 : Fin k0_t1_loop.trips) : Fin 3 → Nat :=
  let c0_242 : Index := 0#32
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  let v581 : BitVec 32 := v580
  let v582 : Index := Scalar.indexCast v581
  let c3072 : Index := 3072#32
  ![0, v582.toNat, 3072]
def k0_mult116 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  v585
def k0_off76 (k0_t1 : Fin k0_t1_loop.trips) : Fin 3 → Nat :=
  let c0_244 : Index := 0#32
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  let v586 : BitVec 32 := v585
  let v587 : Index := Scalar.indexCast v586
  let c3200 : Index := 3200#32
  ![0, v587.toNat, 3200]
def k0_mult117 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  v590
def k0_off77 (k0_t1 : Fin k0_t1_loop.trips) : Fin 3 → Nat :=
  let c0_246 : Index := 0#32
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  let v591 : BitVec 32 := v590
  let v592 : Index := Scalar.indexCast v591
  let c3328 : Index := 3328#32
  ![0, v592.toNat, 3328]
def k0_mult118 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  v595
def k0_off78 (k0_t1 : Fin k0_t1_loop.trips) : Fin 3 → Nat :=
  let c0_248 : Index := 0#32
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  let v596 : BitVec 32 := v595
  let v597 : Index := Scalar.indexCast v596
  let c3456 : Index := 3456#32
  ![0, v597.toNat, 3456]
def k0_mult119 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_259 : BitVec 32 := 64#32
  let v628 : BitVec 32 := Scalar.muli arg13 c64_i32_259
  v628
def k0_mult120 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_262 : BitVec 32 := 64#32
  let v635 : BitVec 32 := Scalar.muli arg13 c64_i32_262
  v635
def k0_mult121 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_265 : BitVec 32 := 64#32
  let v642 : BitVec 32 := Scalar.muli arg13 c64_i32_265
  v642
def k0_mult122 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_268 : BitVec 32 := 64#32
  let v649 : BitVec 32 := Scalar.muli arg13 c64_i32_268
  v649
def k0_off79 (i : grid0.Coords) (k0_t1 : Fin k0_t1_loop.trips) : Fin 3 → Nat :=
  let c0_273 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_22 : BitVec 32 := 256#32
  let v51 : BitVec 32 := Scalar.subi v4 c256_i32_22
  let c0_i32_23 : BitVec 32 := 0#32
  let v52 : BitVec 32 := Scalar.maxsi v51 c0_i32_23
  let v53 : BitVec 32 := v52
  let v661 : Index := Scalar.indexCast v53
  let c896_274 : Index := 896#32
  ![0, v661.toNat, 896]
def k0_mult123 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  v664
def k0_off80 (k0_t1 : Fin k0_t1_loop.trips) : Fin 3 → Nat :=
  let c0_276 : Index := 0#32
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  let v665 : BitVec 32 := v664
  let v666 : Index := Scalar.indexCast v665
  let c3584 : Index := 3584#32
  ![0, v666.toNat, 3584]
def k0_mult124 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  v669
def k0_off81 (k0_t1 : Fin k0_t1_loop.trips) : Fin 3 → Nat :=
  let c0_278 : Index := 0#32
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  let v670 : BitVec 32 := v669
  let v671 : Index := Scalar.indexCast v670
  let c3712 : Index := 3712#32
  ![0, v671.toNat, 3712]
def k0_mult125 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  v674
def k0_off82 (k0_t1 : Fin k0_t1_loop.trips) : Fin 3 → Nat :=
  let c0_280 : Index := 0#32
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  let v675 : BitVec 32 := v674
  let v676 : Index := Scalar.indexCast v675
  let c3840 : Index := 3840#32
  ![0, v676.toNat, 3840]
def k0_mult126 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  v679
def k0_off83 (k0_t1 : Fin k0_t1_loop.trips) : Fin 3 → Nat :=
  let c0_282 : Index := 0#32
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  let v680 : BitVec 32 := v679
  let v681 : Index := Scalar.indexCast v680
  let c3968 : Index := 3968#32
  ![0, v681.toNat, 3968]
def k0_mult127 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_293 : BitVec 32 := 64#32
  let v712 : BitVec 32 := Scalar.muli arg13 c64_i32_293
  v712
def k0_mult128 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_296 : BitVec 32 := 64#32
  let v719 : BitVec 32 := Scalar.muli arg13 c64_i32_296
  v719
def k0_mult129 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_299 : BitVec 32 := 64#32
  let v726 : BitVec 32 := Scalar.muli arg13 c64_i32_299
  v726
def k0_mult130 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_302 : BitVec 32 := 64#32
  let v733 : BitVec 32 := Scalar.muli arg13 c64_i32_302
  v733
def k0_mult131 (i : grid0.Coords) (k0_t1 : Fin k0_t1_loop.trips) : BitVec 32 :=
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c384_i32_22 : BitVec 32 := 384#32
  let v51 : BitVec 32 := Scalar.subi v4 c384_i32_22
  let c0_i32_23 : BitVec 32 := 0#32
  let v52 : BitVec 32 := Scalar.maxsi v51 c0_i32_23
  v52
def k0_off84 (k0_t1 : Fin k0_t1_loop.trips) : Fin 4 → Nat :=
  let c0_24 : Index := 0#32
  let c0_25 : Index := 0#32
  let c0_i32 : BitVec 32 := 0#32
  let c1_i32 : BitVec 32 := 1#32
  let arg13 : BitVec 32 := Scf.iv c0_i32 c1_i32 k0_t1
  let v57 : Index := Scalar.indexCast arg13
  let c0_26 : Index := 0#32
  ![0, 0, v57.toNat, 0]
def k0_off85 (i : grid0.Coords) (k0_t1 : Fin k0_t1_loop.trips) : Fin 3 → Nat :=
  let c0_33 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c384_i32_22 : BitVec 32 := 384#32
  let v51 : BitVec 32 := Scalar.subi v4 c384_i32_22
  let c0_i32_23 : BitVec 32 := 0#32
  let v52 : BitVec 32 := Scalar.maxsi v51 c0_i32_23
  let v53 : BitVec 32 := v52
  let v74 : Index := Scalar.indexCast v53
  let c0_34 : Index := 0#32
  ![0, v74.toNat, 0]
def k0_mult132 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  v77
def k0_off86 (k0_t1 : Fin k0_t1_loop.trips) : Fin 3 → Nat :=
  let c0_36 : Index := 0#32
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  let v78 : BitVec 32 := v77
  let v79 : Index := Scalar.indexCast v78
  let c0_37 : Index := 0#32
  ![0, v79.toNat, 0]
def k0_mult133 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  v82
def k0_off87 (k0_t1 : Fin k0_t1_loop.trips) : Fin 3 → Nat :=
  let c0_39 : Index := 0#32
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  let v83 : BitVec 32 := v82
  let v84 : Index := Scalar.indexCast v83
  let c128 : Index := 128#32
  ![0, v84.toNat, 128]
def k0_mult134 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  v87
def k0_off88 (k0_t1 : Fin k0_t1_loop.trips) : Fin 3 → Nat :=
  let c0_41 : Index := 0#32
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  let v88 : BitVec 32 := v87
  let v89 : Index := Scalar.indexCast v88
  let c256 : Index := 256#32
  ![0, v89.toNat, 256]
def k0_mult135 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  v92
def k0_off89 (k0_t1 : Fin k0_t1_loop.trips) : Fin 3 → Nat :=
  let c0_43 : Index := 0#32
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  let v93 : BitVec 32 := v92
  let v94 : Index := Scalar.indexCast v93
  let c384 : Index := 384#32
  ![0, v94.toNat, 384]
def k0_mult136 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_55 : BitVec 32 := 64#32
  let v125 : BitVec 32 := Scalar.muli arg13 c64_i32_55
  v125
def k0_mult137 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_58 : BitVec 32 := 64#32
  let v132 : BitVec 32 := Scalar.muli arg13 c64_i32_58
  v132
def k0_mult138 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_61 : BitVec 32 := 64#32
  let v139 : BitVec 32 := Scalar.muli arg13 c64_i32_61
  v139
def k0_mult139 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_64 : BitVec 32 := 64#32
  let v146 : BitVec 32 := Scalar.muli arg13 c64_i32_64
  v146
def k0_off90 (i : grid0.Coords) (k0_t1 : Fin k0_t1_loop.trips) : Fin 3 → Nat :=
  let c0_69 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c384_i32_22 : BitVec 32 := 384#32
  let v51 : BitVec 32 := Scalar.subi v4 c384_i32_22
  let c0_i32_23 : BitVec 32 := 0#32
  let v52 : BitVec 32 := Scalar.maxsi v51 c0_i32_23
  let v53 : BitVec 32 := v52
  let v157 : Index := Scalar.indexCast v53
  let c128_70 : Index := 128#32
  ![0, v157.toNat, 128]
def k0_mult140 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  v160
def k0_off91 (k0_t1 : Fin k0_t1_loop.trips) : Fin 3 → Nat :=
  let c0_72 : Index := 0#32
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  let v161 : BitVec 32 := v160
  let v162 : Index := Scalar.indexCast v161
  let c512 : Index := 512#32
  ![0, v162.toNat, 512]
def k0_mult141 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  v165
def k0_off92 (k0_t1 : Fin k0_t1_loop.trips) : Fin 3 → Nat :=
  let c0_74 : Index := 0#32
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  let v166 : BitVec 32 := v165
  let v167 : Index := Scalar.indexCast v166
  let c640 : Index := 640#32
  ![0, v167.toNat, 640]
def k0_mult142 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  v170
def k0_off93 (k0_t1 : Fin k0_t1_loop.trips) : Fin 3 → Nat :=
  let c0_76 : Index := 0#32
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  let v171 : BitVec 32 := v170
  let v172 : Index := Scalar.indexCast v171
  let c768 : Index := 768#32
  ![0, v172.toNat, 768]
def k0_mult143 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  v175
def k0_off94 (k0_t1 : Fin k0_t1_loop.trips) : Fin 3 → Nat :=
  let c0_78 : Index := 0#32
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  let v176 : BitVec 32 := v175
  let v177 : Index := Scalar.indexCast v176
  let c896 : Index := 896#32
  ![0, v177.toNat, 896]
def k0_mult144 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_89 : BitVec 32 := 64#32
  let v208 : BitVec 32 := Scalar.muli arg13 c64_i32_89
  v208
def k0_mult145 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_92 : BitVec 32 := 64#32
  let v215 : BitVec 32 := Scalar.muli arg13 c64_i32_92
  v215
def k0_mult146 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_95 : BitVec 32 := 64#32
  let v222 : BitVec 32 := Scalar.muli arg13 c64_i32_95
  v222
def k0_mult147 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_98 : BitVec 32 := 64#32
  let v229 : BitVec 32 := Scalar.muli arg13 c64_i32_98
  v229
def k0_off95 (i : grid0.Coords) (k0_t1 : Fin k0_t1_loop.trips) : Fin 3 → Nat :=
  let c0_103 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c384_i32_22 : BitVec 32 := 384#32
  let v51 : BitVec 32 := Scalar.subi v4 c384_i32_22
  let c0_i32_23 : BitVec 32 := 0#32
  let v52 : BitVec 32 := Scalar.maxsi v51 c0_i32_23
  let v53 : BitVec 32 := v52
  let v241 : Index := Scalar.indexCast v53
  let c256_104 : Index := 256#32
  ![0, v241.toNat, 256]
def k0_mult148 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  v244
def k0_off96 (k0_t1 : Fin k0_t1_loop.trips) : Fin 3 → Nat :=
  let c0_106 : Index := 0#32
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  let v245 : BitVec 32 := v244
  let v246 : Index := Scalar.indexCast v245
  let c1024 : Index := 1024#32
  ![0, v246.toNat, 1024]
def k0_mult149 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  v249
def k0_off97 (k0_t1 : Fin k0_t1_loop.trips) : Fin 3 → Nat :=
  let c0_108 : Index := 0#32
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  let v250 : BitVec 32 := v249
  let v251 : Index := Scalar.indexCast v250
  let c1152 : Index := 1152#32
  ![0, v251.toNat, 1152]
def k0_mult150 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  v254
def k0_off98 (k0_t1 : Fin k0_t1_loop.trips) : Fin 3 → Nat :=
  let c0_110 : Index := 0#32
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  let v255 : BitVec 32 := v254
  let v256 : Index := Scalar.indexCast v255
  let c1280 : Index := 1280#32
  ![0, v256.toNat, 1280]
def k0_mult151 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  v259
def k0_off99 (k0_t1 : Fin k0_t1_loop.trips) : Fin 3 → Nat :=
  let c0_112 : Index := 0#32
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  let v260 : BitVec 32 := v259
  let v261 : Index := Scalar.indexCast v260
  let c1408 : Index := 1408#32
  ![0, v261.toNat, 1408]
def k0_mult152 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_123 : BitVec 32 := 64#32
  let v292 : BitVec 32 := Scalar.muli arg13 c64_i32_123
  v292
def k0_mult153 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_126 : BitVec 32 := 64#32
  let v299 : BitVec 32 := Scalar.muli arg13 c64_i32_126
  v299
def k0_mult154 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_129 : BitVec 32 := 64#32
  let v306 : BitVec 32 := Scalar.muli arg13 c64_i32_129
  v306
def k0_mult155 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_132 : BitVec 32 := 64#32
  let v313 : BitVec 32 := Scalar.muli arg13 c64_i32_132
  v313
def k0_off100 (i : grid0.Coords) (k0_t1 : Fin k0_t1_loop.trips) : Fin 3 → Nat :=
  let c0_137 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c384_i32_22 : BitVec 32 := 384#32
  let v51 : BitVec 32 := Scalar.subi v4 c384_i32_22
  let c0_i32_23 : BitVec 32 := 0#32
  let v52 : BitVec 32 := Scalar.maxsi v51 c0_i32_23
  let v53 : BitVec 32 := v52
  let v325 : Index := Scalar.indexCast v53
  let c384_138 : Index := 384#32
  ![0, v325.toNat, 384]
def k0_mult156 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  v328
def k0_off101 (k0_t1 : Fin k0_t1_loop.trips) : Fin 3 → Nat :=
  let c0_140 : Index := 0#32
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  let v329 : BitVec 32 := v328
  let v330 : Index := Scalar.indexCast v329
  let c1536 : Index := 1536#32
  ![0, v330.toNat, 1536]
def k0_mult157 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  v333
def k0_off102 (k0_t1 : Fin k0_t1_loop.trips) : Fin 3 → Nat :=
  let c0_142 : Index := 0#32
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  let v334 : BitVec 32 := v333
  let v335 : Index := Scalar.indexCast v334
  let c1664 : Index := 1664#32
  ![0, v335.toNat, 1664]
def k0_mult158 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  v338
def k0_off103 (k0_t1 : Fin k0_t1_loop.trips) : Fin 3 → Nat :=
  let c0_144 : Index := 0#32
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  let v339 : BitVec 32 := v338
  let v340 : Index := Scalar.indexCast v339
  let c1792 : Index := 1792#32
  ![0, v340.toNat, 1792]
def k0_mult159 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  v343
def k0_off104 (k0_t1 : Fin k0_t1_loop.trips) : Fin 3 → Nat :=
  let c0_146 : Index := 0#32
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  let v344 : BitVec 32 := v343
  let v345 : Index := Scalar.indexCast v344
  let c1920 : Index := 1920#32
  ![0, v345.toNat, 1920]
def k0_mult160 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_157 : BitVec 32 := 64#32
  let v376 : BitVec 32 := Scalar.muli arg13 c64_i32_157
  v376
def k0_mult161 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_160 : BitVec 32 := 64#32
  let v383 : BitVec 32 := Scalar.muli arg13 c64_i32_160
  v383
def k0_mult162 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_163 : BitVec 32 := 64#32
  let v390 : BitVec 32 := Scalar.muli arg13 c64_i32_163
  v390
def k0_mult163 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_166 : BitVec 32 := 64#32
  let v397 : BitVec 32 := Scalar.muli arg13 c64_i32_166
  v397
def k0_off105 (i : grid0.Coords) (k0_t1 : Fin k0_t1_loop.trips) : Fin 3 → Nat :=
  let c0_171 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c384_i32_22 : BitVec 32 := 384#32
  let v51 : BitVec 32 := Scalar.subi v4 c384_i32_22
  let c0_i32_23 : BitVec 32 := 0#32
  let v52 : BitVec 32 := Scalar.maxsi v51 c0_i32_23
  let v53 : BitVec 32 := v52
  let v409 : Index := Scalar.indexCast v53
  let c512_172 : Index := 512#32
  ![0, v409.toNat, 512]
def k0_mult164 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  v412
def k0_off106 (k0_t1 : Fin k0_t1_loop.trips) : Fin 3 → Nat :=
  let c0_174 : Index := 0#32
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  let v413 : BitVec 32 := v412
  let v414 : Index := Scalar.indexCast v413
  let c2048 : Index := 2048#32
  ![0, v414.toNat, 2048]
def k0_mult165 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  v417
def k0_off107 (k0_t1 : Fin k0_t1_loop.trips) : Fin 3 → Nat :=
  let c0_176 : Index := 0#32
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  let v418 : BitVec 32 := v417
  let v419 : Index := Scalar.indexCast v418
  let c2176 : Index := 2176#32
  ![0, v419.toNat, 2176]
def k0_mult166 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  v422
def k0_off108 (k0_t1 : Fin k0_t1_loop.trips) : Fin 3 → Nat :=
  let c0_178 : Index := 0#32
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  let v423 : BitVec 32 := v422
  let v424 : Index := Scalar.indexCast v423
  let c2304 : Index := 2304#32
  ![0, v424.toNat, 2304]
def k0_mult167 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  v427
def k0_off109 (k0_t1 : Fin k0_t1_loop.trips) : Fin 3 → Nat :=
  let c0_180 : Index := 0#32
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  let v428 : BitVec 32 := v427
  let v429 : Index := Scalar.indexCast v428
  let c2432 : Index := 2432#32
  ![0, v429.toNat, 2432]
def k0_mult168 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_191 : BitVec 32 := 64#32
  let v460 : BitVec 32 := Scalar.muli arg13 c64_i32_191
  v460
def k0_mult169 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_194 : BitVec 32 := 64#32
  let v467 : BitVec 32 := Scalar.muli arg13 c64_i32_194
  v467
def k0_mult170 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_197 : BitVec 32 := 64#32
  let v474 : BitVec 32 := Scalar.muli arg13 c64_i32_197
  v474
def k0_mult171 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_200 : BitVec 32 := 64#32
  let v481 : BitVec 32 := Scalar.muli arg13 c64_i32_200
  v481
def k0_off110 (i : grid0.Coords) (k0_t1 : Fin k0_t1_loop.trips) : Fin 3 → Nat :=
  let c0_205 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c384_i32_22 : BitVec 32 := 384#32
  let v51 : BitVec 32 := Scalar.subi v4 c384_i32_22
  let c0_i32_23 : BitVec 32 := 0#32
  let v52 : BitVec 32 := Scalar.maxsi v51 c0_i32_23
  let v53 : BitVec 32 := v52
  let v493 : Index := Scalar.indexCast v53
  let c640_206 : Index := 640#32
  ![0, v493.toNat, 640]
def k0_mult172 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  v496
def k0_off111 (k0_t1 : Fin k0_t1_loop.trips) : Fin 3 → Nat :=
  let c0_208 : Index := 0#32
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  let v497 : BitVec 32 := v496
  let v498 : Index := Scalar.indexCast v497
  let c2560 : Index := 2560#32
  ![0, v498.toNat, 2560]
def k0_mult173 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  v501
def k0_off112 (k0_t1 : Fin k0_t1_loop.trips) : Fin 3 → Nat :=
  let c0_210 : Index := 0#32
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  let v502 : BitVec 32 := v501
  let v503 : Index := Scalar.indexCast v502
  let c2688 : Index := 2688#32
  ![0, v503.toNat, 2688]
def k0_mult174 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  v506
def k0_off113 (k0_t1 : Fin k0_t1_loop.trips) : Fin 3 → Nat :=
  let c0_212 : Index := 0#32
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  let v507 : BitVec 32 := v506
  let v508 : Index := Scalar.indexCast v507
  let c2816 : Index := 2816#32
  ![0, v508.toNat, 2816]
def k0_mult175 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  v511
def k0_off114 (k0_t1 : Fin k0_t1_loop.trips) : Fin 3 → Nat :=
  let c0_214 : Index := 0#32
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  let v512 : BitVec 32 := v511
  let v513 : Index := Scalar.indexCast v512
  let c2944 : Index := 2944#32
  ![0, v513.toNat, 2944]
def k0_mult176 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_225 : BitVec 32 := 64#32
  let v544 : BitVec 32 := Scalar.muli arg13 c64_i32_225
  v544
def k0_mult177 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_228 : BitVec 32 := 64#32
  let v551 : BitVec 32 := Scalar.muli arg13 c64_i32_228
  v551
def k0_mult178 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_231 : BitVec 32 := 64#32
  let v558 : BitVec 32 := Scalar.muli arg13 c64_i32_231
  v558
def k0_mult179 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_234 : BitVec 32 := 64#32
  let v565 : BitVec 32 := Scalar.muli arg13 c64_i32_234
  v565
def k0_off115 (i : grid0.Coords) (k0_t1 : Fin k0_t1_loop.trips) : Fin 3 → Nat :=
  let c0_239 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c384_i32_22 : BitVec 32 := 384#32
  let v51 : BitVec 32 := Scalar.subi v4 c384_i32_22
  let c0_i32_23 : BitVec 32 := 0#32
  let v52 : BitVec 32 := Scalar.maxsi v51 c0_i32_23
  let v53 : BitVec 32 := v52
  let v577 : Index := Scalar.indexCast v53
  let c768_240 : Index := 768#32
  ![0, v577.toNat, 768]
def k0_mult180 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  v580
def k0_off116 (k0_t1 : Fin k0_t1_loop.trips) : Fin 3 → Nat :=
  let c0_242 : Index := 0#32
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  let v581 : BitVec 32 := v580
  let v582 : Index := Scalar.indexCast v581
  let c3072 : Index := 3072#32
  ![0, v582.toNat, 3072]
def k0_mult181 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  v585
def k0_off117 (k0_t1 : Fin k0_t1_loop.trips) : Fin 3 → Nat :=
  let c0_244 : Index := 0#32
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  let v586 : BitVec 32 := v585
  let v587 : Index := Scalar.indexCast v586
  let c3200 : Index := 3200#32
  ![0, v587.toNat, 3200]
def k0_mult182 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  v590
def k0_off118 (k0_t1 : Fin k0_t1_loop.trips) : Fin 3 → Nat :=
  let c0_246 : Index := 0#32
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  let v591 : BitVec 32 := v590
  let v592 : Index := Scalar.indexCast v591
  let c3328 : Index := 3328#32
  ![0, v592.toNat, 3328]
def k0_mult183 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  v595
def k0_off119 (k0_t1 : Fin k0_t1_loop.trips) : Fin 3 → Nat :=
  let c0_248 : Index := 0#32
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  let v596 : BitVec 32 := v595
  let v597 : Index := Scalar.indexCast v596
  let c3456 : Index := 3456#32
  ![0, v597.toNat, 3456]
def k0_mult184 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_259 : BitVec 32 := 64#32
  let v628 : BitVec 32 := Scalar.muli arg13 c64_i32_259
  v628
def k0_mult185 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_262 : BitVec 32 := 64#32
  let v635 : BitVec 32 := Scalar.muli arg13 c64_i32_262
  v635
def k0_mult186 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_265 : BitVec 32 := 64#32
  let v642 : BitVec 32 := Scalar.muli arg13 c64_i32_265
  v642
def k0_mult187 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_268 : BitVec 32 := 64#32
  let v649 : BitVec 32 := Scalar.muli arg13 c64_i32_268
  v649
def k0_off120 (i : grid0.Coords) (k0_t1 : Fin k0_t1_loop.trips) : Fin 3 → Nat :=
  let c0_273 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c384_i32_22 : BitVec 32 := 384#32
  let v51 : BitVec 32 := Scalar.subi v4 c384_i32_22
  let c0_i32_23 : BitVec 32 := 0#32
  let v52 : BitVec 32 := Scalar.maxsi v51 c0_i32_23
  let v53 : BitVec 32 := v52
  let v661 : Index := Scalar.indexCast v53
  let c896_274 : Index := 896#32
  ![0, v661.toNat, 896]
def k0_mult188 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  v664
def k0_off121 (k0_t1 : Fin k0_t1_loop.trips) : Fin 3 → Nat :=
  let c0_276 : Index := 0#32
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  let v665 : BitVec 32 := v664
  let v666 : Index := Scalar.indexCast v665
  let c3584 : Index := 3584#32
  ![0, v666.toNat, 3584]
def k0_mult189 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  v669
def k0_off122 (k0_t1 : Fin k0_t1_loop.trips) : Fin 3 → Nat :=
  let c0_278 : Index := 0#32
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  let v670 : BitVec 32 := v669
  let v671 : Index := Scalar.indexCast v670
  let c3712 : Index := 3712#32
  ![0, v671.toNat, 3712]
def k0_mult190 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  v674
def k0_off123 (k0_t1 : Fin k0_t1_loop.trips) : Fin 3 → Nat :=
  let c0_280 : Index := 0#32
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  let v675 : BitVec 32 := v674
  let v676 : Index := Scalar.indexCast v675
  let c3840 : Index := 3840#32
  ![0, v676.toNat, 3840]
def k0_mult191 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  v679
def k0_off124 (k0_t1 : Fin k0_t1_loop.trips) : Fin 3 → Nat :=
  let c0_282 : Index := 0#32
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  let v680 : BitVec 32 := v679
  let v681 : Index := Scalar.indexCast v680
  let c3968 : Index := 3968#32
  ![0, v681.toNat, 3968]
def k0_mult192 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_293 : BitVec 32 := 64#32
  let v712 : BitVec 32 := Scalar.muli arg13 c64_i32_293
  v712
def k0_mult193 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_296 : BitVec 32 := 64#32
  let v719 : BitVec 32 := Scalar.muli arg13 c64_i32_296
  v719
def k0_mult194 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_299 : BitVec 32 := 64#32
  let v726 : BitVec 32 := Scalar.muli arg13 c64_i32_299
  v726
def k0_mult195 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_302 : BitVec 32 := 64#32
  let v733 : BitVec 32 := Scalar.muli arg13 c64_i32_302
  v733
def k0_mult196 (i : grid0.Coords) (k0_t1 : Fin k0_t1_loop.trips) : BitVec 32 :=
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c512_i32_22 : BitVec 32 := 512#32
  let v51 : BitVec 32 := Scalar.subi v4 c512_i32_22
  let c0_i32_23 : BitVec 32 := 0#32
  let v52 : BitVec 32 := Scalar.maxsi v51 c0_i32_23
  v52
def k0_off125 (k0_t1 : Fin k0_t1_loop.trips) : Fin 4 → Nat :=
  let c0_24 : Index := 0#32
  let c0_25 : Index := 0#32
  let c0_i32 : BitVec 32 := 0#32
  let c1_i32 : BitVec 32 := 1#32
  let arg13 : BitVec 32 := Scf.iv c0_i32 c1_i32 k0_t1
  let v57 : Index := Scalar.indexCast arg13
  let c0_26 : Index := 0#32
  ![0, 0, v57.toNat, 0]
def k0_off126 (i : grid0.Coords) (k0_t1 : Fin k0_t1_loop.trips) : Fin 3 → Nat :=
  let c0_33 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c512_i32_22 : BitVec 32 := 512#32
  let v51 : BitVec 32 := Scalar.subi v4 c512_i32_22
  let c0_i32_23 : BitVec 32 := 0#32
  let v52 : BitVec 32 := Scalar.maxsi v51 c0_i32_23
  let v53 : BitVec 32 := v52
  let v74 : Index := Scalar.indexCast v53
  let c0_34 : Index := 0#32
  ![0, v74.toNat, 0]
def k0_mult197 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  v77
def k0_off127 (k0_t1 : Fin k0_t1_loop.trips) : Fin 3 → Nat :=
  let c0_36 : Index := 0#32
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  let v78 : BitVec 32 := v77
  let v79 : Index := Scalar.indexCast v78
  let c0_37 : Index := 0#32
  ![0, v79.toNat, 0]
def k0_mult198 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  v82
def k0_off128 (k0_t1 : Fin k0_t1_loop.trips) : Fin 3 → Nat :=
  let c0_39 : Index := 0#32
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  let v83 : BitVec 32 := v82
  let v84 : Index := Scalar.indexCast v83
  let c128 : Index := 128#32
  ![0, v84.toNat, 128]
def k0_mult199 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  v87
def k0_off129 (k0_t1 : Fin k0_t1_loop.trips) : Fin 3 → Nat :=
  let c0_41 : Index := 0#32
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  let v88 : BitVec 32 := v87
  let v89 : Index := Scalar.indexCast v88
  let c256 : Index := 256#32
  ![0, v89.toNat, 256]
def k0_mult200 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  v92
def k0_off130 (k0_t1 : Fin k0_t1_loop.trips) : Fin 3 → Nat :=
  let c0_43 : Index := 0#32
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  let v93 : BitVec 32 := v92
  let v94 : Index := Scalar.indexCast v93
  let c384 : Index := 384#32
  ![0, v94.toNat, 384]
def k0_mult201 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_55 : BitVec 32 := 64#32
  let v125 : BitVec 32 := Scalar.muli arg13 c64_i32_55
  v125
def k0_mult202 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_58 : BitVec 32 := 64#32
  let v132 : BitVec 32 := Scalar.muli arg13 c64_i32_58
  v132
def k0_mult203 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_61 : BitVec 32 := 64#32
  let v139 : BitVec 32 := Scalar.muli arg13 c64_i32_61
  v139
def k0_mult204 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_64 : BitVec 32 := 64#32
  let v146 : BitVec 32 := Scalar.muli arg13 c64_i32_64
  v146
def k0_off131 (i : grid0.Coords) (k0_t1 : Fin k0_t1_loop.trips) : Fin 3 → Nat :=
  let c0_69 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c512_i32_22 : BitVec 32 := 512#32
  let v51 : BitVec 32 := Scalar.subi v4 c512_i32_22
  let c0_i32_23 : BitVec 32 := 0#32
  let v52 : BitVec 32 := Scalar.maxsi v51 c0_i32_23
  let v53 : BitVec 32 := v52
  let v157 : Index := Scalar.indexCast v53
  let c128_70 : Index := 128#32
  ![0, v157.toNat, 128]
def k0_mult205 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  v160
def k0_off132 (k0_t1 : Fin k0_t1_loop.trips) : Fin 3 → Nat :=
  let c0_72 : Index := 0#32
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  let v161 : BitVec 32 := v160
  let v162 : Index := Scalar.indexCast v161
  let c512 : Index := 512#32
  ![0, v162.toNat, 512]
def k0_mult206 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  v165
def k0_off133 (k0_t1 : Fin k0_t1_loop.trips) : Fin 3 → Nat :=
  let c0_74 : Index := 0#32
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  let v166 : BitVec 32 := v165
  let v167 : Index := Scalar.indexCast v166
  let c640 : Index := 640#32
  ![0, v167.toNat, 640]
def k0_mult207 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  v170
def k0_off134 (k0_t1 : Fin k0_t1_loop.trips) : Fin 3 → Nat :=
  let c0_76 : Index := 0#32
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  let v171 : BitVec 32 := v170
  let v172 : Index := Scalar.indexCast v171
  let c768 : Index := 768#32
  ![0, v172.toNat, 768]
def k0_mult208 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  v175
def k0_off135 (k0_t1 : Fin k0_t1_loop.trips) : Fin 3 → Nat :=
  let c0_78 : Index := 0#32
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  let v176 : BitVec 32 := v175
  let v177 : Index := Scalar.indexCast v176
  let c896 : Index := 896#32
  ![0, v177.toNat, 896]
def k0_mult209 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_89 : BitVec 32 := 64#32
  let v208 : BitVec 32 := Scalar.muli arg13 c64_i32_89
  v208
def k0_mult210 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_92 : BitVec 32 := 64#32
  let v215 : BitVec 32 := Scalar.muli arg13 c64_i32_92
  v215
def k0_mult211 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_95 : BitVec 32 := 64#32
  let v222 : BitVec 32 := Scalar.muli arg13 c64_i32_95
  v222
def k0_mult212 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_98 : BitVec 32 := 64#32
  let v229 : BitVec 32 := Scalar.muli arg13 c64_i32_98
  v229
def k0_off136 (i : grid0.Coords) (k0_t1 : Fin k0_t1_loop.trips) : Fin 3 → Nat :=
  let c0_103 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c512_i32_22 : BitVec 32 := 512#32
  let v51 : BitVec 32 := Scalar.subi v4 c512_i32_22
  let c0_i32_23 : BitVec 32 := 0#32
  let v52 : BitVec 32 := Scalar.maxsi v51 c0_i32_23
  let v53 : BitVec 32 := v52
  let v241 : Index := Scalar.indexCast v53
  let c256_104 : Index := 256#32
  ![0, v241.toNat, 256]
def k0_mult213 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  v244
def k0_off137 (k0_t1 : Fin k0_t1_loop.trips) : Fin 3 → Nat :=
  let c0_106 : Index := 0#32
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  let v245 : BitVec 32 := v244
  let v246 : Index := Scalar.indexCast v245
  let c1024 : Index := 1024#32
  ![0, v246.toNat, 1024]
def k0_mult214 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  v249
def k0_off138 (k0_t1 : Fin k0_t1_loop.trips) : Fin 3 → Nat :=
  let c0_108 : Index := 0#32
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  let v250 : BitVec 32 := v249
  let v251 : Index := Scalar.indexCast v250
  let c1152 : Index := 1152#32
  ![0, v251.toNat, 1152]
def k0_mult215 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  v254
def k0_off139 (k0_t1 : Fin k0_t1_loop.trips) : Fin 3 → Nat :=
  let c0_110 : Index := 0#32
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  let v255 : BitVec 32 := v254
  let v256 : Index := Scalar.indexCast v255
  let c1280 : Index := 1280#32
  ![0, v256.toNat, 1280]
def k0_mult216 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  v259
def k0_off140 (k0_t1 : Fin k0_t1_loop.trips) : Fin 3 → Nat :=
  let c0_112 : Index := 0#32
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  let v260 : BitVec 32 := v259
  let v261 : Index := Scalar.indexCast v260
  let c1408 : Index := 1408#32
  ![0, v261.toNat, 1408]
def k0_mult217 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_123 : BitVec 32 := 64#32
  let v292 : BitVec 32 := Scalar.muli arg13 c64_i32_123
  v292
def k0_mult218 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_126 : BitVec 32 := 64#32
  let v299 : BitVec 32 := Scalar.muli arg13 c64_i32_126
  v299
def k0_mult219 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_129 : BitVec 32 := 64#32
  let v306 : BitVec 32 := Scalar.muli arg13 c64_i32_129
  v306
def k0_mult220 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_132 : BitVec 32 := 64#32
  let v313 : BitVec 32 := Scalar.muli arg13 c64_i32_132
  v313
def k0_off141 (i : grid0.Coords) (k0_t1 : Fin k0_t1_loop.trips) : Fin 3 → Nat :=
  let c0_137 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c512_i32_22 : BitVec 32 := 512#32
  let v51 : BitVec 32 := Scalar.subi v4 c512_i32_22
  let c0_i32_23 : BitVec 32 := 0#32
  let v52 : BitVec 32 := Scalar.maxsi v51 c0_i32_23
  let v53 : BitVec 32 := v52
  let v325 : Index := Scalar.indexCast v53
  let c384_138 : Index := 384#32
  ![0, v325.toNat, 384]
def k0_mult221 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  v328
def k0_off142 (k0_t1 : Fin k0_t1_loop.trips) : Fin 3 → Nat :=
  let c0_140 : Index := 0#32
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  let v329 : BitVec 32 := v328
  let v330 : Index := Scalar.indexCast v329
  let c1536 : Index := 1536#32
  ![0, v330.toNat, 1536]
def k0_mult222 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  v333
def k0_off143 (k0_t1 : Fin k0_t1_loop.trips) : Fin 3 → Nat :=
  let c0_142 : Index := 0#32
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  let v334 : BitVec 32 := v333
  let v335 : Index := Scalar.indexCast v334
  let c1664 : Index := 1664#32
  ![0, v335.toNat, 1664]
def k0_mult223 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  v338
def k0_off144 (k0_t1 : Fin k0_t1_loop.trips) : Fin 3 → Nat :=
  let c0_144 : Index := 0#32
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  let v339 : BitVec 32 := v338
  let v340 : Index := Scalar.indexCast v339
  let c1792 : Index := 1792#32
  ![0, v340.toNat, 1792]
def k0_mult224 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  v343
def k0_off145 (k0_t1 : Fin k0_t1_loop.trips) : Fin 3 → Nat :=
  let c0_146 : Index := 0#32
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  let v344 : BitVec 32 := v343
  let v345 : Index := Scalar.indexCast v344
  let c1920 : Index := 1920#32
  ![0, v345.toNat, 1920]
def k0_mult225 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_157 : BitVec 32 := 64#32
  let v376 : BitVec 32 := Scalar.muli arg13 c64_i32_157
  v376
def k0_mult226 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_160 : BitVec 32 := 64#32
  let v383 : BitVec 32 := Scalar.muli arg13 c64_i32_160
  v383
def k0_mult227 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_163 : BitVec 32 := 64#32
  let v390 : BitVec 32 := Scalar.muli arg13 c64_i32_163
  v390
def k0_mult228 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_166 : BitVec 32 := 64#32
  let v397 : BitVec 32 := Scalar.muli arg13 c64_i32_166
  v397
def k0_off146 (i : grid0.Coords) (k0_t1 : Fin k0_t1_loop.trips) : Fin 3 → Nat :=
  let c0_171 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c512_i32_22 : BitVec 32 := 512#32
  let v51 : BitVec 32 := Scalar.subi v4 c512_i32_22
  let c0_i32_23 : BitVec 32 := 0#32
  let v52 : BitVec 32 := Scalar.maxsi v51 c0_i32_23
  let v53 : BitVec 32 := v52
  let v409 : Index := Scalar.indexCast v53
  let c512_172 : Index := 512#32
  ![0, v409.toNat, 512]
def k0_mult229 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  v412
def k0_off147 (k0_t1 : Fin k0_t1_loop.trips) : Fin 3 → Nat :=
  let c0_174 : Index := 0#32
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  let v413 : BitVec 32 := v412
  let v414 : Index := Scalar.indexCast v413
  let c2048 : Index := 2048#32
  ![0, v414.toNat, 2048]
def k0_mult230 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  v417
def k0_off148 (k0_t1 : Fin k0_t1_loop.trips) : Fin 3 → Nat :=
  let c0_176 : Index := 0#32
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  let v418 : BitVec 32 := v417
  let v419 : Index := Scalar.indexCast v418
  let c2176 : Index := 2176#32
  ![0, v419.toNat, 2176]
def k0_mult231 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  v422
def k0_off149 (k0_t1 : Fin k0_t1_loop.trips) : Fin 3 → Nat :=
  let c0_178 : Index := 0#32
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  let v423 : BitVec 32 := v422
  let v424 : Index := Scalar.indexCast v423
  let c2304 : Index := 2304#32
  ![0, v424.toNat, 2304]
def k0_mult232 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  v427
def k0_off150 (k0_t1 : Fin k0_t1_loop.trips) : Fin 3 → Nat :=
  let c0_180 : Index := 0#32
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  let v428 : BitVec 32 := v427
  let v429 : Index := Scalar.indexCast v428
  let c2432 : Index := 2432#32
  ![0, v429.toNat, 2432]
def k0_mult233 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_191 : BitVec 32 := 64#32
  let v460 : BitVec 32 := Scalar.muli arg13 c64_i32_191
  v460
def k0_mult234 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_194 : BitVec 32 := 64#32
  let v467 : BitVec 32 := Scalar.muli arg13 c64_i32_194
  v467
def k0_mult235 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_197 : BitVec 32 := 64#32
  let v474 : BitVec 32 := Scalar.muli arg13 c64_i32_197
  v474
def k0_mult236 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_200 : BitVec 32 := 64#32
  let v481 : BitVec 32 := Scalar.muli arg13 c64_i32_200
  v481
def k0_off151 (i : grid0.Coords) (k0_t1 : Fin k0_t1_loop.trips) : Fin 3 → Nat :=
  let c0_205 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c512_i32_22 : BitVec 32 := 512#32
  let v51 : BitVec 32 := Scalar.subi v4 c512_i32_22
  let c0_i32_23 : BitVec 32 := 0#32
  let v52 : BitVec 32 := Scalar.maxsi v51 c0_i32_23
  let v53 : BitVec 32 := v52
  let v493 : Index := Scalar.indexCast v53
  let c640_206 : Index := 640#32
  ![0, v493.toNat, 640]
def k0_mult237 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  v496
def k0_off152 (k0_t1 : Fin k0_t1_loop.trips) : Fin 3 → Nat :=
  let c0_208 : Index := 0#32
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  let v497 : BitVec 32 := v496
  let v498 : Index := Scalar.indexCast v497
  let c2560 : Index := 2560#32
  ![0, v498.toNat, 2560]
def k0_mult238 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  v501
def k0_off153 (k0_t1 : Fin k0_t1_loop.trips) : Fin 3 → Nat :=
  let c0_210 : Index := 0#32
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  let v502 : BitVec 32 := v501
  let v503 : Index := Scalar.indexCast v502
  let c2688 : Index := 2688#32
  ![0, v503.toNat, 2688]
def k0_mult239 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  v506
def k0_off154 (k0_t1 : Fin k0_t1_loop.trips) : Fin 3 → Nat :=
  let c0_212 : Index := 0#32
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  let v507 : BitVec 32 := v506
  let v508 : Index := Scalar.indexCast v507
  let c2816 : Index := 2816#32
  ![0, v508.toNat, 2816]
def k0_mult240 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  v511
def k0_off155 (k0_t1 : Fin k0_t1_loop.trips) : Fin 3 → Nat :=
  let c0_214 : Index := 0#32
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  let v512 : BitVec 32 := v511
  let v513 : Index := Scalar.indexCast v512
  let c2944 : Index := 2944#32
  ![0, v513.toNat, 2944]
def k0_mult241 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_225 : BitVec 32 := 64#32
  let v544 : BitVec 32 := Scalar.muli arg13 c64_i32_225
  v544
def k0_mult242 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_228 : BitVec 32 := 64#32
  let v551 : BitVec 32 := Scalar.muli arg13 c64_i32_228
  v551
def k0_mult243 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_231 : BitVec 32 := 64#32
  let v558 : BitVec 32 := Scalar.muli arg13 c64_i32_231
  v558
def k0_mult244 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_234 : BitVec 32 := 64#32
  let v565 : BitVec 32 := Scalar.muli arg13 c64_i32_234
  v565
def k0_off156 (i : grid0.Coords) (k0_t1 : Fin k0_t1_loop.trips) : Fin 3 → Nat :=
  let c0_239 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c512_i32_22 : BitVec 32 := 512#32
  let v51 : BitVec 32 := Scalar.subi v4 c512_i32_22
  let c0_i32_23 : BitVec 32 := 0#32
  let v52 : BitVec 32 := Scalar.maxsi v51 c0_i32_23
  let v53 : BitVec 32 := v52
  let v577 : Index := Scalar.indexCast v53
  let c768_240 : Index := 768#32
  ![0, v577.toNat, 768]
def k0_mult245 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  v580
def k0_off157 (k0_t1 : Fin k0_t1_loop.trips) : Fin 3 → Nat :=
  let c0_242 : Index := 0#32
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  let v581 : BitVec 32 := v580
  let v582 : Index := Scalar.indexCast v581
  let c3072 : Index := 3072#32
  ![0, v582.toNat, 3072]
def k0_mult246 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  v585
def k0_off158 (k0_t1 : Fin k0_t1_loop.trips) : Fin 3 → Nat :=
  let c0_244 : Index := 0#32
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  let v586 : BitVec 32 := v585
  let v587 : Index := Scalar.indexCast v586
  let c3200 : Index := 3200#32
  ![0, v587.toNat, 3200]
def k0_mult247 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  v590
def k0_off159 (k0_t1 : Fin k0_t1_loop.trips) : Fin 3 → Nat :=
  let c0_246 : Index := 0#32
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  let v591 : BitVec 32 := v590
  let v592 : Index := Scalar.indexCast v591
  let c3328 : Index := 3328#32
  ![0, v592.toNat, 3328]
def k0_mult248 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  v595
def k0_off160 (k0_t1 : Fin k0_t1_loop.trips) : Fin 3 → Nat :=
  let c0_248 : Index := 0#32
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  let v596 : BitVec 32 := v595
  let v597 : Index := Scalar.indexCast v596
  let c3456 : Index := 3456#32
  ![0, v597.toNat, 3456]
def k0_mult249 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_259 : BitVec 32 := 64#32
  let v628 : BitVec 32 := Scalar.muli arg13 c64_i32_259
  v628
def k0_mult250 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_262 : BitVec 32 := 64#32
  let v635 : BitVec 32 := Scalar.muli arg13 c64_i32_262
  v635
def k0_mult251 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_265 : BitVec 32 := 64#32
  let v642 : BitVec 32 := Scalar.muli arg13 c64_i32_265
  v642
def k0_mult252 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_268 : BitVec 32 := 64#32
  let v649 : BitVec 32 := Scalar.muli arg13 c64_i32_268
  v649
def k0_off161 (i : grid0.Coords) (k0_t1 : Fin k0_t1_loop.trips) : Fin 3 → Nat :=
  let c0_273 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c512_i32_22 : BitVec 32 := 512#32
  let v51 : BitVec 32 := Scalar.subi v4 c512_i32_22
  let c0_i32_23 : BitVec 32 := 0#32
  let v52 : BitVec 32 := Scalar.maxsi v51 c0_i32_23
  let v53 : BitVec 32 := v52
  let v661 : Index := Scalar.indexCast v53
  let c896_274 : Index := 896#32
  ![0, v661.toNat, 896]
def k0_mult253 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  v664
def k0_off162 (k0_t1 : Fin k0_t1_loop.trips) : Fin 3 → Nat :=
  let c0_276 : Index := 0#32
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  let v665 : BitVec 32 := v664
  let v666 : Index := Scalar.indexCast v665
  let c3584 : Index := 3584#32
  ![0, v666.toNat, 3584]
def k0_mult254 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  v669
def k0_off163 (k0_t1 : Fin k0_t1_loop.trips) : Fin 3 → Nat :=
  let c0_278 : Index := 0#32
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  let v670 : BitVec 32 := v669
  let v671 : Index := Scalar.indexCast v670
  let c3712 : Index := 3712#32
  ![0, v671.toNat, 3712]
def k0_mult255 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  v674
def k0_off164 (k0_t1 : Fin k0_t1_loop.trips) : Fin 3 → Nat :=
  let c0_280 : Index := 0#32
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  let v675 : BitVec 32 := v674
  let v676 : Index := Scalar.indexCast v675
  let c3840 : Index := 3840#32
  ![0, v676.toNat, 3840]
def k0_mult256 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  v679
def k0_off165 (k0_t1 : Fin k0_t1_loop.trips) : Fin 3 → Nat :=
  let c0_282 : Index := 0#32
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  let v680 : BitVec 32 := v679
  let v681 : Index := Scalar.indexCast v680
  let c3968 : Index := 3968#32
  ![0, v681.toNat, 3968]
def k0_mult257 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_293 : BitVec 32 := 64#32
  let v712 : BitVec 32 := Scalar.muli arg13 c64_i32_293
  v712
def k0_mult258 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_296 : BitVec 32 := 64#32
  let v719 : BitVec 32 := Scalar.muli arg13 c64_i32_296
  v719
def k0_mult259 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_299 : BitVec 32 := 64#32
  let v726 : BitVec 32 := Scalar.muli arg13 c64_i32_299
  v726
def k0_mult260 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_302 : BitVec 32 := 64#32
  let v733 : BitVec 32 := Scalar.muli arg13 c64_i32_302
  v733
def k0_mult261 (i : grid0.Coords) (k0_t1 : Fin k0_t1_loop.trips) : BitVec 32 :=
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c640_i32_22 : BitVec 32 := 640#32
  let v51 : BitVec 32 := Scalar.subi v4 c640_i32_22
  let c0_i32_23 : BitVec 32 := 0#32
  let v52 : BitVec 32 := Scalar.maxsi v51 c0_i32_23
  v52
def k0_off166 (k0_t1 : Fin k0_t1_loop.trips) : Fin 4 → Nat :=
  let c0_24 : Index := 0#32
  let c0_25 : Index := 0#32
  let c0_i32 : BitVec 32 := 0#32
  let c1_i32 : BitVec 32 := 1#32
  let arg13 : BitVec 32 := Scf.iv c0_i32 c1_i32 k0_t1
  let v57 : Index := Scalar.indexCast arg13
  let c0_26 : Index := 0#32
  ![0, 0, v57.toNat, 0]
def k0_off167 (i : grid0.Coords) (k0_t1 : Fin k0_t1_loop.trips) : Fin 3 → Nat :=
  let c0_33 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c640_i32_22 : BitVec 32 := 640#32
  let v51 : BitVec 32 := Scalar.subi v4 c640_i32_22
  let c0_i32_23 : BitVec 32 := 0#32
  let v52 : BitVec 32 := Scalar.maxsi v51 c0_i32_23
  let v53 : BitVec 32 := v52
  let v74 : Index := Scalar.indexCast v53
  let c0_34 : Index := 0#32
  ![0, v74.toNat, 0]
def k0_mult262 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  v77
def k0_off168 (k0_t1 : Fin k0_t1_loop.trips) : Fin 3 → Nat :=
  let c0_36 : Index := 0#32
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  let v78 : BitVec 32 := v77
  let v79 : Index := Scalar.indexCast v78
  let c0_37 : Index := 0#32
  ![0, v79.toNat, 0]
def k0_mult263 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  v82
def k0_off169 (k0_t1 : Fin k0_t1_loop.trips) : Fin 3 → Nat :=
  let c0_39 : Index := 0#32
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  let v83 : BitVec 32 := v82
  let v84 : Index := Scalar.indexCast v83
  let c128 : Index := 128#32
  ![0, v84.toNat, 128]
def k0_mult264 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  v87
def k0_off170 (k0_t1 : Fin k0_t1_loop.trips) : Fin 3 → Nat :=
  let c0_41 : Index := 0#32
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  let v88 : BitVec 32 := v87
  let v89 : Index := Scalar.indexCast v88
  let c256 : Index := 256#32
  ![0, v89.toNat, 256]
def k0_mult265 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  v92
def k0_off171 (k0_t1 : Fin k0_t1_loop.trips) : Fin 3 → Nat :=
  let c0_43 : Index := 0#32
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  let v93 : BitVec 32 := v92
  let v94 : Index := Scalar.indexCast v93
  let c384 : Index := 384#32
  ![0, v94.toNat, 384]
def k0_mult266 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_55 : BitVec 32 := 64#32
  let v125 : BitVec 32 := Scalar.muli arg13 c64_i32_55
  v125
def k0_mult267 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_58 : BitVec 32 := 64#32
  let v132 : BitVec 32 := Scalar.muli arg13 c64_i32_58
  v132
def k0_mult268 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_61 : BitVec 32 := 64#32
  let v139 : BitVec 32 := Scalar.muli arg13 c64_i32_61
  v139
def k0_mult269 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_64 : BitVec 32 := 64#32
  let v146 : BitVec 32 := Scalar.muli arg13 c64_i32_64
  v146
def k0_off172 (i : grid0.Coords) (k0_t1 : Fin k0_t1_loop.trips) : Fin 3 → Nat :=
  let c0_69 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c640_i32_22 : BitVec 32 := 640#32
  let v51 : BitVec 32 := Scalar.subi v4 c640_i32_22
  let c0_i32_23 : BitVec 32 := 0#32
  let v52 : BitVec 32 := Scalar.maxsi v51 c0_i32_23
  let v53 : BitVec 32 := v52
  let v157 : Index := Scalar.indexCast v53
  let c128_70 : Index := 128#32
  ![0, v157.toNat, 128]
def k0_mult270 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  v160
def k0_off173 (k0_t1 : Fin k0_t1_loop.trips) : Fin 3 → Nat :=
  let c0_72 : Index := 0#32
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  let v161 : BitVec 32 := v160
  let v162 : Index := Scalar.indexCast v161
  let c512 : Index := 512#32
  ![0, v162.toNat, 512]
def k0_mult271 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  v165
def k0_off174 (k0_t1 : Fin k0_t1_loop.trips) : Fin 3 → Nat :=
  let c0_74 : Index := 0#32
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  let v166 : BitVec 32 := v165
  let v167 : Index := Scalar.indexCast v166
  let c640 : Index := 640#32
  ![0, v167.toNat, 640]
def k0_mult272 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  v170
def k0_off175 (k0_t1 : Fin k0_t1_loop.trips) : Fin 3 → Nat :=
  let c0_76 : Index := 0#32
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  let v171 : BitVec 32 := v170
  let v172 : Index := Scalar.indexCast v171
  let c768 : Index := 768#32
  ![0, v172.toNat, 768]
def k0_mult273 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  v175
def k0_off176 (k0_t1 : Fin k0_t1_loop.trips) : Fin 3 → Nat :=
  let c0_78 : Index := 0#32
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  let v176 : BitVec 32 := v175
  let v177 : Index := Scalar.indexCast v176
  let c896 : Index := 896#32
  ![0, v177.toNat, 896]
def k0_mult274 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_89 : BitVec 32 := 64#32
  let v208 : BitVec 32 := Scalar.muli arg13 c64_i32_89
  v208
def k0_mult275 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_92 : BitVec 32 := 64#32
  let v215 : BitVec 32 := Scalar.muli arg13 c64_i32_92
  v215
def k0_mult276 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_95 : BitVec 32 := 64#32
  let v222 : BitVec 32 := Scalar.muli arg13 c64_i32_95
  v222
def k0_mult277 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_98 : BitVec 32 := 64#32
  let v229 : BitVec 32 := Scalar.muli arg13 c64_i32_98
  v229
def k0_off177 (i : grid0.Coords) (k0_t1 : Fin k0_t1_loop.trips) : Fin 3 → Nat :=
  let c0_103 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c640_i32_22 : BitVec 32 := 640#32
  let v51 : BitVec 32 := Scalar.subi v4 c640_i32_22
  let c0_i32_23 : BitVec 32 := 0#32
  let v52 : BitVec 32 := Scalar.maxsi v51 c0_i32_23
  let v53 : BitVec 32 := v52
  let v241 : Index := Scalar.indexCast v53
  let c256_104 : Index := 256#32
  ![0, v241.toNat, 256]
def k0_mult278 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  v244
def k0_off178 (k0_t1 : Fin k0_t1_loop.trips) : Fin 3 → Nat :=
  let c0_106 : Index := 0#32
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  let v245 : BitVec 32 := v244
  let v246 : Index := Scalar.indexCast v245
  let c1024 : Index := 1024#32
  ![0, v246.toNat, 1024]
def k0_mult279 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  v249
def k0_off179 (k0_t1 : Fin k0_t1_loop.trips) : Fin 3 → Nat :=
  let c0_108 : Index := 0#32
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  let v250 : BitVec 32 := v249
  let v251 : Index := Scalar.indexCast v250
  let c1152 : Index := 1152#32
  ![0, v251.toNat, 1152]
def k0_mult280 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  v254
def k0_off180 (k0_t1 : Fin k0_t1_loop.trips) : Fin 3 → Nat :=
  let c0_110 : Index := 0#32
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  let v255 : BitVec 32 := v254
  let v256 : Index := Scalar.indexCast v255
  let c1280 : Index := 1280#32
  ![0, v256.toNat, 1280]
def k0_mult281 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  v259
def k0_off181 (k0_t1 : Fin k0_t1_loop.trips) : Fin 3 → Nat :=
  let c0_112 : Index := 0#32
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  let v260 : BitVec 32 := v259
  let v261 : Index := Scalar.indexCast v260
  let c1408 : Index := 1408#32
  ![0, v261.toNat, 1408]
def k0_mult282 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_123 : BitVec 32 := 64#32
  let v292 : BitVec 32 := Scalar.muli arg13 c64_i32_123
  v292
def k0_mult283 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_126 : BitVec 32 := 64#32
  let v299 : BitVec 32 := Scalar.muli arg13 c64_i32_126
  v299
def k0_mult284 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_129 : BitVec 32 := 64#32
  let v306 : BitVec 32 := Scalar.muli arg13 c64_i32_129
  v306
def k0_mult285 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_132 : BitVec 32 := 64#32
  let v313 : BitVec 32 := Scalar.muli arg13 c64_i32_132
  v313
def k0_off182 (i : grid0.Coords) (k0_t1 : Fin k0_t1_loop.trips) : Fin 3 → Nat :=
  let c0_137 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c640_i32_22 : BitVec 32 := 640#32
  let v51 : BitVec 32 := Scalar.subi v4 c640_i32_22
  let c0_i32_23 : BitVec 32 := 0#32
  let v52 : BitVec 32 := Scalar.maxsi v51 c0_i32_23
  let v53 : BitVec 32 := v52
  let v325 : Index := Scalar.indexCast v53
  let c384_138 : Index := 384#32
  ![0, v325.toNat, 384]
def k0_mult286 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  v328
def k0_off183 (k0_t1 : Fin k0_t1_loop.trips) : Fin 3 → Nat :=
  let c0_140 : Index := 0#32
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  let v329 : BitVec 32 := v328
  let v330 : Index := Scalar.indexCast v329
  let c1536 : Index := 1536#32
  ![0, v330.toNat, 1536]
def k0_mult287 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  v333
def k0_off184 (k0_t1 : Fin k0_t1_loop.trips) : Fin 3 → Nat :=
  let c0_142 : Index := 0#32
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  let v334 : BitVec 32 := v333
  let v335 : Index := Scalar.indexCast v334
  let c1664 : Index := 1664#32
  ![0, v335.toNat, 1664]
def k0_mult288 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  v338
def k0_off185 (k0_t1 : Fin k0_t1_loop.trips) : Fin 3 → Nat :=
  let c0_144 : Index := 0#32
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  let v339 : BitVec 32 := v338
  let v340 : Index := Scalar.indexCast v339
  let c1792 : Index := 1792#32
  ![0, v340.toNat, 1792]
def k0_mult289 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  v343
def k0_off186 (k0_t1 : Fin k0_t1_loop.trips) : Fin 3 → Nat :=
  let c0_146 : Index := 0#32
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  let v344 : BitVec 32 := v343
  let v345 : Index := Scalar.indexCast v344
  let c1920 : Index := 1920#32
  ![0, v345.toNat, 1920]
def k0_mult290 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_157 : BitVec 32 := 64#32
  let v376 : BitVec 32 := Scalar.muli arg13 c64_i32_157
  v376
def k0_mult291 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_160 : BitVec 32 := 64#32
  let v383 : BitVec 32 := Scalar.muli arg13 c64_i32_160
  v383
def k0_mult292 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_163 : BitVec 32 := 64#32
  let v390 : BitVec 32 := Scalar.muli arg13 c64_i32_163
  v390
def k0_mult293 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_166 : BitVec 32 := 64#32
  let v397 : BitVec 32 := Scalar.muli arg13 c64_i32_166
  v397
def k0_off187 (i : grid0.Coords) (k0_t1 : Fin k0_t1_loop.trips) : Fin 3 → Nat :=
  let c0_171 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c640_i32_22 : BitVec 32 := 640#32
  let v51 : BitVec 32 := Scalar.subi v4 c640_i32_22
  let c0_i32_23 : BitVec 32 := 0#32
  let v52 : BitVec 32 := Scalar.maxsi v51 c0_i32_23
  let v53 : BitVec 32 := v52
  let v409 : Index := Scalar.indexCast v53
  let c512_172 : Index := 512#32
  ![0, v409.toNat, 512]
def k0_mult294 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  v412
def k0_off188 (k0_t1 : Fin k0_t1_loop.trips) : Fin 3 → Nat :=
  let c0_174 : Index := 0#32
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  let v413 : BitVec 32 := v412
  let v414 : Index := Scalar.indexCast v413
  let c2048 : Index := 2048#32
  ![0, v414.toNat, 2048]
def k0_mult295 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  v417
def k0_off189 (k0_t1 : Fin k0_t1_loop.trips) : Fin 3 → Nat :=
  let c0_176 : Index := 0#32
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  let v418 : BitVec 32 := v417
  let v419 : Index := Scalar.indexCast v418
  let c2176 : Index := 2176#32
  ![0, v419.toNat, 2176]
def k0_mult296 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  v422
def k0_off190 (k0_t1 : Fin k0_t1_loop.trips) : Fin 3 → Nat :=
  let c0_178 : Index := 0#32
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  let v423 : BitVec 32 := v422
  let v424 : Index := Scalar.indexCast v423
  let c2304 : Index := 2304#32
  ![0, v424.toNat, 2304]
def k0_mult297 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  v427
def k0_off191 (k0_t1 : Fin k0_t1_loop.trips) : Fin 3 → Nat :=
  let c0_180 : Index := 0#32
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  let v428 : BitVec 32 := v427
  let v429 : Index := Scalar.indexCast v428
  let c2432 : Index := 2432#32
  ![0, v429.toNat, 2432]
def k0_mult298 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_191 : BitVec 32 := 64#32
  let v460 : BitVec 32 := Scalar.muli arg13 c64_i32_191
  v460
def k0_mult299 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_194 : BitVec 32 := 64#32
  let v467 : BitVec 32 := Scalar.muli arg13 c64_i32_194
  v467
def k0_mult300 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_197 : BitVec 32 := 64#32
  let v474 : BitVec 32 := Scalar.muli arg13 c64_i32_197
  v474
def k0_mult301 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_200 : BitVec 32 := 64#32
  let v481 : BitVec 32 := Scalar.muli arg13 c64_i32_200
  v481
def k0_off192 (i : grid0.Coords) (k0_t1 : Fin k0_t1_loop.trips) : Fin 3 → Nat :=
  let c0_205 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c640_i32_22 : BitVec 32 := 640#32
  let v51 : BitVec 32 := Scalar.subi v4 c640_i32_22
  let c0_i32_23 : BitVec 32 := 0#32
  let v52 : BitVec 32 := Scalar.maxsi v51 c0_i32_23
  let v53 : BitVec 32 := v52
  let v493 : Index := Scalar.indexCast v53
  let c640_206 : Index := 640#32
  ![0, v493.toNat, 640]
def k0_mult302 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  v496
def k0_off193 (k0_t1 : Fin k0_t1_loop.trips) : Fin 3 → Nat :=
  let c0_208 : Index := 0#32
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  let v497 : BitVec 32 := v496
  let v498 : Index := Scalar.indexCast v497
  let c2560 : Index := 2560#32
  ![0, v498.toNat, 2560]
def k0_mult303 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  v501
def k0_off194 (k0_t1 : Fin k0_t1_loop.trips) : Fin 3 → Nat :=
  let c0_210 : Index := 0#32
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  let v502 : BitVec 32 := v501
  let v503 : Index := Scalar.indexCast v502
  let c2688 : Index := 2688#32
  ![0, v503.toNat, 2688]
def k0_mult304 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  v506
def k0_off195 (k0_t1 : Fin k0_t1_loop.trips) : Fin 3 → Nat :=
  let c0_212 : Index := 0#32
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  let v507 : BitVec 32 := v506
  let v508 : Index := Scalar.indexCast v507
  let c2816 : Index := 2816#32
  ![0, v508.toNat, 2816]
def k0_mult305 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  v511
def k0_off196 (k0_t1 : Fin k0_t1_loop.trips) : Fin 3 → Nat :=
  let c0_214 : Index := 0#32
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  let v512 : BitVec 32 := v511
  let v513 : Index := Scalar.indexCast v512
  let c2944 : Index := 2944#32
  ![0, v513.toNat, 2944]
def k0_mult306 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_225 : BitVec 32 := 64#32
  let v544 : BitVec 32 := Scalar.muli arg13 c64_i32_225
  v544
def k0_mult307 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_228 : BitVec 32 := 64#32
  let v551 : BitVec 32 := Scalar.muli arg13 c64_i32_228
  v551
def k0_mult308 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_231 : BitVec 32 := 64#32
  let v558 : BitVec 32 := Scalar.muli arg13 c64_i32_231
  v558
def k0_mult309 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_234 : BitVec 32 := 64#32
  let v565 : BitVec 32 := Scalar.muli arg13 c64_i32_234
  v565
def k0_off197 (i : grid0.Coords) (k0_t1 : Fin k0_t1_loop.trips) : Fin 3 → Nat :=
  let c0_239 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c640_i32_22 : BitVec 32 := 640#32
  let v51 : BitVec 32 := Scalar.subi v4 c640_i32_22
  let c0_i32_23 : BitVec 32 := 0#32
  let v52 : BitVec 32 := Scalar.maxsi v51 c0_i32_23
  let v53 : BitVec 32 := v52
  let v577 : Index := Scalar.indexCast v53
  let c768_240 : Index := 768#32
  ![0, v577.toNat, 768]
def k0_mult310 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  v580
def k0_off198 (k0_t1 : Fin k0_t1_loop.trips) : Fin 3 → Nat :=
  let c0_242 : Index := 0#32
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  let v581 : BitVec 32 := v580
  let v582 : Index := Scalar.indexCast v581
  let c3072 : Index := 3072#32
  ![0, v582.toNat, 3072]
def k0_mult311 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  v585
def k0_off199 (k0_t1 : Fin k0_t1_loop.trips) : Fin 3 → Nat :=
  let c0_244 : Index := 0#32
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  let v586 : BitVec 32 := v585
  let v587 : Index := Scalar.indexCast v586
  let c3200 : Index := 3200#32
  ![0, v587.toNat, 3200]
def k0_mult312 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  v590
def k0_off200 (k0_t1 : Fin k0_t1_loop.trips) : Fin 3 → Nat :=
  let c0_246 : Index := 0#32
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  let v591 : BitVec 32 := v590
  let v592 : Index := Scalar.indexCast v591
  let c3328 : Index := 3328#32
  ![0, v592.toNat, 3328]
def k0_mult313 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  v595
def k0_off201 (k0_t1 : Fin k0_t1_loop.trips) : Fin 3 → Nat :=
  let c0_248 : Index := 0#32
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  let v596 : BitVec 32 := v595
  let v597 : Index := Scalar.indexCast v596
  let c3456 : Index := 3456#32
  ![0, v597.toNat, 3456]
def k0_mult314 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_259 : BitVec 32 := 64#32
  let v628 : BitVec 32 := Scalar.muli arg13 c64_i32_259
  v628
def k0_mult315 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_262 : BitVec 32 := 64#32
  let v635 : BitVec 32 := Scalar.muli arg13 c64_i32_262
  v635
def k0_mult316 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_265 : BitVec 32 := 64#32
  let v642 : BitVec 32 := Scalar.muli arg13 c64_i32_265
  v642
def k0_mult317 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_268 : BitVec 32 := 64#32
  let v649 : BitVec 32 := Scalar.muli arg13 c64_i32_268
  v649
def k0_off202 (i : grid0.Coords) (k0_t1 : Fin k0_t1_loop.trips) : Fin 3 → Nat :=
  let c0_273 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c640_i32_22 : BitVec 32 := 640#32
  let v51 : BitVec 32 := Scalar.subi v4 c640_i32_22
  let c0_i32_23 : BitVec 32 := 0#32
  let v52 : BitVec 32 := Scalar.maxsi v51 c0_i32_23
  let v53 : BitVec 32 := v52
  let v661 : Index := Scalar.indexCast v53
  let c896_274 : Index := 896#32
  ![0, v661.toNat, 896]
def k0_mult318 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  v664
def k0_off203 (k0_t1 : Fin k0_t1_loop.trips) : Fin 3 → Nat :=
  let c0_276 : Index := 0#32
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  let v665 : BitVec 32 := v664
  let v666 : Index := Scalar.indexCast v665
  let c3584 : Index := 3584#32
  ![0, v666.toNat, 3584]
def k0_mult319 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  v669
def k0_off204 (k0_t1 : Fin k0_t1_loop.trips) : Fin 3 → Nat :=
  let c0_278 : Index := 0#32
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  let v670 : BitVec 32 := v669
  let v671 : Index := Scalar.indexCast v670
  let c3712 : Index := 3712#32
  ![0, v671.toNat, 3712]
def k0_mult320 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  v674
def k0_off205 (k0_t1 : Fin k0_t1_loop.trips) : Fin 3 → Nat :=
  let c0_280 : Index := 0#32
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  let v675 : BitVec 32 := v674
  let v676 : Index := Scalar.indexCast v675
  let c3840 : Index := 3840#32
  ![0, v676.toNat, 3840]
def k0_mult321 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  v679
def k0_off206 (k0_t1 : Fin k0_t1_loop.trips) : Fin 3 → Nat :=
  let c0_282 : Index := 0#32
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  let v680 : BitVec 32 := v679
  let v681 : Index := Scalar.indexCast v680
  let c3968 : Index := 3968#32
  ![0, v681.toNat, 3968]
def k0_mult322 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_293 : BitVec 32 := 64#32
  let v712 : BitVec 32 := Scalar.muli arg13 c64_i32_293
  v712
def k0_mult323 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_296 : BitVec 32 := 64#32
  let v719 : BitVec 32 := Scalar.muli arg13 c64_i32_296
  v719
def k0_mult324 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_299 : BitVec 32 := 64#32
  let v726 : BitVec 32 := Scalar.muli arg13 c64_i32_299
  v726
def k0_mult325 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_302 : BitVec 32 := 64#32
  let v733 : BitVec 32 := Scalar.muli arg13 c64_i32_302
  v733
def k0_mult326 (i : grid0.Coords) (k0_t1 : Fin k0_t1_loop.trips) : BitVec 32 :=
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c768_i32_22 : BitVec 32 := 768#32
  let v51 : BitVec 32 := Scalar.subi v4 c768_i32_22
  let c0_i32_23 : BitVec 32 := 0#32
  let v52 : BitVec 32 := Scalar.maxsi v51 c0_i32_23
  v52
def k0_off207 (k0_t1 : Fin k0_t1_loop.trips) : Fin 4 → Nat :=
  let c0_24 : Index := 0#32
  let c0_25 : Index := 0#32
  let c0_i32 : BitVec 32 := 0#32
  let c1_i32 : BitVec 32 := 1#32
  let arg13 : BitVec 32 := Scf.iv c0_i32 c1_i32 k0_t1
  let v57 : Index := Scalar.indexCast arg13
  let c0_26 : Index := 0#32
  ![0, 0, v57.toNat, 0]
def k0_off208 (i : grid0.Coords) (k0_t1 : Fin k0_t1_loop.trips) : Fin 3 → Nat :=
  let c0_33 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c768_i32_22 : BitVec 32 := 768#32
  let v51 : BitVec 32 := Scalar.subi v4 c768_i32_22
  let c0_i32_23 : BitVec 32 := 0#32
  let v52 : BitVec 32 := Scalar.maxsi v51 c0_i32_23
  let v53 : BitVec 32 := v52
  let v74 : Index := Scalar.indexCast v53
  let c0_34 : Index := 0#32
  ![0, v74.toNat, 0]
def k0_mult327 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  v77
def k0_off209 (k0_t1 : Fin k0_t1_loop.trips) : Fin 3 → Nat :=
  let c0_36 : Index := 0#32
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  let v78 : BitVec 32 := v77
  let v79 : Index := Scalar.indexCast v78
  let c0_37 : Index := 0#32
  ![0, v79.toNat, 0]
def k0_mult328 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  v82
def k0_off210 (k0_t1 : Fin k0_t1_loop.trips) : Fin 3 → Nat :=
  let c0_39 : Index := 0#32
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  let v83 : BitVec 32 := v82
  let v84 : Index := Scalar.indexCast v83
  let c128 : Index := 128#32
  ![0, v84.toNat, 128]
def k0_mult329 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  v87
def k0_off211 (k0_t1 : Fin k0_t1_loop.trips) : Fin 3 → Nat :=
  let c0_41 : Index := 0#32
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  let v88 : BitVec 32 := v87
  let v89 : Index := Scalar.indexCast v88
  let c256 : Index := 256#32
  ![0, v89.toNat, 256]
def k0_mult330 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  v92
def k0_off212 (k0_t1 : Fin k0_t1_loop.trips) : Fin 3 → Nat :=
  let c0_43 : Index := 0#32
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  let v93 : BitVec 32 := v92
  let v94 : Index := Scalar.indexCast v93
  let c384 : Index := 384#32
  ![0, v94.toNat, 384]
def k0_mult331 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_55 : BitVec 32 := 64#32
  let v125 : BitVec 32 := Scalar.muli arg13 c64_i32_55
  v125
def k0_mult332 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_58 : BitVec 32 := 64#32
  let v132 : BitVec 32 := Scalar.muli arg13 c64_i32_58
  v132
def k0_mult333 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_61 : BitVec 32 := 64#32
  let v139 : BitVec 32 := Scalar.muli arg13 c64_i32_61
  v139
def k0_mult334 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_64 : BitVec 32 := 64#32
  let v146 : BitVec 32 := Scalar.muli arg13 c64_i32_64
  v146
def k0_off213 (i : grid0.Coords) (k0_t1 : Fin k0_t1_loop.trips) : Fin 3 → Nat :=
  let c0_69 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c768_i32_22 : BitVec 32 := 768#32
  let v51 : BitVec 32 := Scalar.subi v4 c768_i32_22
  let c0_i32_23 : BitVec 32 := 0#32
  let v52 : BitVec 32 := Scalar.maxsi v51 c0_i32_23
  let v53 : BitVec 32 := v52
  let v157 : Index := Scalar.indexCast v53
  let c128_70 : Index := 128#32
  ![0, v157.toNat, 128]
def k0_mult335 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  v160
def k0_off214 (k0_t1 : Fin k0_t1_loop.trips) : Fin 3 → Nat :=
  let c0_72 : Index := 0#32
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  let v161 : BitVec 32 := v160
  let v162 : Index := Scalar.indexCast v161
  let c512 : Index := 512#32
  ![0, v162.toNat, 512]
def k0_mult336 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  v165
def k0_off215 (k0_t1 : Fin k0_t1_loop.trips) : Fin 3 → Nat :=
  let c0_74 : Index := 0#32
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  let v166 : BitVec 32 := v165
  let v167 : Index := Scalar.indexCast v166
  let c640 : Index := 640#32
  ![0, v167.toNat, 640]
def k0_mult337 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  v170
def k0_off216 (k0_t1 : Fin k0_t1_loop.trips) : Fin 3 → Nat :=
  let c0_76 : Index := 0#32
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  let v171 : BitVec 32 := v170
  let v172 : Index := Scalar.indexCast v171
  let c768 : Index := 768#32
  ![0, v172.toNat, 768]
def k0_mult338 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  v175
def k0_off217 (k0_t1 : Fin k0_t1_loop.trips) : Fin 3 → Nat :=
  let c0_78 : Index := 0#32
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  let v176 : BitVec 32 := v175
  let v177 : Index := Scalar.indexCast v176
  let c896 : Index := 896#32
  ![0, v177.toNat, 896]
def k0_mult339 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_89 : BitVec 32 := 64#32
  let v208 : BitVec 32 := Scalar.muli arg13 c64_i32_89
  v208
def k0_mult340 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_92 : BitVec 32 := 64#32
  let v215 : BitVec 32 := Scalar.muli arg13 c64_i32_92
  v215
def k0_mult341 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_95 : BitVec 32 := 64#32
  let v222 : BitVec 32 := Scalar.muli arg13 c64_i32_95
  v222
def k0_mult342 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_98 : BitVec 32 := 64#32
  let v229 : BitVec 32 := Scalar.muli arg13 c64_i32_98
  v229
def k0_off218 (i : grid0.Coords) (k0_t1 : Fin k0_t1_loop.trips) : Fin 3 → Nat :=
  let c0_103 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c768_i32_22 : BitVec 32 := 768#32
  let v51 : BitVec 32 := Scalar.subi v4 c768_i32_22
  let c0_i32_23 : BitVec 32 := 0#32
  let v52 : BitVec 32 := Scalar.maxsi v51 c0_i32_23
  let v53 : BitVec 32 := v52
  let v241 : Index := Scalar.indexCast v53
  let c256_104 : Index := 256#32
  ![0, v241.toNat, 256]
def k0_mult343 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  v244
def k0_off219 (k0_t1 : Fin k0_t1_loop.trips) : Fin 3 → Nat :=
  let c0_106 : Index := 0#32
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  let v245 : BitVec 32 := v244
  let v246 : Index := Scalar.indexCast v245
  let c1024 : Index := 1024#32
  ![0, v246.toNat, 1024]
def k0_mult344 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  v249
def k0_off220 (k0_t1 : Fin k0_t1_loop.trips) : Fin 3 → Nat :=
  let c0_108 : Index := 0#32
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  let v250 : BitVec 32 := v249
  let v251 : Index := Scalar.indexCast v250
  let c1152 : Index := 1152#32
  ![0, v251.toNat, 1152]
def k0_mult345 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  v254
def k0_off221 (k0_t1 : Fin k0_t1_loop.trips) : Fin 3 → Nat :=
  let c0_110 : Index := 0#32
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  let v255 : BitVec 32 := v254
  let v256 : Index := Scalar.indexCast v255
  let c1280 : Index := 1280#32
  ![0, v256.toNat, 1280]
def k0_mult346 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  v259
def k0_off222 (k0_t1 : Fin k0_t1_loop.trips) : Fin 3 → Nat :=
  let c0_112 : Index := 0#32
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  let v260 : BitVec 32 := v259
  let v261 : Index := Scalar.indexCast v260
  let c1408 : Index := 1408#32
  ![0, v261.toNat, 1408]
def k0_mult347 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_123 : BitVec 32 := 64#32
  let v292 : BitVec 32 := Scalar.muli arg13 c64_i32_123
  v292
def k0_mult348 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_126 : BitVec 32 := 64#32
  let v299 : BitVec 32 := Scalar.muli arg13 c64_i32_126
  v299
def k0_mult349 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_129 : BitVec 32 := 64#32
  let v306 : BitVec 32 := Scalar.muli arg13 c64_i32_129
  v306
def k0_mult350 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_132 : BitVec 32 := 64#32
  let v313 : BitVec 32 := Scalar.muli arg13 c64_i32_132
  v313
def k0_off223 (i : grid0.Coords) (k0_t1 : Fin k0_t1_loop.trips) : Fin 3 → Nat :=
  let c0_137 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c768_i32_22 : BitVec 32 := 768#32
  let v51 : BitVec 32 := Scalar.subi v4 c768_i32_22
  let c0_i32_23 : BitVec 32 := 0#32
  let v52 : BitVec 32 := Scalar.maxsi v51 c0_i32_23
  let v53 : BitVec 32 := v52
  let v325 : Index := Scalar.indexCast v53
  let c384_138 : Index := 384#32
  ![0, v325.toNat, 384]
def k0_mult351 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  v328
def k0_off224 (k0_t1 : Fin k0_t1_loop.trips) : Fin 3 → Nat :=
  let c0_140 : Index := 0#32
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  let v329 : BitVec 32 := v328
  let v330 : Index := Scalar.indexCast v329
  let c1536 : Index := 1536#32
  ![0, v330.toNat, 1536]
def k0_mult352 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  v333
def k0_off225 (k0_t1 : Fin k0_t1_loop.trips) : Fin 3 → Nat :=
  let c0_142 : Index := 0#32
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  let v334 : BitVec 32 := v333
  let v335 : Index := Scalar.indexCast v334
  let c1664 : Index := 1664#32
  ![0, v335.toNat, 1664]
def k0_mult353 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  v338
def k0_off226 (k0_t1 : Fin k0_t1_loop.trips) : Fin 3 → Nat :=
  let c0_144 : Index := 0#32
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  let v339 : BitVec 32 := v338
  let v340 : Index := Scalar.indexCast v339
  let c1792 : Index := 1792#32
  ![0, v340.toNat, 1792]
def k0_mult354 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  v343
def k0_off227 (k0_t1 : Fin k0_t1_loop.trips) : Fin 3 → Nat :=
  let c0_146 : Index := 0#32
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  let v344 : BitVec 32 := v343
  let v345 : Index := Scalar.indexCast v344
  let c1920 : Index := 1920#32
  ![0, v345.toNat, 1920]
def k0_mult355 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_157 : BitVec 32 := 64#32
  let v376 : BitVec 32 := Scalar.muli arg13 c64_i32_157
  v376
def k0_mult356 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_160 : BitVec 32 := 64#32
  let v383 : BitVec 32 := Scalar.muli arg13 c64_i32_160
  v383
def k0_mult357 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_163 : BitVec 32 := 64#32
  let v390 : BitVec 32 := Scalar.muli arg13 c64_i32_163
  v390
def k0_mult358 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_166 : BitVec 32 := 64#32
  let v397 : BitVec 32 := Scalar.muli arg13 c64_i32_166
  v397
def k0_off228 (i : grid0.Coords) (k0_t1 : Fin k0_t1_loop.trips) : Fin 3 → Nat :=
  let c0_171 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c768_i32_22 : BitVec 32 := 768#32
  let v51 : BitVec 32 := Scalar.subi v4 c768_i32_22
  let c0_i32_23 : BitVec 32 := 0#32
  let v52 : BitVec 32 := Scalar.maxsi v51 c0_i32_23
  let v53 : BitVec 32 := v52
  let v409 : Index := Scalar.indexCast v53
  let c512_172 : Index := 512#32
  ![0, v409.toNat, 512]
def k0_mult359 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  v412
def k0_off229 (k0_t1 : Fin k0_t1_loop.trips) : Fin 3 → Nat :=
  let c0_174 : Index := 0#32
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  let v413 : BitVec 32 := v412
  let v414 : Index := Scalar.indexCast v413
  let c2048 : Index := 2048#32
  ![0, v414.toNat, 2048]
def k0_mult360 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  v417
def k0_off230 (k0_t1 : Fin k0_t1_loop.trips) : Fin 3 → Nat :=
  let c0_176 : Index := 0#32
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  let v418 : BitVec 32 := v417
  let v419 : Index := Scalar.indexCast v418
  let c2176 : Index := 2176#32
  ![0, v419.toNat, 2176]
def k0_mult361 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  v422
def k0_off231 (k0_t1 : Fin k0_t1_loop.trips) : Fin 3 → Nat :=
  let c0_178 : Index := 0#32
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  let v423 : BitVec 32 := v422
  let v424 : Index := Scalar.indexCast v423
  let c2304 : Index := 2304#32
  ![0, v424.toNat, 2304]
def k0_mult362 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  v427
def k0_off232 (k0_t1 : Fin k0_t1_loop.trips) : Fin 3 → Nat :=
  let c0_180 : Index := 0#32
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  let v428 : BitVec 32 := v427
  let v429 : Index := Scalar.indexCast v428
  let c2432 : Index := 2432#32
  ![0, v429.toNat, 2432]
def k0_mult363 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_191 : BitVec 32 := 64#32
  let v460 : BitVec 32 := Scalar.muli arg13 c64_i32_191
  v460
def k0_mult364 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_194 : BitVec 32 := 64#32
  let v467 : BitVec 32 := Scalar.muli arg13 c64_i32_194
  v467
def k0_mult365 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_197 : BitVec 32 := 64#32
  let v474 : BitVec 32 := Scalar.muli arg13 c64_i32_197
  v474
def k0_mult366 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_200 : BitVec 32 := 64#32
  let v481 : BitVec 32 := Scalar.muli arg13 c64_i32_200
  v481
def k0_off233 (i : grid0.Coords) (k0_t1 : Fin k0_t1_loop.trips) : Fin 3 → Nat :=
  let c0_205 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c768_i32_22 : BitVec 32 := 768#32
  let v51 : BitVec 32 := Scalar.subi v4 c768_i32_22
  let c0_i32_23 : BitVec 32 := 0#32
  let v52 : BitVec 32 := Scalar.maxsi v51 c0_i32_23
  let v53 : BitVec 32 := v52
  let v493 : Index := Scalar.indexCast v53
  let c640_206 : Index := 640#32
  ![0, v493.toNat, 640]
def k0_mult367 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  v496
def k0_off234 (k0_t1 : Fin k0_t1_loop.trips) : Fin 3 → Nat :=
  let c0_208 : Index := 0#32
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  let v497 : BitVec 32 := v496
  let v498 : Index := Scalar.indexCast v497
  let c2560 : Index := 2560#32
  ![0, v498.toNat, 2560]
def k0_mult368 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  v501
def k0_off235 (k0_t1 : Fin k0_t1_loop.trips) : Fin 3 → Nat :=
  let c0_210 : Index := 0#32
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  let v502 : BitVec 32 := v501
  let v503 : Index := Scalar.indexCast v502
  let c2688 : Index := 2688#32
  ![0, v503.toNat, 2688]
def k0_mult369 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  v506
def k0_off236 (k0_t1 : Fin k0_t1_loop.trips) : Fin 3 → Nat :=
  let c0_212 : Index := 0#32
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  let v507 : BitVec 32 := v506
  let v508 : Index := Scalar.indexCast v507
  let c2816 : Index := 2816#32
  ![0, v508.toNat, 2816]
def k0_mult370 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  v511
def k0_off237 (k0_t1 : Fin k0_t1_loop.trips) : Fin 3 → Nat :=
  let c0_214 : Index := 0#32
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  let v512 : BitVec 32 := v511
  let v513 : Index := Scalar.indexCast v512
  let c2944 : Index := 2944#32
  ![0, v513.toNat, 2944]
def k0_mult371 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_225 : BitVec 32 := 64#32
  let v544 : BitVec 32 := Scalar.muli arg13 c64_i32_225
  v544
def k0_mult372 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_228 : BitVec 32 := 64#32
  let v551 : BitVec 32 := Scalar.muli arg13 c64_i32_228
  v551
def k0_mult373 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_231 : BitVec 32 := 64#32
  let v558 : BitVec 32 := Scalar.muli arg13 c64_i32_231
  v558
def k0_mult374 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_234 : BitVec 32 := 64#32
  let v565 : BitVec 32 := Scalar.muli arg13 c64_i32_234
  v565
def k0_off238 (i : grid0.Coords) (k0_t1 : Fin k0_t1_loop.trips) : Fin 3 → Nat :=
  let c0_239 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c768_i32_22 : BitVec 32 := 768#32
  let v51 : BitVec 32 := Scalar.subi v4 c768_i32_22
  let c0_i32_23 : BitVec 32 := 0#32
  let v52 : BitVec 32 := Scalar.maxsi v51 c0_i32_23
  let v53 : BitVec 32 := v52
  let v577 : Index := Scalar.indexCast v53
  let c768_240 : Index := 768#32
  ![0, v577.toNat, 768]
def k0_mult375 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  v580
def k0_off239 (k0_t1 : Fin k0_t1_loop.trips) : Fin 3 → Nat :=
  let c0_242 : Index := 0#32
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  let v581 : BitVec 32 := v580
  let v582 : Index := Scalar.indexCast v581
  let c3072 : Index := 3072#32
  ![0, v582.toNat, 3072]
def k0_mult376 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  v585
def k0_off240 (k0_t1 : Fin k0_t1_loop.trips) : Fin 3 → Nat :=
  let c0_244 : Index := 0#32
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  let v586 : BitVec 32 := v585
  let v587 : Index := Scalar.indexCast v586
  let c3200 : Index := 3200#32
  ![0, v587.toNat, 3200]
def k0_mult377 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  v590
def k0_off241 (k0_t1 : Fin k0_t1_loop.trips) : Fin 3 → Nat :=
  let c0_246 : Index := 0#32
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  let v591 : BitVec 32 := v590
  let v592 : Index := Scalar.indexCast v591
  let c3328 : Index := 3328#32
  ![0, v592.toNat, 3328]
def k0_mult378 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  v595
def k0_off242 (k0_t1 : Fin k0_t1_loop.trips) : Fin 3 → Nat :=
  let c0_248 : Index := 0#32
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  let v596 : BitVec 32 := v595
  let v597 : Index := Scalar.indexCast v596
  let c3456 : Index := 3456#32
  ![0, v597.toNat, 3456]
def k0_mult379 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_259 : BitVec 32 := 64#32
  let v628 : BitVec 32 := Scalar.muli arg13 c64_i32_259
  v628
def k0_mult380 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_262 : BitVec 32 := 64#32
  let v635 : BitVec 32 := Scalar.muli arg13 c64_i32_262
  v635
def k0_mult381 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_265 : BitVec 32 := 64#32
  let v642 : BitVec 32 := Scalar.muli arg13 c64_i32_265
  v642
def k0_mult382 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_268 : BitVec 32 := 64#32
  let v649 : BitVec 32 := Scalar.muli arg13 c64_i32_268
  v649
def k0_off243 (i : grid0.Coords) (k0_t1 : Fin k0_t1_loop.trips) : Fin 3 → Nat :=
  let c0_273 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c768_i32_22 : BitVec 32 := 768#32
  let v51 : BitVec 32 := Scalar.subi v4 c768_i32_22
  let c0_i32_23 : BitVec 32 := 0#32
  let v52 : BitVec 32 := Scalar.maxsi v51 c0_i32_23
  let v53 : BitVec 32 := v52
  let v661 : Index := Scalar.indexCast v53
  let c896_274 : Index := 896#32
  ![0, v661.toNat, 896]
def k0_mult383 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  v664
def k0_off244 (k0_t1 : Fin k0_t1_loop.trips) : Fin 3 → Nat :=
  let c0_276 : Index := 0#32
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  let v665 : BitVec 32 := v664
  let v666 : Index := Scalar.indexCast v665
  let c3584 : Index := 3584#32
  ![0, v666.toNat, 3584]
def k0_mult384 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  v669
def k0_off245 (k0_t1 : Fin k0_t1_loop.trips) : Fin 3 → Nat :=
  let c0_278 : Index := 0#32
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  let v670 : BitVec 32 := v669
  let v671 : Index := Scalar.indexCast v670
  let c3712 : Index := 3712#32
  ![0, v671.toNat, 3712]
def k0_mult385 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  v674
def k0_off246 (k0_t1 : Fin k0_t1_loop.trips) : Fin 3 → Nat :=
  let c0_280 : Index := 0#32
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  let v675 : BitVec 32 := v674
  let v676 : Index := Scalar.indexCast v675
  let c3840 : Index := 3840#32
  ![0, v676.toNat, 3840]
def k0_mult386 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  v679
def k0_off247 (k0_t1 : Fin k0_t1_loop.trips) : Fin 3 → Nat :=
  let c0_282 : Index := 0#32
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  let v680 : BitVec 32 := v679
  let v681 : Index := Scalar.indexCast v680
  let c3968 : Index := 3968#32
  ![0, v681.toNat, 3968]
def k0_mult387 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_293 : BitVec 32 := 64#32
  let v712 : BitVec 32 := Scalar.muli arg13 c64_i32_293
  v712
def k0_mult388 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_296 : BitVec 32 := 64#32
  let v719 : BitVec 32 := Scalar.muli arg13 c64_i32_296
  v719
def k0_mult389 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_299 : BitVec 32 := 64#32
  let v726 : BitVec 32 := Scalar.muli arg13 c64_i32_299
  v726
def k0_mult390 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_302 : BitVec 32 := 64#32
  let v733 : BitVec 32 := Scalar.muli arg13 c64_i32_302
  v733
def k0_mult391 (i : grid0.Coords) (k0_t1 : Fin k0_t1_loop.trips) : BitVec 32 :=
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c1024_i32_22 : BitVec 32 := 1024#32
  let v51 : BitVec 32 := Scalar.subi v4 c1024_i32_22
  let c0_i32_23 : BitVec 32 := 0#32
  let v52 : BitVec 32 := Scalar.maxsi v51 c0_i32_23
  v52
def k0_off248 (k0_t1 : Fin k0_t1_loop.trips) : Fin 4 → Nat :=
  let c0_24 : Index := 0#32
  let c0_25 : Index := 0#32
  let c0_i32 : BitVec 32 := 0#32
  let c1_i32 : BitVec 32 := 1#32
  let arg13 : BitVec 32 := Scf.iv c0_i32 c1_i32 k0_t1
  let v57 : Index := Scalar.indexCast arg13
  let c0_26 : Index := 0#32
  ![0, 0, v57.toNat, 0]
def k0_off249 (i : grid0.Coords) (k0_t1 : Fin k0_t1_loop.trips) : Fin 3 → Nat :=
  let c0_33 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c1024_i32_22 : BitVec 32 := 1024#32
  let v51 : BitVec 32 := Scalar.subi v4 c1024_i32_22
  let c0_i32_23 : BitVec 32 := 0#32
  let v52 : BitVec 32 := Scalar.maxsi v51 c0_i32_23
  let v53 : BitVec 32 := v52
  let v74 : Index := Scalar.indexCast v53
  let c0_34 : Index := 0#32
  ![0, v74.toNat, 0]
def k0_mult392 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  v77
def k0_off250 (k0_t1 : Fin k0_t1_loop.trips) : Fin 3 → Nat :=
  let c0_36 : Index := 0#32
  let c0_i32 : BitVec 32 := 0#32
  let c1_i32 : BitVec 32 := 1#32
  let arg13 : BitVec 32 := Scf.iv c0_i32 c1_i32 k0_t1
  let c64_i32_35 : BitVec 32 := 64#32
  let v77 : BitVec 32 := Scalar.muli arg13 c64_i32_35
  let v78 : BitVec 32 := v77
  let v79 : Index := Scalar.indexCast v78
  let c0_37 : Index := 0#32
  ![0, v79.toNat, 0]
def k0_mult393 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  v82
def k0_off251 (k0_t1 : Fin k0_t1_loop.trips) : Fin 3 → Nat :=
  let c0_39 : Index := 0#32
  let c0_i32 : BitVec 32 := 0#32
  let c1_i32 : BitVec 32 := 1#32
  let arg13 : BitVec 32 := Scf.iv c0_i32 c1_i32 k0_t1
  let c64_i32_38 : BitVec 32 := 64#32
  let v82 : BitVec 32 := Scalar.muli arg13 c64_i32_38
  let v83 : BitVec 32 := v82
  let v84 : Index := Scalar.indexCast v83
  let c128 : Index := 128#32
  ![0, v84.toNat, 128]
def k0_mult394 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  v87
def k0_off252 (k0_t1 : Fin k0_t1_loop.trips) : Fin 3 → Nat :=
  let c0_41 : Index := 0#32
  let c0_i32 : BitVec 32 := 0#32
  let c1_i32 : BitVec 32 := 1#32
  let arg13 : BitVec 32 := Scf.iv c0_i32 c1_i32 k0_t1
  let c64_i32_40 : BitVec 32 := 64#32
  let v87 : BitVec 32 := Scalar.muli arg13 c64_i32_40
  let v88 : BitVec 32 := v87
  let v89 : Index := Scalar.indexCast v88
  let c256 : Index := 256#32
  ![0, v89.toNat, 256]
def k0_mult395 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  v92
def k0_off253 (k0_t1 : Fin k0_t1_loop.trips) : Fin 3 → Nat :=
  let c0_43 : Index := 0#32
  let c0_i32 : BitVec 32 := 0#32
  let c1_i32 : BitVec 32 := 1#32
  let arg13 : BitVec 32 := Scf.iv c0_i32 c1_i32 k0_t1
  let c64_i32_42 : BitVec 32 := 64#32
  let v92 : BitVec 32 := Scalar.muli arg13 c64_i32_42
  let v93 : BitVec 32 := v92
  let v94 : Index := Scalar.indexCast v93
  let c384 : Index := 384#32
  ![0, v94.toNat, 384]
def k0_mult396 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_55 : BitVec 32 := 64#32
  let v125 : BitVec 32 := Scalar.muli arg13 c64_i32_55
  v125
def k0_mult397 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_58 : BitVec 32 := 64#32
  let v132 : BitVec 32 := Scalar.muli arg13 c64_i32_58
  v132
def k0_mult398 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_61 : BitVec 32 := 64#32
  let v139 : BitVec 32 := Scalar.muli arg13 c64_i32_61
  v139
def k0_mult399 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_64 : BitVec 32 := 64#32
  let v146 : BitVec 32 := Scalar.muli arg13 c64_i32_64
  v146
def k0_off254 (i : grid0.Coords) (k0_t1 : Fin k0_t1_loop.trips) : Fin 3 → Nat :=
  let c0_69 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c1024_i32_22 : BitVec 32 := 1024#32
  let v51 : BitVec 32 := Scalar.subi v4 c1024_i32_22
  let c0_i32_23 : BitVec 32 := 0#32
  let v52 : BitVec 32 := Scalar.maxsi v51 c0_i32_23
  let v53 : BitVec 32 := v52
  let v157 : Index := Scalar.indexCast v53
  let c128_70 : Index := 128#32
  ![0, v157.toNat, 128]
def k0_mult400 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  v160
def k0_off255 (k0_t1 : Fin k0_t1_loop.trips) : Fin 3 → Nat :=
  let c0_72 : Index := 0#32
  let c0_i32 : BitVec 32 := 0#32
  let c1_i32 : BitVec 32 := 1#32
  let arg13 : BitVec 32 := Scf.iv c0_i32 c1_i32 k0_t1
  let c64_i32_71 : BitVec 32 := 64#32
  let v160 : BitVec 32 := Scalar.muli arg13 c64_i32_71
  let v161 : BitVec 32 := v160
  let v162 : Index := Scalar.indexCast v161
  let c512 : Index := 512#32
  ![0, v162.toNat, 512]
def k0_mult401 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  v165
def k0_off256 (k0_t1 : Fin k0_t1_loop.trips) : Fin 3 → Nat :=
  let c0_74 : Index := 0#32
  let c0_i32 : BitVec 32 := 0#32
  let c1_i32 : BitVec 32 := 1#32
  let arg13 : BitVec 32 := Scf.iv c0_i32 c1_i32 k0_t1
  let c64_i32_73 : BitVec 32 := 64#32
  let v165 : BitVec 32 := Scalar.muli arg13 c64_i32_73
  let v166 : BitVec 32 := v165
  let v167 : Index := Scalar.indexCast v166
  let c640 : Index := 640#32
  ![0, v167.toNat, 640]
def k0_mult402 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  v170
def k0_off257 (k0_t1 : Fin k0_t1_loop.trips) : Fin 3 → Nat :=
  let c0_76 : Index := 0#32
  let c0_i32 : BitVec 32 := 0#32
  let c1_i32 : BitVec 32 := 1#32
  let arg13 : BitVec 32 := Scf.iv c0_i32 c1_i32 k0_t1
  let c64_i32_75 : BitVec 32 := 64#32
  let v170 : BitVec 32 := Scalar.muli arg13 c64_i32_75
  let v171 : BitVec 32 := v170
  let v172 : Index := Scalar.indexCast v171
  let c768 : Index := 768#32
  ![0, v172.toNat, 768]
def k0_mult403 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  v175
def k0_off258 (k0_t1 : Fin k0_t1_loop.trips) : Fin 3 → Nat :=
  let c0_78 : Index := 0#32
  let c0_i32 : BitVec 32 := 0#32
  let c1_i32 : BitVec 32 := 1#32
  let arg13 : BitVec 32 := Scf.iv c0_i32 c1_i32 k0_t1
  let c64_i32_77 : BitVec 32 := 64#32
  let v175 : BitVec 32 := Scalar.muli arg13 c64_i32_77
  let v176 : BitVec 32 := v175
  let v177 : Index := Scalar.indexCast v176
  let c896 : Index := 896#32
  ![0, v177.toNat, 896]
def k0_mult404 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_89 : BitVec 32 := 64#32
  let v208 : BitVec 32 := Scalar.muli arg13 c64_i32_89
  v208
def k0_mult405 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_92 : BitVec 32 := 64#32
  let v215 : BitVec 32 := Scalar.muli arg13 c64_i32_92
  v215
def k0_mult406 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_95 : BitVec 32 := 64#32
  let v222 : BitVec 32 := Scalar.muli arg13 c64_i32_95
  v222
def k0_mult407 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_98 : BitVec 32 := 64#32
  let v229 : BitVec 32 := Scalar.muli arg13 c64_i32_98
  v229
def k0_off259 (i : grid0.Coords) (k0_t1 : Fin k0_t1_loop.trips) : Fin 3 → Nat :=
  let c0_103 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c1024_i32_22 : BitVec 32 := 1024#32
  let v51 : BitVec 32 := Scalar.subi v4 c1024_i32_22
  let c0_i32_23 : BitVec 32 := 0#32
  let v52 : BitVec 32 := Scalar.maxsi v51 c0_i32_23
  let v53 : BitVec 32 := v52
  let v241 : Index := Scalar.indexCast v53
  let c256_104 : Index := 256#32
  ![0, v241.toNat, 256]
def k0_mult408 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  v244
def k0_off260 (k0_t1 : Fin k0_t1_loop.trips) : Fin 3 → Nat :=
  let c0_106 : Index := 0#32
  let c0_i32 : BitVec 32 := 0#32
  let c1_i32 : BitVec 32 := 1#32
  let arg13 : BitVec 32 := Scf.iv c0_i32 c1_i32 k0_t1
  let c64_i32_105 : BitVec 32 := 64#32
  let v244 : BitVec 32 := Scalar.muli arg13 c64_i32_105
  let v245 : BitVec 32 := v244
  let v246 : Index := Scalar.indexCast v245
  let c1024 : Index := 1024#32
  ![0, v246.toNat, 1024]
def k0_mult409 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  v249
def k0_off261 (k0_t1 : Fin k0_t1_loop.trips) : Fin 3 → Nat :=
  let c0_108 : Index := 0#32
  let c0_i32 : BitVec 32 := 0#32
  let c1_i32 : BitVec 32 := 1#32
  let arg13 : BitVec 32 := Scf.iv c0_i32 c1_i32 k0_t1
  let c64_i32_107 : BitVec 32 := 64#32
  let v249 : BitVec 32 := Scalar.muli arg13 c64_i32_107
  let v250 : BitVec 32 := v249
  let v251 : Index := Scalar.indexCast v250
  let c1152 : Index := 1152#32
  ![0, v251.toNat, 1152]
def k0_mult410 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  v254
def k0_off262 (k0_t1 : Fin k0_t1_loop.trips) : Fin 3 → Nat :=
  let c0_110 : Index := 0#32
  let c0_i32 : BitVec 32 := 0#32
  let c1_i32 : BitVec 32 := 1#32
  let arg13 : BitVec 32 := Scf.iv c0_i32 c1_i32 k0_t1
  let c64_i32_109 : BitVec 32 := 64#32
  let v254 : BitVec 32 := Scalar.muli arg13 c64_i32_109
  let v255 : BitVec 32 := v254
  let v256 : Index := Scalar.indexCast v255
  let c1280 : Index := 1280#32
  ![0, v256.toNat, 1280]
def k0_mult411 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  v259
def k0_off263 (k0_t1 : Fin k0_t1_loop.trips) : Fin 3 → Nat :=
  let c0_112 : Index := 0#32
  let c0_i32 : BitVec 32 := 0#32
  let c1_i32 : BitVec 32 := 1#32
  let arg13 : BitVec 32 := Scf.iv c0_i32 c1_i32 k0_t1
  let c64_i32_111 : BitVec 32 := 64#32
  let v259 : BitVec 32 := Scalar.muli arg13 c64_i32_111
  let v260 : BitVec 32 := v259
  let v261 : Index := Scalar.indexCast v260
  let c1408 : Index := 1408#32
  ![0, v261.toNat, 1408]
def k0_mult412 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_123 : BitVec 32 := 64#32
  let v292 : BitVec 32 := Scalar.muli arg13 c64_i32_123
  v292
def k0_mult413 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_126 : BitVec 32 := 64#32
  let v299 : BitVec 32 := Scalar.muli arg13 c64_i32_126
  v299
def k0_mult414 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_129 : BitVec 32 := 64#32
  let v306 : BitVec 32 := Scalar.muli arg13 c64_i32_129
  v306
def k0_mult415 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_132 : BitVec 32 := 64#32
  let v313 : BitVec 32 := Scalar.muli arg13 c64_i32_132
  v313
def k0_off264 (i : grid0.Coords) (k0_t1 : Fin k0_t1_loop.trips) : Fin 3 → Nat :=
  let c0_137 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c1024_i32_22 : BitVec 32 := 1024#32
  let v51 : BitVec 32 := Scalar.subi v4 c1024_i32_22
  let c0_i32_23 : BitVec 32 := 0#32
  let v52 : BitVec 32 := Scalar.maxsi v51 c0_i32_23
  let v53 : BitVec 32 := v52
  let v325 : Index := Scalar.indexCast v53
  let c384_138 : Index := 384#32
  ![0, v325.toNat, 384]
def k0_mult416 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  v328
def k0_off265 (k0_t1 : Fin k0_t1_loop.trips) : Fin 3 → Nat :=
  let c0_140 : Index := 0#32
  let c0_i32 : BitVec 32 := 0#32
  let c1_i32 : BitVec 32 := 1#32
  let arg13 : BitVec 32 := Scf.iv c0_i32 c1_i32 k0_t1
  let c64_i32_139 : BitVec 32 := 64#32
  let v328 : BitVec 32 := Scalar.muli arg13 c64_i32_139
  let v329 : BitVec 32 := v328
  let v330 : Index := Scalar.indexCast v329
  let c1536 : Index := 1536#32
  ![0, v330.toNat, 1536]
def k0_mult417 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  v333
def k0_off266 (k0_t1 : Fin k0_t1_loop.trips) : Fin 3 → Nat :=
  let c0_142 : Index := 0#32
  let c0_i32 : BitVec 32 := 0#32
  let c1_i32 : BitVec 32 := 1#32
  let arg13 : BitVec 32 := Scf.iv c0_i32 c1_i32 k0_t1
  let c64_i32_141 : BitVec 32 := 64#32
  let v333 : BitVec 32 := Scalar.muli arg13 c64_i32_141
  let v334 : BitVec 32 := v333
  let v335 : Index := Scalar.indexCast v334
  let c1664 : Index := 1664#32
  ![0, v335.toNat, 1664]
def k0_mult418 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  v338
def k0_off267 (k0_t1 : Fin k0_t1_loop.trips) : Fin 3 → Nat :=
  let c0_144 : Index := 0#32
  let c0_i32 : BitVec 32 := 0#32
  let c1_i32 : BitVec 32 := 1#32
  let arg13 : BitVec 32 := Scf.iv c0_i32 c1_i32 k0_t1
  let c64_i32_143 : BitVec 32 := 64#32
  let v338 : BitVec 32 := Scalar.muli arg13 c64_i32_143
  let v339 : BitVec 32 := v338
  let v340 : Index := Scalar.indexCast v339
  let c1792 : Index := 1792#32
  ![0, v340.toNat, 1792]
def k0_mult419 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  v343
def k0_off268 (k0_t1 : Fin k0_t1_loop.trips) : Fin 3 → Nat :=
  let c0_146 : Index := 0#32
  let c0_i32 : BitVec 32 := 0#32
  let c1_i32 : BitVec 32 := 1#32
  let arg13 : BitVec 32 := Scf.iv c0_i32 c1_i32 k0_t1
  let c64_i32_145 : BitVec 32 := 64#32
  let v343 : BitVec 32 := Scalar.muli arg13 c64_i32_145
  let v344 : BitVec 32 := v343
  let v345 : Index := Scalar.indexCast v344
  let c1920 : Index := 1920#32
  ![0, v345.toNat, 1920]
def k0_mult420 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_157 : BitVec 32 := 64#32
  let v376 : BitVec 32 := Scalar.muli arg13 c64_i32_157
  v376
def k0_mult421 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_160 : BitVec 32 := 64#32
  let v383 : BitVec 32 := Scalar.muli arg13 c64_i32_160
  v383
def k0_mult422 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_163 : BitVec 32 := 64#32
  let v390 : BitVec 32 := Scalar.muli arg13 c64_i32_163
  v390
def k0_mult423 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_166 : BitVec 32 := 64#32
  let v397 : BitVec 32 := Scalar.muli arg13 c64_i32_166
  v397
def k0_off269 (i : grid0.Coords) (k0_t1 : Fin k0_t1_loop.trips) : Fin 3 → Nat :=
  let c0_171 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c1024_i32_22 : BitVec 32 := 1024#32
  let v51 : BitVec 32 := Scalar.subi v4 c1024_i32_22
  let c0_i32_23 : BitVec 32 := 0#32
  let v52 : BitVec 32 := Scalar.maxsi v51 c0_i32_23
  let v53 : BitVec 32 := v52
  let v409 : Index := Scalar.indexCast v53
  let c512_172 : Index := 512#32
  ![0, v409.toNat, 512]
def k0_mult424 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  v412
def k0_off270 (k0_t1 : Fin k0_t1_loop.trips) : Fin 3 → Nat :=
  let c0_174 : Index := 0#32
  let c0_i32 : BitVec 32 := 0#32
  let c1_i32 : BitVec 32 := 1#32
  let arg13 : BitVec 32 := Scf.iv c0_i32 c1_i32 k0_t1
  let c64_i32_173 : BitVec 32 := 64#32
  let v412 : BitVec 32 := Scalar.muli arg13 c64_i32_173
  let v413 : BitVec 32 := v412
  let v414 : Index := Scalar.indexCast v413
  let c2048 : Index := 2048#32
  ![0, v414.toNat, 2048]
def k0_mult425 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  v417
def k0_off271 (k0_t1 : Fin k0_t1_loop.trips) : Fin 3 → Nat :=
  let c0_176 : Index := 0#32
  let c0_i32 : BitVec 32 := 0#32
  let c1_i32 : BitVec 32 := 1#32
  let arg13 : BitVec 32 := Scf.iv c0_i32 c1_i32 k0_t1
  let c64_i32_175 : BitVec 32 := 64#32
  let v417 : BitVec 32 := Scalar.muli arg13 c64_i32_175
  let v418 : BitVec 32 := v417
  let v419 : Index := Scalar.indexCast v418
  let c2176 : Index := 2176#32
  ![0, v419.toNat, 2176]
def k0_mult426 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  v422
def k0_off272 (k0_t1 : Fin k0_t1_loop.trips) : Fin 3 → Nat :=
  let c0_178 : Index := 0#32
  let c0_i32 : BitVec 32 := 0#32
  let c1_i32 : BitVec 32 := 1#32
  let arg13 : BitVec 32 := Scf.iv c0_i32 c1_i32 k0_t1
  let c64_i32_177 : BitVec 32 := 64#32
  let v422 : BitVec 32 := Scalar.muli arg13 c64_i32_177
  let v423 : BitVec 32 := v422
  let v424 : Index := Scalar.indexCast v423
  let c2304 : Index := 2304#32
  ![0, v424.toNat, 2304]
def k0_mult427 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  v427
def k0_off273 (k0_t1 : Fin k0_t1_loop.trips) : Fin 3 → Nat :=
  let c0_180 : Index := 0#32
  let c0_i32 : BitVec 32 := 0#32
  let c1_i32 : BitVec 32 := 1#32
  let arg13 : BitVec 32 := Scf.iv c0_i32 c1_i32 k0_t1
  let c64_i32_179 : BitVec 32 := 64#32
  let v427 : BitVec 32 := Scalar.muli arg13 c64_i32_179
  let v428 : BitVec 32 := v427
  let v429 : Index := Scalar.indexCast v428
  let c2432 : Index := 2432#32
  ![0, v429.toNat, 2432]
def k0_mult428 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_191 : BitVec 32 := 64#32
  let v460 : BitVec 32 := Scalar.muli arg13 c64_i32_191
  v460
def k0_mult429 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_194 : BitVec 32 := 64#32
  let v467 : BitVec 32 := Scalar.muli arg13 c64_i32_194
  v467
def k0_mult430 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_197 : BitVec 32 := 64#32
  let v474 : BitVec 32 := Scalar.muli arg13 c64_i32_197
  v474
def k0_mult431 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_200 : BitVec 32 := 64#32
  let v481 : BitVec 32 := Scalar.muli arg13 c64_i32_200
  v481
def k0_off274 (i : grid0.Coords) (k0_t1 : Fin k0_t1_loop.trips) : Fin 3 → Nat :=
  let c0_205 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c1024_i32_22 : BitVec 32 := 1024#32
  let v51 : BitVec 32 := Scalar.subi v4 c1024_i32_22
  let c0_i32_23 : BitVec 32 := 0#32
  let v52 : BitVec 32 := Scalar.maxsi v51 c0_i32_23
  let v53 : BitVec 32 := v52
  let v493 : Index := Scalar.indexCast v53
  let c640_206 : Index := 640#32
  ![0, v493.toNat, 640]
def k0_mult432 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  v496
def k0_off275 (k0_t1 : Fin k0_t1_loop.trips) : Fin 3 → Nat :=
  let c0_208 : Index := 0#32
  let c0_i32 : BitVec 32 := 0#32
  let c1_i32 : BitVec 32 := 1#32
  let arg13 : BitVec 32 := Scf.iv c0_i32 c1_i32 k0_t1
  let c64_i32_207 : BitVec 32 := 64#32
  let v496 : BitVec 32 := Scalar.muli arg13 c64_i32_207
  let v497 : BitVec 32 := v496
  let v498 : Index := Scalar.indexCast v497
  let c2560 : Index := 2560#32
  ![0, v498.toNat, 2560]
def k0_mult433 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  v501
def k0_off276 (k0_t1 : Fin k0_t1_loop.trips) : Fin 3 → Nat :=
  let c0_210 : Index := 0#32
  let c0_i32 : BitVec 32 := 0#32
  let c1_i32 : BitVec 32 := 1#32
  let arg13 : BitVec 32 := Scf.iv c0_i32 c1_i32 k0_t1
  let c64_i32_209 : BitVec 32 := 64#32
  let v501 : BitVec 32 := Scalar.muli arg13 c64_i32_209
  let v502 : BitVec 32 := v501
  let v503 : Index := Scalar.indexCast v502
  let c2688 : Index := 2688#32
  ![0, v503.toNat, 2688]
def k0_mult434 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  v506
def k0_off277 (k0_t1 : Fin k0_t1_loop.trips) : Fin 3 → Nat :=
  let c0_212 : Index := 0#32
  let c0_i32 : BitVec 32 := 0#32
  let c1_i32 : BitVec 32 := 1#32
  let arg13 : BitVec 32 := Scf.iv c0_i32 c1_i32 k0_t1
  let c64_i32_211 : BitVec 32 := 64#32
  let v506 : BitVec 32 := Scalar.muli arg13 c64_i32_211
  let v507 : BitVec 32 := v506
  let v508 : Index := Scalar.indexCast v507
  let c2816 : Index := 2816#32
  ![0, v508.toNat, 2816]
def k0_mult435 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  v511
def k0_off278 (k0_t1 : Fin k0_t1_loop.trips) : Fin 3 → Nat :=
  let c0_214 : Index := 0#32
  let c0_i32 : BitVec 32 := 0#32
  let c1_i32 : BitVec 32 := 1#32
  let arg13 : BitVec 32 := Scf.iv c0_i32 c1_i32 k0_t1
  let c64_i32_213 : BitVec 32 := 64#32
  let v511 : BitVec 32 := Scalar.muli arg13 c64_i32_213
  let v512 : BitVec 32 := v511
  let v513 : Index := Scalar.indexCast v512
  let c2944 : Index := 2944#32
  ![0, v513.toNat, 2944]
def k0_mult436 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_225 : BitVec 32 := 64#32
  let v544 : BitVec 32 := Scalar.muli arg13 c64_i32_225
  v544
def k0_mult437 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_228 : BitVec 32 := 64#32
  let v551 : BitVec 32 := Scalar.muli arg13 c64_i32_228
  v551
def k0_mult438 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_231 : BitVec 32 := 64#32
  let v558 : BitVec 32 := Scalar.muli arg13 c64_i32_231
  v558
def k0_mult439 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_234 : BitVec 32 := 64#32
  let v565 : BitVec 32 := Scalar.muli arg13 c64_i32_234
  v565
def k0_off279 (i : grid0.Coords) (k0_t1 : Fin k0_t1_loop.trips) : Fin 3 → Nat :=
  let c0_239 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c1024_i32_22 : BitVec 32 := 1024#32
  let v51 : BitVec 32 := Scalar.subi v4 c1024_i32_22
  let c0_i32_23 : BitVec 32 := 0#32
  let v52 : BitVec 32 := Scalar.maxsi v51 c0_i32_23
  let v53 : BitVec 32 := v52
  let v577 : Index := Scalar.indexCast v53
  let c768_240 : Index := 768#32
  ![0, v577.toNat, 768]
def k0_mult440 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  v580
def k0_off280 (k0_t1 : Fin k0_t1_loop.trips) : Fin 3 → Nat :=
  let c0_242 : Index := 0#32
  let c0_i32 : BitVec 32 := 0#32
  let c1_i32 : BitVec 32 := 1#32
  let arg13 : BitVec 32 := Scf.iv c0_i32 c1_i32 k0_t1
  let c64_i32_241 : BitVec 32 := 64#32
  let v580 : BitVec 32 := Scalar.muli arg13 c64_i32_241
  let v581 : BitVec 32 := v580
  let v582 : Index := Scalar.indexCast v581
  let c3072 : Index := 3072#32
  ![0, v582.toNat, 3072]
def k0_mult441 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  v585
def k0_off281 (k0_t1 : Fin k0_t1_loop.trips) : Fin 3 → Nat :=
  let c0_244 : Index := 0#32
  let c0_i32 : BitVec 32 := 0#32
  let c1_i32 : BitVec 32 := 1#32
  let arg13 : BitVec 32 := Scf.iv c0_i32 c1_i32 k0_t1
  let c64_i32_243 : BitVec 32 := 64#32
  let v585 : BitVec 32 := Scalar.muli arg13 c64_i32_243
  let v586 : BitVec 32 := v585
  let v587 : Index := Scalar.indexCast v586
  let c3200 : Index := 3200#32
  ![0, v587.toNat, 3200]
def k0_mult442 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  v590
def k0_off282 (k0_t1 : Fin k0_t1_loop.trips) : Fin 3 → Nat :=
  let c0_246 : Index := 0#32
  let c0_i32 : BitVec 32 := 0#32
  let c1_i32 : BitVec 32 := 1#32
  let arg13 : BitVec 32 := Scf.iv c0_i32 c1_i32 k0_t1
  let c64_i32_245 : BitVec 32 := 64#32
  let v590 : BitVec 32 := Scalar.muli arg13 c64_i32_245
  let v591 : BitVec 32 := v590
  let v592 : Index := Scalar.indexCast v591
  let c3328 : Index := 3328#32
  ![0, v592.toNat, 3328]
def k0_mult443 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  v595
def k0_off283 (k0_t1 : Fin k0_t1_loop.trips) : Fin 3 → Nat :=
  let c0_248 : Index := 0#32
  let c0_i32 : BitVec 32 := 0#32
  let c1_i32 : BitVec 32 := 1#32
  let arg13 : BitVec 32 := Scf.iv c0_i32 c1_i32 k0_t1
  let c64_i32_247 : BitVec 32 := 64#32
  let v595 : BitVec 32 := Scalar.muli arg13 c64_i32_247
  let v596 : BitVec 32 := v595
  let v597 : Index := Scalar.indexCast v596
  let c3456 : Index := 3456#32
  ![0, v597.toNat, 3456]
def k0_mult444 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_259 : BitVec 32 := 64#32
  let v628 : BitVec 32 := Scalar.muli arg13 c64_i32_259
  v628
def k0_mult445 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_262 : BitVec 32 := 64#32
  let v635 : BitVec 32 := Scalar.muli arg13 c64_i32_262
  v635
def k0_mult446 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_265 : BitVec 32 := 64#32
  let v642 : BitVec 32 := Scalar.muli arg13 c64_i32_265
  v642
def k0_mult447 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_268 : BitVec 32 := 64#32
  let v649 : BitVec 32 := Scalar.muli arg13 c64_i32_268
  v649
def k0_off284 (i : grid0.Coords) (k0_t1 : Fin k0_t1_loop.trips) : Fin 3 → Nat :=
  let c0_273 : Index := 0#32
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c1024_i32_22 : BitVec 32 := 1024#32
  let v51 : BitVec 32 := Scalar.subi v4 c1024_i32_22
  let c0_i32_23 : BitVec 32 := 0#32
  let v52 : BitVec 32 := Scalar.maxsi v51 c0_i32_23
  let v53 : BitVec 32 := v52
  let v661 : Index := Scalar.indexCast v53
  let c896_274 : Index := 896#32
  ![0, v661.toNat, 896]
def k0_mult448 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  v664
def k0_off285 (k0_t1 : Fin k0_t1_loop.trips) : Fin 3 → Nat :=
  let c0_276 : Index := 0#32
  let c0_i32 : BitVec 32 := 0#32
  let c1_i32 : BitVec 32 := 1#32
  let arg13 : BitVec 32 := Scf.iv c0_i32 c1_i32 k0_t1
  let c64_i32_275 : BitVec 32 := 64#32
  let v664 : BitVec 32 := Scalar.muli arg13 c64_i32_275
  let v665 : BitVec 32 := v664
  let v666 : Index := Scalar.indexCast v665
  let c3584 : Index := 3584#32
  ![0, v666.toNat, 3584]
def k0_mult449 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  v669
def k0_off286 (k0_t1 : Fin k0_t1_loop.trips) : Fin 3 → Nat :=
  let c0_278 : Index := 0#32
  let c0_i32 : BitVec 32 := 0#32
  let c1_i32 : BitVec 32 := 1#32
  let arg13 : BitVec 32 := Scf.iv c0_i32 c1_i32 k0_t1
  let c64_i32_277 : BitVec 32 := 64#32
  let v669 : BitVec 32 := Scalar.muli arg13 c64_i32_277
  let v670 : BitVec 32 := v669
  let v671 : Index := Scalar.indexCast v670
  let c3712 : Index := 3712#32
  ![0, v671.toNat, 3712]
def k0_mult450 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  v674
def k0_off287 (k0_t1 : Fin k0_t1_loop.trips) : Fin 3 → Nat :=
  let c0_280 : Index := 0#32
  let c0_i32 : BitVec 32 := 0#32
  let c1_i32 : BitVec 32 := 1#32
  let arg13 : BitVec 32 := Scf.iv c0_i32 c1_i32 k0_t1
  let c64_i32_279 : BitVec 32 := 64#32
  let v674 : BitVec 32 := Scalar.muli arg13 c64_i32_279
  let v675 : BitVec 32 := v674
  let v676 : Index := Scalar.indexCast v675
  let c3840 : Index := 3840#32
  ![0, v676.toNat, 3840]
def k0_mult451 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  v679
def k0_off288 (k0_t1 : Fin k0_t1_loop.trips) : Fin 3 → Nat :=
  let c0_282 : Index := 0#32
  let c0_i32 : BitVec 32 := 0#32
  let c1_i32 : BitVec 32 := 1#32
  let arg13 : BitVec 32 := Scf.iv c0_i32 c1_i32 k0_t1
  let c64_i32_281 : BitVec 32 := 64#32
  let v679 : BitVec 32 := Scalar.muli arg13 c64_i32_281
  let v680 : BitVec 32 := v679
  let v681 : Index := Scalar.indexCast v680
  let c3968 : Index := 3968#32
  ![0, v681.toNat, 3968]
def k0_mult452 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_293 : BitVec 32 := 64#32
  let v712 : BitVec 32 := Scalar.muli arg13 c64_i32_293
  v712
def k0_mult453 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_296 : BitVec 32 := 64#32
  let v719 : BitVec 32 := Scalar.muli arg13 c64_i32_296
  v719
def k0_mult454 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_299 : BitVec 32 := 64#32
  let v726 : BitVec 32 := Scalar.muli arg13 c64_i32_299
  v726
def k0_mult455 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_302 : BitVec 32 := 64#32
  let v733 : BitVec 32 := Scalar.muli arg13 c64_i32_302
  v733
@[reducible] def k0_t2_loop : Scf.Loop 32 :=
  let c0_i32_38 : BitVec 32 := 0#32
  let c8_i32_39 : BitVec 32 := 8#32
  let v87 : BitVec 32 := Scalar.addi c0_i32_38 c8_i32_39
  let c1_i32_40 : BitVec 32 := 1#32
  ⟨c0_i32_38, v87, c1_i32_40⟩
def k0_mult456 (k0_t2 : Fin k0_t2_loop.trips) : BitVec 32 :=
  let c0_i32_38 : BitVec 32 := 0#32
  let c1_i32_40 : BitVec 32 := 1#32
  let arg14 : BitVec 32 := Scf.iv c0_i32_38 c1_i32_40 k0_t2
  let c128_i32_42 : BitVec 32 := 128#32
  let v88 : BitVec 32 := Scalar.muli arg14 c128_i32_42
  v88
def k0_mult457 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_43 : BitVec 32 := 64#32
  let v90 : BitVec 32 := Scalar.muli arg13 c64_i32_43
  v90
def k0_mult458 (k0_t2 : Fin k0_t2_loop.trips) : BitVec 32 :=
  let c0_i32_38 : BitVec 32 := 0#32
  let c1_i32_40 : BitVec 32 := 1#32
  let arg14 : BitVec 32 := Scf.iv c0_i32_38 c1_i32_40 k0_t2
  let c4_i32 : BitVec 32 := 4#32
  let v92 : BitVec 32 := Scalar.muli arg14 c4_i32
  let c0_i32_44 : BitVec 32 := 0#32
  let v93 : BitVec 32 := Scalar.addi v92 c0_i32_44
  let c128_i32_45 : BitVec 32 := 128#32
  let v94 : BitVec 32 := Scalar.muli v93 c128_i32_45
  v94
def k0_off289 (k0_t1 : Fin k0_t1_loop.trips) (k0_t2 : Fin k0_t2_loop.trips) (c0_i32_44 : BitVec 32) : Fin 3 → Nat :=
  let c0_46 : Index := 0#32
  let c0_i32 : BitVec 32 := 0#32
  let c1_i32 : BitVec 32 := 1#32
  let arg13 : BitVec 32 := Scf.iv c0_i32 c1_i32 k0_t1
  let c64_i32_43 : BitVec 32 := 64#32
  let v90 : BitVec 32 := Scalar.muli arg13 c64_i32_43
  let v91 : BitVec 32 := v90
  let v96 : Index := Scalar.indexCast v91
  let c0_i32_38 : BitVec 32 := 0#32
  let c1_i32_40 : BitVec 32 := 1#32
  let arg14 : BitVec 32 := Scf.iv c0_i32_38 c1_i32_40 k0_t2
  let c4_i32 : BitVec 32 := 4#32
  let v92 : BitVec 32 := Scalar.muli arg14 c4_i32
  let v93 : BitVec 32 := Scalar.addi v92 c0_i32_44
  let c128_i32_45 : BitVec 32 := 128#32
  let v94 : BitVec 32 := Scalar.muli v93 c128_i32_45
  let v95 : BitVec 32 := v94
  let v97 : Index := Scalar.indexCast v95
  ![0, v96.toNat, v97.toNat]
def k0_mult459 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_47 : BitVec 32 := 64#32
  let v100 : BitVec 32 := Scalar.muli arg13 c64_i32_47
  v100
def k0_mult460 (k0_t2 : Fin k0_t2_loop.trips) : BitVec 32 :=
  let c0_i32_38 : BitVec 32 := 0#32
  let c1_i32_40 : BitVec 32 := 1#32
  let arg14 : BitVec 32 := Scf.iv c0_i32_38 c1_i32_40 k0_t2
  let c4_i32_48 : BitVec 32 := 4#32
  let v102 : BitVec 32 := Scalar.muli arg14 c4_i32_48
  let c1_i32_49 : BitVec 32 := 1#32
  let v103 : BitVec 32 := Scalar.addi v102 c1_i32_49
  let c128_i32_50 : BitVec 32 := 128#32
  let v104 : BitVec 32 := Scalar.muli v103 c128_i32_50
  v104
def k0_mult461 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_52 : BitVec 32 := 64#32
  let v110 : BitVec 32 := Scalar.muli arg13 c64_i32_52
  v110
def k0_mult462 (k0_t2 : Fin k0_t2_loop.trips) : BitVec 32 :=
  let c0_i32_38 : BitVec 32 := 0#32
  let c1_i32_40 : BitVec 32 := 1#32
  let arg14 : BitVec 32 := Scf.iv c0_i32_38 c1_i32_40 k0_t2
  let c4_i32_53 : BitVec 32 := 4#32
  let v112 : BitVec 32 := Scalar.muli arg14 c4_i32_53
  let c2_i32 : BitVec 32 := 2#32
  let v113 : BitVec 32 := Scalar.addi v112 c2_i32
  let c128_i32_54 : BitVec 32 := 128#32
  let v114 : BitVec 32 := Scalar.muli v113 c128_i32_54
  v114
def k0_mult463 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_56 : BitVec 32 := 64#32
  let v120 : BitVec 32 := Scalar.muli arg13 c64_i32_56
  v120
def k0_mult464 (k0_t2 : Fin k0_t2_loop.trips) : BitVec 32 :=
  let c0_i32_38 : BitVec 32 := 0#32
  let c1_i32_40 : BitVec 32 := 1#32
  let arg14 : BitVec 32 := Scf.iv c0_i32_38 c1_i32_40 k0_t2
  let c4_i32_57 : BitVec 32 := 4#32
  let v122 : BitVec 32 := Scalar.muli arg14 c4_i32_57
  let c3_i32 : BitVec 32 := 3#32
  let v123 : BitVec 32 := Scalar.addi v122 c3_i32
  let c128_i32_58 : BitVec 32 := 128#32
  let v124 : BitVec 32 := Scalar.muli v123 c128_i32_58
  v124
@[reducible] def k0_t3_loop (i : grid0.Coords) (k0_t1 : Fin k0_t1_loop.trips) (v9 : BitVec 32) : Scf.Loop 32 :=
  let c0_i32_23 : BitVec 32 := 0#32
  let v52 : BitVec 1 := Scalar.cmpi .sgt v9 c0_i32_23
  let v53 : BitVec 32 := Scalar.extui v52
  let c0_i32_24 : BitVec 32 := 0#32
  let v54 : BitVec 1 := Scalar.cmpi .slt v9 c0_i32_24
  let v55 : BitVec 32 := Scalar.extui v54
  let v56 : BitVec 32 := Scalar.subi v53 v55
  let c256_i32_22 : BitVec 32 := 256#32
  let c0_i32_25 : BitVec 32 := 0#32
  let v57 : BitVec 1 := Scalar.cmpi .sgt c256_i32_22 c0_i32_25
  let v58 : BitVec 32 := Scalar.extui v57
  let c0_i32_26 : BitVec 32 := 0#32
  let v59 : BitVec 1 := Scalar.cmpi .slt c256_i32_22 c0_i32_26
  let v60 : BitVec 32 := Scalar.extui v59
  let v61 : BitVec 32 := Scalar.subi v58 v60
  let v62 : BitVec 1 := Scalar.cmpi .ne v56 v61
  let v63 : BitVec 32 := Scalar.remsi v9 c256_i32_22
  let c0_i32_27 : BitVec 32 := 0#32
  let v64 : BitVec 1 := Scalar.cmpi .ne v63 c0_i32_27
  let v65 : BitVec 1 := Scalar.andi v62 v64
  let v51 : BitVec 32 := Scalar.divsi v9 c256_i32_22
  let c1_i32_28 : BitVec 32 := 1#32
  let v66 : BitVec 32 := Scalar.subi v51 c1_i32_28
  let v67 : BitVec 32 := Scalar.select v65 v66 v51
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_29 : BitVec 32 := 256#32
  let v68 : BitVec 32 := Scalar.addi v4 c256_i32_29
  let c1_i32_30 : BitVec 32 := 1#32
  let v69 : BitVec 32 := Scalar.subi v68 c1_i32_30
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c256_i32_31 : BitVec 32 := 256#32
  let c0_i32_34 : BitVec 32 := 0#32
  let v76 : BitVec 1 := Scalar.cmpi .sgt c256_i32_31 c0_i32_34
  let v77 : BitVec 32 := Scalar.extui v76
  let c0_i32_35 : BitVec 32 := 0#32
  let v78 : BitVec 1 := Scalar.cmpi .slt c256_i32_31 c0_i32_35
  let v79 : BitVec 32 := Scalar.extui v78
  let v80 : BitVec 32 := Scalar.subi v77 v79
  let v81 : BitVec 1 := Scalar.cmpi .ne v75 v80
  let v82 : BitVec 32 := Scalar.remsi v69 c256_i32_31
  let c0_i32_36 : BitVec 32 := 0#32
  let v83 : BitVec 1 := Scalar.cmpi .ne v82 c0_i32_36
  let v84 : BitVec 1 := Scalar.andi v81 v83
  let v70 : BitVec 32 := Scalar.divsi v69 c256_i32_31
  let c1_i32_37 : BitVec 32 := 1#32
  let v85 : BitVec 32 := Scalar.subi v70 c1_i32_37
  let v86 : BitVec 32 := Scalar.select v84 v85 v70
  let v134 : BitVec 32 := Scalar.subi v86 v67
  let c1_i32_62 : BitVec 32 := 1#32
  let v136 : BitVec 32 := Scalar.divsi v134 c1_i32_62
  let v137 : BitVec 32 := Scalar.muli v136 c1_i32_62
  let v138 : BitVec 32 := Scalar.addi v67 v137
  let c1_i32_63 : BitVec 32 := 1#32
  ⟨v67, v138, c1_i32_63⟩
def k0_cond8 (v47 : BitVec 32) : BitVec 1 :=
  let c0_i32_20 : BitVec 32 := 0#32
  let v48 : BitVec 1 := Scalar.cmpi .eq v47 c0_i32_20
  let v49 : BitVec 32 := Scalar.extui v48
  let c0_i32_21 : BitVec 32 := 0#32
  let v50 : BitVec 1 := Scalar.cmpi .ne v49 c0_i32_21
  v50

def k0_mult465 (i : grid0.Coords) (k0_t1 : Fin k0_t1_loop.trips) (v9 : BitVec 32) (k0_t3 : Fin (k0_t3_loop i k0_t1 v9).trips) : BitVec 32 :=
  let c0_i32_23 : BitVec 32 := 0#32
  let v52 : BitVec 1 := Scalar.cmpi .sgt v9 c0_i32_23
  let v53 : BitVec 32 := Scalar.extui v52
  let c0_i32_24 : BitVec 32 := 0#32
  let v54 : BitVec 1 := Scalar.cmpi .slt v9 c0_i32_24
  let v55 : BitVec 32 := Scalar.extui v54
  let v56 : BitVec 32 := Scalar.subi v53 v55
  let c256_i32_22 : BitVec 32 := 256#32
  let c0_i32_25 : BitVec 32 := 0#32
  let v57 : BitVec 1 := Scalar.cmpi .sgt c256_i32_22 c0_i32_25
  let v58 : BitVec 32 := Scalar.extui v57
  let c0_i32_26 : BitVec 32 := 0#32
  let v59 : BitVec 1 := Scalar.cmpi .slt c256_i32_22 c0_i32_26
  let v60 : BitVec 32 := Scalar.extui v59
  let v61 : BitVec 32 := Scalar.subi v58 v60
  let v62 : BitVec 1 := Scalar.cmpi .ne v56 v61
  let v63 : BitVec 32 := Scalar.remsi v9 c256_i32_22
  let c0_i32_27 : BitVec 32 := 0#32
  let v64 : BitVec 1 := Scalar.cmpi .ne v63 c0_i32_27
  let v65 : BitVec 1 := Scalar.andi v62 v64
  let v51 : BitVec 32 := Scalar.divsi v9 c256_i32_22
  let c1_i32_28 : BitVec 32 := 1#32
  let v66 : BitVec 32 := Scalar.subi v51 c1_i32_28
  let v67 : BitVec 32 := Scalar.select v65 v66 v51
  let c1_i32_63 : BitVec 32 := 1#32
  let arg15 : BitVec 32 := Scf.iv v67 c1_i32_63 k0_t3
  let c256_i32_85 : BitVec 32 := 256#32
  let v197 : BitVec 32 := Scalar.muli arg15 c256_i32_85
  v197
def k0_off290 (i : grid0.Coords) (k0_t1 : Fin k0_t1_loop.trips) (v9 : BitVec 32) (k0_t2 : Fin k0_t2_loop.trips) (k0_t3 : Fin (k0_t3_loop i k0_t1 v9).trips) : Fin 3 → Nat :=
  let c0_86 : Index := 0#32
  let c0_i32_23 : BitVec 32 := 0#32
  let v52 : BitVec 1 := Scalar.cmpi .sgt v9 c0_i32_23
  let v53 : BitVec 32 := Scalar.extui v52
  let c0_i32_24 : BitVec 32 := 0#32
  let v54 : BitVec 1 := Scalar.cmpi .slt v9 c0_i32_24
  let v55 : BitVec 32 := Scalar.extui v54
  let v56 : BitVec 32 := Scalar.subi v53 v55
  let c256_i32_22 : BitVec 32 := 256#32
  let c0_i32_25 : BitVec 32 := 0#32
  let v57 : BitVec 1 := Scalar.cmpi .sgt c256_i32_22 c0_i32_25
  let v58 : BitVec 32 := Scalar.extui v57
  let c0_i32_26 : BitVec 32 := 0#32
  let v59 : BitVec 1 := Scalar.cmpi .slt c256_i32_22 c0_i32_26
  let v60 : BitVec 32 := Scalar.extui v59
  let v61 : BitVec 32 := Scalar.subi v58 v60
  let v62 : BitVec 1 := Scalar.cmpi .ne v56 v61
  let v63 : BitVec 32 := Scalar.remsi v9 c256_i32_22
  let c0_i32_27 : BitVec 32 := 0#32
  let v64 : BitVec 1 := Scalar.cmpi .ne v63 c0_i32_27
  let v65 : BitVec 1 := Scalar.andi v62 v64
  let v51 : BitVec 32 := Scalar.divsi v9 c256_i32_22
  let c1_i32_28 : BitVec 32 := 1#32
  let v66 : BitVec 32 := Scalar.subi v51 c1_i32_28
  let v67 : BitVec 32 := Scalar.select v65 v66 v51
  let c1_i32_63 : BitVec 32 := 1#32
  let arg15 : BitVec 32 := Scf.iv v67 c1_i32_63 k0_t3
  let c256_i32_85 : BitVec 32 := 256#32
  let v197 : BitVec 32 := Scalar.muli arg15 c256_i32_85
  let v198 : BitVec 32 := v197
  let v199 : Index := Scalar.indexCast v198
  let c0_i32_38 : BitVec 32 := 0#32
  let c1_i32_40 : BitVec 32 := 1#32
  let arg14 : BitVec 32 := Scf.iv c0_i32_38 c1_i32_40 k0_t2
  let c128_i32_42 : BitVec 32 := 128#32
  let v88 : BitVec 32 := Scalar.muli arg14 c128_i32_42
  let v89 : BitVec 32 := v88
  let v200 : Index := Scalar.indexCast v89
  ![0, v199.toNat, v200.toNat]
def k0_off291 (k0_t1 : Fin k0_t1_loop.trips) : Fin 4 → Nat :=
  let c0_88 : Index := 0#32
  let c0_89 : Index := 0#32
  let c0_i32 : BitVec 32 := 0#32
  let c1_i32 : BitVec 32 := 1#32
  let arg13 : BitVec 32 := Scf.iv c0_i32 c1_i32 k0_t1
  let v207 : Index := Scalar.indexCast arg13
  let c0_90 : Index := 0#32
  ![0, 0, v207.toNat, 0]
def k0_off292 (k0_t2 : Fin k0_t2_loop.trips) : Fin 2 → Nat :=
  let c0_i32_38 : BitVec 32 := 0#32
  let c1_i32_40 : BitVec 32 := 1#32
  let arg14 : BitVec 32 := Scf.iv c0_i32_38 c1_i32_40 k0_t2
  let v221 : Index := Scalar.indexCast arg14
  let c0_96 : Index := 0#32
  ![v221.toNat, 0]
@[reducible] def k0_t4_loop (i : grid0.Coords) (k0_t1 : Fin k0_t1_loop.trips) (v9 : BitVec 32) : Scf.Loop 32 :=
  let c0_i32_23 : BitVec 32 := 0#32
  let v52 : BitVec 1 := Scalar.cmpi .sgt v9 c0_i32_23
  let v53 : BitVec 32 := Scalar.extui v52
  let c0_i32_24 : BitVec 32 := 0#32
  let v54 : BitVec 1 := Scalar.cmpi .slt v9 c0_i32_24
  let v55 : BitVec 32 := Scalar.extui v54
  let v56 : BitVec 32 := Scalar.subi v53 v55
  let c256_i32_22 : BitVec 32 := 256#32
  let c0_i32_25 : BitVec 32 := 0#32
  let v57 : BitVec 1 := Scalar.cmpi .sgt c256_i32_22 c0_i32_25
  let v58 : BitVec 32 := Scalar.extui v57
  let c0_i32_26 : BitVec 32 := 0#32
  let v59 : BitVec 1 := Scalar.cmpi .slt c256_i32_22 c0_i32_26
  let v60 : BitVec 32 := Scalar.extui v59
  let v61 : BitVec 32 := Scalar.subi v58 v60
  let v62 : BitVec 1 := Scalar.cmpi .ne v56 v61
  let v63 : BitVec 32 := Scalar.remsi v9 c256_i32_22
  let c0_i32_27 : BitVec 32 := 0#32
  let v64 : BitVec 1 := Scalar.cmpi .ne v63 c0_i32_27
  let v65 : BitVec 1 := Scalar.andi v62 v64
  let v51 : BitVec 32 := Scalar.divsi v9 c256_i32_22
  let c1_i32_28 : BitVec 32 := 1#32
  let v66 : BitVec 32 := Scalar.subi v51 c1_i32_28
  let v67 : BitVec 32 := Scalar.select v65 v66 v51
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_29 : BitVec 32 := 256#32
  let v68 : BitVec 32 := Scalar.addi v4 c256_i32_29
  let c1_i32_30 : BitVec 32 := 1#32
  let v69 : BitVec 32 := Scalar.subi v68 c1_i32_30
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c256_i32_31 : BitVec 32 := 256#32
  let c0_i32_34 : BitVec 32 := 0#32
  let v76 : BitVec 1 := Scalar.cmpi .sgt c256_i32_31 c0_i32_34
  let v77 : BitVec 32 := Scalar.extui v76
  let c0_i32_35 : BitVec 32 := 0#32
  let v78 : BitVec 1 := Scalar.cmpi .slt c256_i32_31 c0_i32_35
  let v79 : BitVec 32 := Scalar.extui v78
  let v80 : BitVec 32 := Scalar.subi v77 v79
  let v81 : BitVec 1 := Scalar.cmpi .ne v75 v80
  let v82 : BitVec 32 := Scalar.remsi v69 c256_i32_31
  let c0_i32_36 : BitVec 32 := 0#32
  let v83 : BitVec 1 := Scalar.cmpi .ne v82 c0_i32_36
  let v84 : BitVec 1 := Scalar.andi v81 v83
  let v70 : BitVec 32 := Scalar.divsi v69 c256_i32_31
  let c1_i32_37 : BitVec 32 := 1#32
  let v85 : BitVec 32 := Scalar.subi v70 c1_i32_37
  let v86 : BitVec 32 := Scalar.select v84 v85 v70
  let v134 : BitVec 32 := Scalar.subi v86 v67
  let c1_i32_62 : BitVec 32 := 1#32
  let v136 : BitVec 32 := Scalar.divsi v134 c1_i32_62
  let v137 : BitVec 32 := Scalar.muli v136 c1_i32_62
  let v138 : BitVec 32 := Scalar.addi v67 v137
  let v135 : BitVec 32 := Scalar.addi v67 v134
  let c1_i32_64 : BitVec 32 := 1#32
  ⟨v138, v135, c1_i32_64⟩
def k0_mult466 (i : grid0.Coords) (k0_t1 : Fin k0_t1_loop.trips) (v9 : BitVec 32) (k0_t4 : Fin (k0_t4_loop i k0_t1 v9).trips) : BitVec 32 :=
  let c0_i32_23 : BitVec 32 := 0#32
  let v52 : BitVec 1 := Scalar.cmpi .sgt v9 c0_i32_23
  let v53 : BitVec 32 := Scalar.extui v52
  let c0_i32_24 : BitVec 32 := 0#32
  let v54 : BitVec 1 := Scalar.cmpi .slt v9 c0_i32_24
  let v55 : BitVec 32 := Scalar.extui v54
  let v56 : BitVec 32 := Scalar.subi v53 v55
  let c256_i32_22 : BitVec 32 := 256#32
  let c0_i32_25 : BitVec 32 := 0#32
  let v57 : BitVec 1 := Scalar.cmpi .sgt c256_i32_22 c0_i32_25
  let v58 : BitVec 32 := Scalar.extui v57
  let c0_i32_26 : BitVec 32 := 0#32
  let v59 : BitVec 1 := Scalar.cmpi .slt c256_i32_22 c0_i32_26
  let v60 : BitVec 32 := Scalar.extui v59
  let v61 : BitVec 32 := Scalar.subi v58 v60
  let v62 : BitVec 1 := Scalar.cmpi .ne v56 v61
  let v63 : BitVec 32 := Scalar.remsi v9 c256_i32_22
  let c0_i32_27 : BitVec 32 := 0#32
  let v64 : BitVec 1 := Scalar.cmpi .ne v63 c0_i32_27
  let v65 : BitVec 1 := Scalar.andi v62 v64
  let v51 : BitVec 32 := Scalar.divsi v9 c256_i32_22
  let c1_i32_28 : BitVec 32 := 1#32
  let v66 : BitVec 32 := Scalar.subi v51 c1_i32_28
  let v67 : BitVec 32 := Scalar.select v65 v66 v51
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_29 : BitVec 32 := 256#32
  let v68 : BitVec 32 := Scalar.addi v4 c256_i32_29
  let c1_i32_30 : BitVec 32 := 1#32
  let v69 : BitVec 32 := Scalar.subi v68 c1_i32_30
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c256_i32_31 : BitVec 32 := 256#32
  let c0_i32_34 : BitVec 32 := 0#32
  let v76 : BitVec 1 := Scalar.cmpi .sgt c256_i32_31 c0_i32_34
  let v77 : BitVec 32 := Scalar.extui v76
  let c0_i32_35 : BitVec 32 := 0#32
  let v78 : BitVec 1 := Scalar.cmpi .slt c256_i32_31 c0_i32_35
  let v79 : BitVec 32 := Scalar.extui v78
  let v80 : BitVec 32 := Scalar.subi v77 v79
  let v81 : BitVec 1 := Scalar.cmpi .ne v75 v80
  let v82 : BitVec 32 := Scalar.remsi v69 c256_i32_31
  let c0_i32_36 : BitVec 32 := 0#32
  let v83 : BitVec 1 := Scalar.cmpi .ne v82 c0_i32_36
  let v84 : BitVec 1 := Scalar.andi v81 v83
  let v70 : BitVec 32 := Scalar.divsi v69 c256_i32_31
  let c1_i32_37 : BitVec 32 := 1#32
  let v85 : BitVec 32 := Scalar.subi v70 c1_i32_37
  let v86 : BitVec 32 := Scalar.select v84 v85 v70
  let v134 : BitVec 32 := Scalar.subi v86 v67
  let c1_i32_62 : BitVec 32 := 1#32
  let v136 : BitVec 32 := Scalar.divsi v134 c1_i32_62
  let v137 : BitVec 32 := Scalar.muli v136 c1_i32_62
  let v138 : BitVec 32 := Scalar.addi v67 v137
  let c1_i32_64 : BitVec 32 := 1#32
  let arg15 : BitVec 32 := Scf.iv v138 c1_i32_64 k0_t4
  let c256_i32_85 : BitVec 32 := 256#32
  let v197 : BitVec 32 := Scalar.muli arg15 c256_i32_85
  v197
def k0_off293 (i : grid0.Coords) (k0_t1 : Fin k0_t1_loop.trips) (v9 : BitVec 32) (k0_t2 : Fin k0_t2_loop.trips) (k0_t4 : Fin (k0_t4_loop i k0_t1 v9).trips) : Fin 3 → Nat :=
  let c0_86 : Index := 0#32
  let c0_i32_23 : BitVec 32 := 0#32
  let v52 : BitVec 1 := Scalar.cmpi .sgt v9 c0_i32_23
  let v53 : BitVec 32 := Scalar.extui v52
  let c0_i32_24 : BitVec 32 := 0#32
  let v54 : BitVec 1 := Scalar.cmpi .slt v9 c0_i32_24
  let v55 : BitVec 32 := Scalar.extui v54
  let v56 : BitVec 32 := Scalar.subi v53 v55
  let c256_i32_22 : BitVec 32 := 256#32
  let c0_i32_25 : BitVec 32 := 0#32
  let v57 : BitVec 1 := Scalar.cmpi .sgt c256_i32_22 c0_i32_25
  let v58 : BitVec 32 := Scalar.extui v57
  let c0_i32_26 : BitVec 32 := 0#32
  let v59 : BitVec 1 := Scalar.cmpi .slt c256_i32_22 c0_i32_26
  let v60 : BitVec 32 := Scalar.extui v59
  let v61 : BitVec 32 := Scalar.subi v58 v60
  let v62 : BitVec 1 := Scalar.cmpi .ne v56 v61
  let v63 : BitVec 32 := Scalar.remsi v9 c256_i32_22
  let c0_i32_27 : BitVec 32 := 0#32
  let v64 : BitVec 1 := Scalar.cmpi .ne v63 c0_i32_27
  let v65 : BitVec 1 := Scalar.andi v62 v64
  let v51 : BitVec 32 := Scalar.divsi v9 c256_i32_22
  let c1_i32_28 : BitVec 32 := 1#32
  let v66 : BitVec 32 := Scalar.subi v51 c1_i32_28
  let v67 : BitVec 32 := Scalar.select v65 v66 v51
  let arg1 : BitVec 32 := BitVec.ofNat 32 (i 1).val
  let c512_i32 : BitVec 32 := 512#32
  let v1 : BitVec 32 := Scalar.muli arg1 c512_i32
  let c0_i32 : BitVec 32 := 0#32
  let c1_i32 : BitVec 32 := 1#32
  let arg13 : BitVec 32 := Scf.iv c0_i32 c1_i32 k0_t1
  let c64_i32 : BitVec 32 := 64#32
  let v2 : BitVec 32 := Scalar.muli arg13 c64_i32
  let v3 : BitVec 32 := Scalar.addi v1 v2
  let c64_i32_1 : BitVec 32 := 64#32
  let v4 : BitVec 32 := Scalar.addi v3 c64_i32_1
  let c256_i32_29 : BitVec 32 := 256#32
  let v68 : BitVec 32 := Scalar.addi v4 c256_i32_29
  let c1_i32_30 : BitVec 32 := 1#32
  let v69 : BitVec 32 := Scalar.subi v68 c1_i32_30
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c256_i32_31 : BitVec 32 := 256#32
  let c0_i32_34 : BitVec 32 := 0#32
  let v76 : BitVec 1 := Scalar.cmpi .sgt c256_i32_31 c0_i32_34
  let v77 : BitVec 32 := Scalar.extui v76
  let c0_i32_35 : BitVec 32 := 0#32
  let v78 : BitVec 1 := Scalar.cmpi .slt c256_i32_31 c0_i32_35
  let v79 : BitVec 32 := Scalar.extui v78
  let v80 : BitVec 32 := Scalar.subi v77 v79
  let v81 : BitVec 1 := Scalar.cmpi .ne v75 v80
  let v82 : BitVec 32 := Scalar.remsi v69 c256_i32_31
  let c0_i32_36 : BitVec 32 := 0#32
  let v83 : BitVec 1 := Scalar.cmpi .ne v82 c0_i32_36
  let v84 : BitVec 1 := Scalar.andi v81 v83
  let v70 : BitVec 32 := Scalar.divsi v69 c256_i32_31
  let c1_i32_37 : BitVec 32 := 1#32
  let v85 : BitVec 32 := Scalar.subi v70 c1_i32_37
  let v86 : BitVec 32 := Scalar.select v84 v85 v70
  let v134 : BitVec 32 := Scalar.subi v86 v67
  let c1_i32_62 : BitVec 32 := 1#32
  let v136 : BitVec 32 := Scalar.divsi v134 c1_i32_62
  let v137 : BitVec 32 := Scalar.muli v136 c1_i32_62
  let v138 : BitVec 32 := Scalar.addi v67 v137
  let c1_i32_64 : BitVec 32 := 1#32
  let arg15 : BitVec 32 := Scf.iv v138 c1_i32_64 k0_t4
  let c256_i32_85 : BitVec 32 := 256#32
  let v197 : BitVec 32 := Scalar.muli arg15 c256_i32_85
  let v198 : BitVec 32 := v197
  let v199 : Index := Scalar.indexCast v198
  let c0_i32_38 : BitVec 32 := 0#32
  let c1_i32_40 : BitVec 32 := 1#32
  let arg14 : BitVec 32 := Scf.iv c0_i32_38 c1_i32_40 k0_t2
  let c128_i32_42 : BitVec 32 := 128#32
  let v88 : BitVec 32 := Scalar.muli arg14 c128_i32_42
  let v89 : BitVec 32 := v88
  let v200 : Index := Scalar.indexCast v89
  ![0, v199.toNat, v200.toNat]

def k0_chk1 (i : grid0.Coords) (k0_t1 : Fin k0_t1_loop.trips) (v9 : BitVec 32) (v47 : BitVec 32) : Prop :=
  (∀ (k0_h8 : k0_cond8 v47 = 1#1), (k0_t3_loop i k0_t1 v9).OK) ∧
  (∀ k0_t3 : Fin (k0_t3_loop i k0_t1 v9).trips, ∀ (k0_h8 : k0_cond8 v47 = 1#1), 256 ∣ (k0_mult465 i k0_t1 v9 k0_t3).toNat) ∧
  (∀ (k0_t2 : Fin k0_t2_loop.trips) (k0_t3 : Fin (k0_t3_loop i k0_t1 v9).trips), ∀ (k0_h8 : k0_cond8 v47 = 1#1), ∀ a, (k0_off290 i k0_t1 v9 k0_t2 k0_t3) a + S1x256x128.size a ≤ S1x4096x1024.size a) ∧
  (∀ (k0_h8 : k0_cond8 v47 = 1#1), (k0_t4_loop i k0_t1 v9).OK) ∧
  (∀ k0_t4 : Fin (k0_t4_loop i k0_t1 v9).trips, ∀ (k0_h8 : k0_cond8 v47 = 1#1), 256 ∣ (k0_mult466 i k0_t1 v9 k0_t4).toNat) ∧
  (∀ (k0_t2 : Fin k0_t2_loop.trips) (k0_t4 : Fin (k0_t4_loop i k0_t1 v9).trips), ∀ (k0_h8 : k0_cond8 v47 = 1#1), ∀ a, (k0_off293 i k0_t1 v9 k0_t2 k0_t4) a + S1x256x128.size a ≤ S1x4096x1024.size a)
theorem k0_t3_ok : ∀ (i : grid0.Coords) (k0_t1 : Fin k0_t1_loop.trips) (v9 : BitVec 32) (v47 : BitVec 32) (k0_hw1 : k0_chk1 i k0_t1 v9 v47), ∀ (k0_h8 : k0_cond8 v47 = 1#1), (k0_t3_loop i k0_t1 v9).OK := fun i k0_t1 v9 v47 k0_hw1 k0_h8 => k0_hw1.1 k0_h8
theorem k0_mult465_dvd : ∀ (i : grid0.Coords) (k0_t1 : Fin k0_t1_loop.trips) (v9 : BitVec 32) (v47 : BitVec 32) (k0_hw1 : k0_chk1 i k0_t1 v9 v47) (k0_t3 : Fin (k0_t3_loop i k0_t1 v9).trips), ∀ (k0_h8 : k0_cond8 v47 = 1#1), 256 ∣ (k0_mult465 i k0_t1 v9 k0_t3).toNat := fun i k0_t1 v9 v47 k0_hw1 k0_t3 k0_h8 => k0_hw1.2.1 k0_t3 k0_h8
theorem k0_off290_inb : ∀ (i : grid0.Coords) (k0_t1 : Fin k0_t1_loop.trips) (v9 : BitVec 32) (v47 : BitVec 32) (k0_hw1 : k0_chk1 i k0_t1 v9 v47) (k0_t2 : Fin k0_t2_loop.trips) (k0_t3 : Fin (k0_t3_loop i k0_t1 v9).trips), ∀ (k0_h8 : k0_cond8 v47 = 1#1), ∀ a, (k0_off290 i k0_t1 v9 k0_t2 k0_t3) a + S1x256x128.size a ≤ S1x4096x1024.size a := fun i k0_t1 v9 v47 k0_hw1 k0_t2 k0_t3 k0_h8 => k0_hw1.2.2.1 k0_t2 k0_t3 k0_h8
theorem k0_t4_ok : ∀ (i : grid0.Coords) (k0_t1 : Fin k0_t1_loop.trips) (v9 : BitVec 32) (v47 : BitVec 32) (k0_hw1 : k0_chk1 i k0_t1 v9 v47), ∀ (k0_h8 : k0_cond8 v47 = 1#1), (k0_t4_loop i k0_t1 v9).OK := fun i k0_t1 v9 v47 k0_hw1 k0_h8 => k0_hw1.2.2.2.1 k0_h8
theorem k0_mult466_dvd : ∀ (i : grid0.Coords) (k0_t1 : Fin k0_t1_loop.trips) (v9 : BitVec 32) (v47 : BitVec 32) (k0_hw1 : k0_chk1 i k0_t1 v9 v47) (k0_t4 : Fin (k0_t4_loop i k0_t1 v9).trips), ∀ (k0_h8 : k0_cond8 v47 = 1#1), 256 ∣ (k0_mult466 i k0_t1 v9 k0_t4).toNat := fun i k0_t1 v9 v47 k0_hw1 k0_t4 k0_h8 => k0_hw1.2.2.2.2.1 k0_t4 k0_h8
theorem k0_off293_inb : ∀ (i : grid0.Coords) (k0_t1 : Fin k0_t1_loop.trips) (v9 : BitVec 32) (v47 : BitVec 32) (k0_hw1 : k0_chk1 i k0_t1 v9 v47) (k0_t2 : Fin k0_t2_loop.trips) (k0_t4 : Fin (k0_t4_loop i k0_t1 v9).trips), ∀ (k0_h8 : k0_cond8 v47 = 1#1), ∀ a, (k0_off293 i k0_t1 v9 k0_t2 k0_t4) a + S1x256x128.size a ≤ S1x4096x1024.size a := fun i k0_t1 v9 v47 k0_hw1 k0_t2 k0_t4 k0_h8 => k0_hw1.2.2.2.2.2 k0_t2 k0_t4 k0_h8

def k0_off294 (k0_t1 : Fin k0_t1_loop.trips) : Fin 4 → Nat :=
  let c0_88 : Index := 0#32
  let c0_89 : Index := 0#32
  let c0_i32 : BitVec 32 := 0#32
  let c1_i32 : BitVec 32 := 1#32
  let arg13 : BitVec 32 := Scf.iv c0_i32 c1_i32 k0_t1
  let v207 : Index := Scalar.indexCast arg13
  let c0_90 : Index := 0#32
  ![0, 0, v207.toNat, 0]
def k0_off295 (k0_t2 : Fin k0_t2_loop.trips) : Fin 2 → Nat :=
  let c0_i32_38 : BitVec 32 := 0#32
  let c1_i32_40 : BitVec 32 := 1#32
  let arg14 : BitVec 32 := Scf.iv c0_i32_38 c1_i32_40 k0_t2
  let v221 : Index := Scalar.indexCast arg14
  let c0_96 : Index := 0#32
  ![v221.toNat, 0]
def k0_off296 (k0_t2 : Fin k0_t2_loop.trips) : Fin 1 → Nat :=
  let c0_i32_38 : BitVec 32 := 0#32
  let c1_i32_40 : BitVec 32 := 1#32
  let arg14 : BitVec 32 := Scf.iv c0_i32_38 c1_i32_40 k0_t2
  let v141 : Index := Scalar.indexCast arg14
  ![v141.toNat]
def k0_mult467 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_65 : BitVec 32 := 64#32
  let v150 : BitVec 32 := Scalar.muli arg13 c64_i32_65
  v150
def k0_mult468 (k0_t2 : Fin k0_t2_loop.trips) : BitVec 32 :=
  let c0_i32_38 : BitVec 32 := 0#32
  let c1_i32_40 : BitVec 32 := 1#32
  let arg14 : BitVec 32 := Scf.iv c0_i32_38 c1_i32_40 k0_t2
  let c4_i32_66 : BitVec 32 := 4#32
  let v152 : BitVec 32 := Scalar.muli arg14 c4_i32_66
  let c0_i32_67 : BitVec 32 := 0#32
  let v153 : BitVec 32 := Scalar.addi v152 c0_i32_67
  let c128_i32_68 : BitVec 32 := 128#32
  let v154 : BitVec 32 := Scalar.muli v153 c128_i32_68
  v154
def k0_mult469 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_70 : BitVec 32 := 64#32
  let v162 : BitVec 32 := Scalar.muli arg13 c64_i32_70
  v162
def k0_mult470 (k0_t2 : Fin k0_t2_loop.trips) : BitVec 32 :=
  let c0_i32_38 : BitVec 32 := 0#32
  let c1_i32_40 : BitVec 32 := 1#32
  let arg14 : BitVec 32 := Scf.iv c0_i32_38 c1_i32_40 k0_t2
  let c4_i32_71 : BitVec 32 := 4#32
  let v164 : BitVec 32 := Scalar.muli arg14 c4_i32_71
  let c1_i32_72 : BitVec 32 := 1#32
  let v165 : BitVec 32 := Scalar.addi v164 c1_i32_72
  let c128_i32_73 : BitVec 32 := 128#32
  let v166 : BitVec 32 := Scalar.muli v165 c128_i32_73
  v166
def k0_mult471 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_75 : BitVec 32 := 64#32
  let v174 : BitVec 32 := Scalar.muli arg13 c64_i32_75
  v174
def k0_mult472 (k0_t2 : Fin k0_t2_loop.trips) : BitVec 32 :=
  let c0_i32_38 : BitVec 32 := 0#32
  let c1_i32_40 : BitVec 32 := 1#32
  let arg14 : BitVec 32 := Scf.iv c0_i32_38 c1_i32_40 k0_t2
  let c4_i32_76 : BitVec 32 := 4#32
  let v176 : BitVec 32 := Scalar.muli arg14 c4_i32_76
  let c2_i32_77 : BitVec 32 := 2#32
  let v177 : BitVec 32 := Scalar.addi v176 c2_i32_77
  let c128_i32_78 : BitVec 32 := 128#32
  let v178 : BitVec 32 := Scalar.muli v177 c128_i32_78
  v178
def k0_mult473 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_80 : BitVec 32 := 64#32
  let v186 : BitVec 32 := Scalar.muli arg13 c64_i32_80
  v186
def k0_mult474 (k0_t2 : Fin k0_t2_loop.trips) : BitVec 32 :=
  let c0_i32_38 : BitVec 32 := 0#32
  let c1_i32_40 : BitVec 32 := 1#32
  let arg14 : BitVec 32 := Scf.iv c0_i32_38 c1_i32_40 k0_t2
  let c4_i32_81 : BitVec 32 := 4#32
  let v188 : BitVec 32 := Scalar.muli arg14 c4_i32_81
  let c3_i32_82 : BitVec 32 := 3#32
  let v189 : BitVec 32 := Scalar.addi v188 c3_i32_82
  let c128_i32_83 : BitVec 32 := 128#32
  let v190 : BitVec 32 := Scalar.muli v189 c128_i32_83
  v190
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4096x4096 : Shape := ⟨3, ![8, 4096, 4096]⟩
abbrev S8x4096x1024 : Shape := ⟨3, ![8, 4096, 1024]⟩
abbrev S32 : Shape := ⟨1, ![32]⟩
abbrev S8 : Shape := ⟨1, ![8]⟩
abbrev S8x4096 : Shape := ⟨2, ![8, 4096]⟩
abbrev S8x4096x8x4x128 : Shape := ⟨5, ![8, 4096, 8, 4, 128]⟩
abbrev S8x4096x8x128 : Shape := ⟨4, ![8, 4096, 8, 128]⟩
abbrev S8x4 : Shape := ⟨2, ![8, 4]⟩
abbrev S8x1 : Shape := ⟨2, ![8, 1]⟩
abbrev S_ : Shape := ⟨0, ![]⟩
abbrev S1x8x4x1x1 : Shape := ⟨5, ![1, 8, 4, 1, 1]⟩
abbrev S8x8x4096x4096x4 : Shape := ⟨5, ![8, 8, 4096, 4096, 4]⟩
abbrev S8x8x4x4096x4096 : Shape := ⟨5, ![8, 8, 4, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x1 : Shape := ⟨3, ![8, 4096, 1]⟩
abbrev S8x1x4096 : Shape := ⟨3, ![8, 1, 4096]⟩
abbrev S1x4096x4096 : Shape := ⟨3, ![1, 4096, 4096]⟩
abbrev S8x1x1x4096x4096 : Shape := ⟨5, ![8, 1, 1, 4096, 4096]⟩
abbrev S8x8x4x4096 : Shape := ⟨4, ![8, 8, 4, 4096]⟩
abbrev S8x8x4x4096x1 : Shape := ⟨5, ![8, 8, 4, 4096, 1]⟩
abbrev S8x8x128x4x4096 : Shape := ⟨5, ![8, 8, 128, 4, 4096]⟩
abbrev S1x1x8x1x1 : Shape := ⟨5, ![1, 1, 8, 1, 1]⟩

abbrev nBuf : Space → Nat
  | .hbm => 71
  | .vmem => 6
  | .smem => 0
  | _ => 0

abbrev bufTy : (tb : Table) → Fin (tcTables nBuf tb) → BufTy
  | .hbm, ⟨0, _⟩ => ⟨S8x4096x4096, .fp8e4m3⟩
  | .hbm, ⟨1, _⟩ => ⟨S8x4096x1024, .fp8e4m3⟩
  | .hbm, ⟨2, _⟩ => ⟨S8x4096x1024, .fp8e4m3⟩
  | .hbm, ⟨3, _⟩ => ⟨S32, .f32⟩
  | .hbm, ⟨4, _⟩ => ⟨S8, .f32⟩
  | .hbm, ⟨5, _⟩ => ⟨S8, .f32⟩
  | .hbm, ⟨6, _⟩ => ⟨S8x4096, .i32⟩
  | .hbm, ⟨7, _⟩ => ⟨S8x4096x4096, .f32⟩
  | .hbm, ⟨8, _⟩ => ⟨S8x4096x1024, .f32⟩
  | .hbm, ⟨9, _⟩ => ⟨S8x4096x1024, .bf16⟩
  | .hbm, ⟨10, _⟩ => ⟨S8x4096x8x4x128, .f32⟩
  | .hbm, ⟨11, _⟩ => ⟨S8x4096x8x128, .f32⟩
  | .hbm, ⟨12, _⟩ => ⟨S8x4096x8x128, .bf16⟩
  | .hbm, ⟨13, _⟩ => ⟨S8x4, .f32⟩
  | .hbm, ⟨14, _⟩ => ⟨S8x1, .f32⟩
  | .hbm, ⟨15, _⟩ => ⟨S8x4, .f32⟩
  | .hbm, ⟨16, _⟩ => ⟨S8x4, .f32⟩
  | .hbm, ⟨17, _⟩ => ⟨S_, .f32⟩
  | .hbm, ⟨18, _⟩ => ⟨S8x4, .f32⟩
  | .hbm, ⟨19, _⟩ => ⟨S8x4, .f32⟩
  | .hbm, ⟨20, _⟩ => ⟨S1x8x4x1x1, .f32⟩
  | .hbm, ⟨21, _⟩ => ⟨S8x8x4096x4096x4, .f32⟩
  | .hbm, ⟨22, _⟩ => ⟨S8x8x4x4096x4096, .f32⟩
  | .hbm, ⟨23, _⟩ => ⟨S8x8x4x4096x4096, .f32⟩
  | .hbm, ⟨24, _⟩ => ⟨S8x8x4x4096x4096, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S8x4096x1, .i32⟩
  | .hbm, ⟨32, _⟩ => ⟨S8x1x4096, .i32⟩
  | .hbm, ⟨33, _⟩ => ⟨S8x4096x4096, .i32⟩
  | .hbm, ⟨34, _⟩ => ⟨S8x4096x4096, .i32⟩
  | .hbm, ⟨35, _⟩ => ⟨S8x4096x4096, .i1⟩
  | .hbm, ⟨36, _⟩ => ⟨S1x4096x4096, .i1⟩
  | .hbm, ⟨37, _⟩ => ⟨S8x4096x4096, .i1⟩
  | .hbm, ⟨38, _⟩ => ⟨S8x4096x4096, .i1⟩
  | .hbm, ⟨39, _⟩ => ⟨S8x1x1x4096x4096, .i1⟩
  | .hbm, ⟨40, _⟩ => ⟨S_, .f32⟩
  | .hbm, ⟨41, _⟩ => ⟨S_, .f32⟩
  | .hbm, ⟨42, _⟩ => ⟨S8x8x4x4096x4096, .i1⟩
  | .hbm, ⟨43, _⟩ => ⟨S8x8x4x4096x4096, .f32⟩
  | .hbm, ⟨44, _⟩ => ⟨S8x8x4x4096x4096, .f32⟩
  | .hbm, ⟨45, _⟩ => ⟨S_, .f32⟩
  | .hbm, ⟨46, _⟩ => ⟨S8x8x4x4096, .f32⟩
  | .hbm, ⟨47, _⟩ => ⟨S8x8x4x4096x1, .f32⟩
  | .hbm, ⟨48, _⟩ => ⟨S8x8x4x4096x4096, .f32⟩
  | .hbm, ⟨49, _⟩ => ⟨S8x8x4x4096x4096, .f32⟩
  | .hbm, ⟨50, _⟩ => ⟨S8x8x4x4096x4096, .f32⟩
  | .hbm, ⟨51, _⟩ => ⟨S_, .f32⟩
  | .hbm, ⟨52, _⟩ => ⟨S8x8x4x4096, .f32⟩
  | .hbm, ⟨53, _⟩ => ⟨S8x8x4x4096x1, .f32⟩
  | .hbm, ⟨54, _⟩ => ⟨S_, .f32⟩
  | .hbm, ⟨55, _⟩ => ⟨S8x8x4x4096x1, .f32⟩
  | .hbm, ⟨56, _⟩ => ⟨S8x8x4x4096x1, .i1⟩
  | .hbm, ⟨57, _⟩ => ⟨S_, .f32⟩
  | .hbm, ⟨58, _⟩ => ⟨S_, .f32⟩
  | .hbm, ⟨59, _⟩ => ⟨S8x8x4x4096x1, .f32⟩
  | .hbm, ⟨60, _⟩ => ⟨S8x8x4x4096x1, .f32⟩
  | .hbm, ⟨61, _⟩ => ⟨S8x8x4x4096x4096, .f32⟩
  | .hbm, ⟨62, _⟩ => ⟨S8x8x4x4096x4096, .f32⟩
  | .hbm, ⟨63, _⟩ => ⟨S8x8x4x4096x4096, .bf16⟩
  | .hbm, ⟨64, _⟩ => ⟨S8x8x128x4x4096, .f32⟩
  | .hbm, ⟨65, _⟩ => ⟨S8x4096x8x4x128, .f32⟩
  | .hbm, ⟨66, _⟩ => ⟨S1x1x8x1x1, .f32⟩
  | .hbm, ⟨67, _⟩ => ⟨S8x4096x8x4x128, .f32⟩
  | .hbm, ⟨68, _⟩ => ⟨S8x4096x8x4x128, .f32⟩
  | .hbm, ⟨69, _⟩ => ⟨S8x4096x4096, .f32⟩
  | .hbm, ⟨70, _⟩ => ⟨S8x4096x4096, .bf16⟩
  | .local _ .vmem, ⟨0, _⟩ => ⟨S8x4096x4096, .fp8e4m3⟩
  | .local _ .vmem, ⟨1, _⟩ => ⟨S8x4096x1024, .fp8e4m3⟩
  | .local _ .vmem, ⟨2, _⟩ => ⟨S8x4096x1024, .fp8e4m3⟩
  | .local _ .vmem, ⟨3, _⟩ => ⟨S8x4096x4096, .f32⟩
  | .local _ .vmem, ⟨4, _⟩ => ⟨S8x4096x1024, .f32⟩
  | .local _ .vmem, ⟨5, _⟩ => ⟨S8x4096x1024, .bf16⟩
  | _, _ => ⟨S8x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_call1_v0 : Ref sig .tc := ⟨.hbm, 58, rfl⟩
abbrev main_call1_v1 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
module

public import Idealize.ShloMosaic.Lib.Pipeline
public import Idealize.ShloMosaic.Lib.Scf
public import Idealize.ShloMosaic.Lib.Sig
public import Idealize.ShloMosaic.PureOps
public import Idealize.ShloMosaic.PureOps.Ideal

/-!
# The kernel body, written once

The printed kernel repeats one text seven times over, once for each window width, and eight times over
inside each, once for each head; and it is printed twice, once at machine words and once over the reals.
Here the same program is written once, with the width `n`, the head `h` and the value of the constant
`log2e` as parameters, and its arithmetic is named. `Proof.KernelBody` and `Proof.IdealBody` show that the
printed programs are this one.
-/

@[expose] public section

noncomputable section

namespace Seg

open Idealize.ShloMosaic Idealize.SL.Sem

abbrev S8 : Shape := ⟨1, ![8]⟩
abbrev S8x64 : Shape := ⟨2, ![8, 64]⟩
abbrev S8x256 : Shape := ⟨2, ![8, 256]⟩
abbrev S1x512x4096 : Shape := ⟨3, ![1, 512, 4096]⟩
abbrev S1x4096x1024 : Shape := ⟨3, ![1, 4096, 1024]⟩
abbrev S1x1x8x128 : Shape := ⟨4, ![1, 1, 8, 128]⟩
abbrev S1024x128 : Shape := ⟨2, ![1024, 128]⟩
abbrev S1 : Shape := ⟨1, ![1]⟩
abbrev S1x1 : Shape := ⟨2, ![1, 1]⟩
abbrev S1x1x1x128 : Shape := ⟨4, ![1, 1, 1, 128]⟩
abbrev S1x128 : Shape := ⟨2, ![1, 128]⟩
abbrev S1x64x128 : Shape := ⟨3, ![1, 64, 128]⟩
abbrev S64x128 : Shape := ⟨2, ![64, 128]⟩
abbrev S256x128 : Shape := ⟨2, ![256, 128]⟩
abbrev S128x256 : Shape := ⟨2, ![128, 256]⟩
abbrev S1x256 : Shape := ⟨2, ![1, 256]⟩
abbrev S256 : Shape := ⟨1, ![256]⟩
abbrev S1x1x256 : Shape := ⟨3, ![1, 1, 256]⟩
abbrev S1x1x1 : Shape := ⟨3, ![1, 1, 1]⟩
/-- `n` keys by 128 lanes, -/
abbrev Sn (n : Nat) : Shape := ⟨2, ![n, 128]⟩
/-- a window of `n` rows of the keys or the values, -/
abbrev Kn (n : Nat) : Shape := ⟨3, ![1, n, 128]⟩
/-- and `n` keys by the 256 lanes of a tile: four query heads of 64 rows. -/
abbrev Wn (n : Nat) : Shape := ⟨2, ![n, 256]⟩

/-- The first row after tile `t` of row block `r`: `512·r + 64·t + 64`. -/
def stopW (r t : Fin 8) : BitVec 32 :=
  Scalar.addi (Scalar.addi (Scalar.muli (BitVec.ofNat 32 r.val) 512#32) (Scalar.muli (Scf.iv 0#32 1#32 t.val) 64#32)) 64#32

/-- The first row of the window of `n` keys that ends with tile `t` of row block `r`. -/
def winW (n : Nat) (r t : Fin 8) : BitVec 32 :=
  Scalar.maxsi (Scalar.subi (stopW r t) (BitVec.ofNat 32 n)) 0#32

/-- What the shapes of a window of `n` keys have to satisfy. -/
class Shp (n : Nat) : Prop where
  iota : (Sn n).Iotas .tc 32 [0]
  bc : S1x128.Broadcasts (Sn n)
  inbBias : ∀ a, (![0, 0] : Fin 2 → Nat) a + (Sn n).size a ≤ S1024x128.size a
  posS : 0 < (Sn n).numel
  scS : (Sn n).ShapeCasts (Sn n)
  posK : 0 < (Kn n).numel
  scK : (Kn n).ShapeCasts (Sn n)
  bcW : S1x256.Broadcasts (Wn n)
  cat : Shape.Concatenates [Sn n, Sn n] (Wn n) 1
  red : (Wn n).Reduces [0] S256
  wf1 : DotDims.WF (Sn n) S256x128 (Wn n) [1] [1] [0] [0] [] []
  wf2 : DotDims.WF (Sn n) (Wn n) S128x256 [0] [0] [1] [1] [] []
  win : ∀ r t : Fin 8, (Scalar.indexCast (winW n r t)).toNat + n ≤ 4096

instance : Shp 128 := by constructor <;> decide +kernel
instance : Shp 256 := by constructor <;> decide +kernel
instance : Shp 384 := by constructor <;> decide +kernel
instance : Shp 512 := by constructor <;> decide +kernel
instance : Shp 640 := by constructor <;> decide +kernel
instance : Shp 768 := by constructor <;> decide +kernel
instance : Shp 1024 := by constructor <;> decide +kernel

/-- Keys against queries: both contracted along the 128 lanes. -/
def dotKQ (n : Nat) [Shp n] : DotDims (Sn n) S256x128 (Wn n) where
  lhsContracting := [1]
  rhsContracting := [1]
  lhsNonContracting := [0]
  rhsNonContracting := [0]
  lhsBatch := []
  rhsBatch := []
  wf := Shp.wf1

/-- Values against probabilities: both contracted along the keys. -/
def dotVP (n : Nat) [Shp n] : DotDims (Sn n) (Wn n) S128x256 where
  lhsContracting := [0]
  rhsContracting := [0]
  lhsNonContracting := [1]
  rhsNonContracting := [1]
  lhsBatch := []
  rhsBatch := []
  wf := Shp.wf2

theorem posOut : 0 < S1x64x128.numel := by decide
theorem posLane : 0 < S1x1x1x128.numel := by decide
theorem posRow : 0 < S1x256.numel := by decide
theorem scLane : S1x1x1x128.ShapeCasts S1x128 := by decide
theorem scQ : S1x64x128.ShapeCasts S64x128 := by decide
theorem scO : S64x128.ShapeCasts S1x64x128 := by decide
theorem scRow : S1x256.ShapeCasts S1x256 := by decide
theorem scSum : S256.ShapeCasts S1x256 := by decide
theorem scFlag : S1x256.ShapeCasts S1x1x256 := by decide
theorem scMin : S1.ShapeCasts S1x1x1 := by decide
theorem catQ : Shape.Concatenates [S64x128, S64x128, S64x128, S64x128] S256x128 0 := by decide
theorem bcAcc : S1x256.Broadcasts S128x256 := by decide
theorem lt8 : FTy.bits .fp8e4m3 < FTy.bits .bf16 := by decide
theorem lt16 : FTy.bits .bf16 < FTy.bits .f32 := by decide
theorem trO : S128x256.Transposes [1, 0] S256x128 := by decide
theorem redFlag : S1x1x256.Reduces [1, 2] S1 := by decide
theorem one1 : S1.numel = 1 := by decide
theorem one11 : S1x1.numel = 1 := by decide
theorem slO (g : Fin 4) : S256x128.Slices ![64 * g.val, 0] S64x128 := by revert g; decide
theorem inbC (h : Fin 8) : ∀ a, (![h.val, 0] : Fin 2 → Nat) a + S1x256.size a ≤ S8x256.size a := by revert h; decide
theorem inbVs (h : Fin 8) : ∀ a, (![h.val] : Fin 1 → Nat) a + S1.size a ≤ S8.size a := by revert h; decide
theorem inbFlag : ∀ a, (![0] : Fin 1 → Nat) a + S1.size a ≤ S1.size a := by decide

/-- Where tile `t`'s rows of query head `c` lie in a block of the queries or of the result. -/
def qOff (t : Fin 8) (c : Nat) : Fin 3 → Nat :=
  ![0, (Scalar.indexCast (Scalar.muli (Scf.iv 0#32 1#32 t.val) 64#32)).toNat, c * 128]
/-- Where the tile's bounds lie. -/
def bOff (t : Fin 8) : Fin 4 → Nat := ![0, 0, (Scalar.indexCast (Scf.iv 0#32 1#32 t.val)).toNat, 0]
/-- Where the window of `n` keys of head `h` lies in a block of the keys or the values. -/
def kOff (n : Nat) (r t : Fin 8) (h : Fin 8) : Fin 3 → Nat := ![0, (Scalar.indexCast (winW n r t)).toNat, h.val * 128]

theorem qOff_inb (t : Fin 8) (c : Fin 32) : ∀ a, qOff t c.val a + S1x64x128.size a ≤ S1x512x4096.size a := by
  revert t c; decide +kernel
theorem qOff_packed (t : Fin 8) (c : Fin 32) :
    (Rect.unit (s := S1x512x4096) (qOff t c.val) S1x64x128.size (qOff_inb t c)).PackedRows (EltTy.packing .bf16) := by
  revert t c; decide +kernel
theorem bOff_inb (t : Fin 8) : ∀ a, bOff t a + S1x1x1x128.size a ≤ S1x1x8x128.size a := by revert t; decide +kernel
theorem kOff_inb (n : Nat) [Shp n] (r t : Fin 8) (h : Fin 8) :
    ∀ a, kOff n r t h a + (Kn n).size a ≤ S1x4096x1024.size a := by
  have h1 := Shp.win (n := n) r t
  have h2 := h.isLt
  intro a
  match a with
  | 0 => exact (by decide : (0 : Nat) + 1 ≤ 1)
  | 1 => exact h1
  | 2 => show h.val * 128 + 128 ≤ 1024; omega

variable {F : FTy → Type} [FloatOps F]

/-! ### The arithmetic -/

/-- The bias of `n` keys from `w` on: `0` where the key lies between the row's bounds, `-∞` elsewhere. -/
def biasV (n : Nat) [Shp n] (w : BitVec 32) (lo hi : Vec F S1x1x1x128 .i32) : FVec F (Sn n) .f32 :=
  select (andi (cmpi .sge (addi (broadcast (Sn n) w) (iota .tc (Sn n) 32 [0] Shp.iota))
      (broadcastTo (Sn n) (shapeCast S1x128 lo scLane) Shp.bc))
    (cmpi .sle (addi (broadcast (Sn n) w) (iota .tc (Sn n) 32 [0] Shp.iota))
      (broadcastTo (Sn n) (shapeCast S1x128 hi scLane) Shp.bc)))
    (broadcast (Sn n) (Scalar.ofBits .f32 0x00000000#32)) (broadcast (Sn n) (Scalar.ofBits .f32 0xFF800000#32))

/-- The four query heads of one key head, one under another. -/
def qcat (q0 q1 q2 q3 : Vec F S1x64x128 .fp8e4m3) : FVec F S256x128 .fp8e4m3 :=
  concatenate S256x128 0 [⟨S64x128, shapeCast S64x128 q0 scQ⟩, ⟨S64x128, shapeCast S64x128 q1 scQ⟩,
    ⟨S64x128, shapeCast S64x128 q2 scQ⟩, ⟨S64x128, shapeCast S64x128 q3 scQ⟩] catQ

/-- The exponents, base two: scores times scale times `log2e`, plus the bias. -/
def expoV (n : Nat) [Shp n] (le : F .f32) (k : Vec F (Kn n) .fp8e4m3) (q : FVec F S256x128 .fp8e4m3)
    (b : FVec F (Sn n) .f32) (c : Vec F S1x256 .f32) : FVec F (Wn n) .f32 :=
  addf (mulf (matmul (dotKQ n) none (shapeCast (Sn n) k Shp.scK) q (constant (Wn n) .f32 0x00000000#32))
      (broadcastTo (Wn n) (mulf (shapeCast S1x256 c scRow) (broadcast S1x256 le)) Shp.bcW))
    (concatenate (Wn n) 1 [⟨Sn n, b⟩, ⟨Sn n, b⟩] Shp.cat)

/-- The column sums. -/
def sumV (n : Nat) [Shp n] (p : FVec F (Wn n) .f32) : FVec F S1x256 .f32 :=
  shapeCast S1x256 (multiReduction .add [0] S256 p 0x00000000#32 Shp.red (.inl rfl) rfl) scSum

/-- The column maxima. -/
def maxV (n : Nat) [Shp n] (p : FVec F (Wn n) .f32) : FVec F S1x256 .f32 :=
  shapeCast S1x256 (multiReduction .maximumf [0] S256 p 0xFF800000#32 Shp.red (.inl rfl) rfl) scSum

/-- The values, weighted. -/
def accV (n : Nat) [Shp n] (v : Vec F (Kn n) .fp8e4m3) (p : FVec F (Wn n) .f32) : FVec F S128x256 .f32 :=
  matmul (dotVP n) none (extf .bf16 (shapeCast (Sn n) v Shp.scK) lt8) (truncf .bf16 p lt16)
    (constant S128x256 .f32 0x00000000#32)

/-- The weighted values times the value scale over the sum, turned to rows. -/
def outV (acc : FVec F S128x256 .f32) (l : FVec F S1x256 .f32) (vs : F .f32) : FVec F S256x128 .bf16 :=
  transpose S256x128 [1, 0]
    (truncf .bf16 (mulf acc (broadcastTo S128x256 (divf (broadcast S1x256 vs) l) bcAcc)) lt16) trO

/-- The rows of one query head out of four. -/
def pieceV (g : Fin 4) (o : FVec F S256x128 .bf16) : FVec F S1x64x128 .bf16 :=
  shapeCast S1x64x128 (extractStridedSlice S64x128 ![64 * g.val, 0] o (slO g)) scO

/-- Which sums lie where the division is safe. -/
def goodV (l : FVec F S1x256 .f32) : IVec S1x256 1 :=
  andi (cmpf .oge l (broadcast S1x256 (Scalar.ofBits .f32 0x12800000#32)))
    (cmpf .ole l (broadcast S1x256 (Scalar.ofBits .f32 0x79000000#32)))

/-- One if every sum is safe, zero otherwise. -/
def flagV (ok : IVec S1x256 1) : BitVec 32 :=
  extractAt ![0, 0, 0] (shapeCast S1x1x1 (multiReductionI .minsi [1, 2] S1
    (shapeCast S1x1x256 (select ok (broadcast S1x256 1#32) (broadcast S1x256 0#32)) scFlag)
    2147483647#32 redFlag rfl) scMin) (by decide)

/-! ### The memory the body works on -/

variable {nD : Nat} {τ : Topo} {sig : RefSig} {Λ : Labels}

/-- The body's arguments: the table of first keys, the blocks of queries, keys and values, the bounds, the score
    scales and the value scales, the block of the result, and the two scratch buffers. -/
structure Mem (sig : RefSig) where
  a2 : Memref sig .tc .smem S8x64 .i32
  a3 : Memref sig .tc .vmem S1x512x4096 .fp8e4m3
  a4 : Memref sig .tc .vmem S1x4096x1024 .fp8e4m3
  a5 : Memref sig .tc .vmem S1x4096x1024 .fp8e4m3
  a6 : Memref sig .tc .vmem S1x1x8x128 .i32
  a7 : Memref sig .tc .vmem S1x1x8x128 .i32
  a8 : Memref sig .tc .vmem S8x256 .f32
  a9 : Memref sig .tc .smem S8 .f32
  a10 : Memref sig .tc .vmem S1x512x4096 .bf16
  a11 : Memref sig .tc .vmem S1024x128 .f32
  a12 : Memref sig .tc .smem S1 .i32
  w10 : a10.IsWhole

/-- The rectangle of tile `t`'s rows of query head `c`. -/
abbrev qR (t : Fin 8) (c : Fin 32) : Rect S1x512x4096 :=
  Rect.unit (s := S1x512x4096) (qOff t c.val) S1x64x128.size (qOff_inb t c)
/-- The rectangle of tile `t`'s bounds. -/
abbrev bR (t : Fin 8) : Rect S1x1x8x128 := Rect.unit (s := S1x1x8x128) (bOff t) S1x1x1x128.size (bOff_inb t)
/-- The rectangle of the window of `n` keys of head `h`. -/
abbrev kR (n : Nat) [Shp n] (r t : Fin 8) (h : Fin 8) : Rect S1x4096x1024 :=
  Rect.unit (s := S1x4096x1024) (kOff n r t h) (Kn n).size (kOff_inb n r t h)
/-- The rectangle of head `h`'s score scales. -/
abbrev cR (h : Fin 8) : Rect S8x256 := Rect.unit (s := S8x256) ![h.val, 0] S1x256.size (inbC h)
/-- The rectangle of head `h`'s value scale. -/
abbrev vsR (h : Fin 8) : Rect S8 := Rect.unit (s := S8) ![h.val] S1.size (inbVs h)
/-- The rectangle of the first `n` rows of the bias. -/
abbrev biasR (n : Nat) [Shp n] : Rect S1024x128 := Rect.unit (s := S1024x128) ![0, 0] (Sn n).size Shp.inbBias
/-- The rectangle of the flag. -/
abbrev flagR : Rect S1 := Rect.unit (s := S1) ![0] S1.size inbFlag

section Progs
variable (A : Mem sig)

/-- Query head `4h + g`. -/
abbrev col (h : Fin 8) (g : Fin 4) : Fin 32 := ⟨h.val * 4 + g.val, by omega⟩

/-- Store the rows of one query head of a tile. -/
def storePiece (t : Fin 8) (h : Fin 8) (g : Fin 4) (o : FVec F S256x128 .bf16) :
    Prog (TpuEff nD τ sig (Elt F) Λ .tc) PUnit := do
  let _ : Vec F S1x64x128 .bf16 ← Prog.lift (.load A.a10 (qR t (col h g)).toLoadRect (View.loadsAt_vmem posOut))
  Prog.lift (.store A.a10 (qR t (col h g)) (pieceV g o) Finset.univ
    (View.stores_vmem posOut (A.w10.storeExact_slice rfl _ (qOff_packed t (col h g))) (fun _ => rfl)) (.inl rfl))

/-- One key head over a window of `n` keys; it returns which sums were safe. -/
def headProg (n : Nat) [Shp n] (le : F .f32) (r t : Fin 8) (h : Fin 8) :
    Prog (TpuEff nD τ sig (Elt F) Λ .tc) (IVec S1x256 1) := do
  let k : Vec F (Kn n) .fp8e4m3 ← Prog.lift (.load A.a4 (kR n r t h).toLoadRect (View.loadsAt_vmem Shp.posK))
  let q0 : Vec F S1x64x128 .fp8e4m3 ← Prog.lift (.load A.a3 (qR t (col h 0)).toLoadRect (View.loadsAt_vmem posOut))
  let q1 : Vec F S1x64x128 .fp8e4m3 ← Prog.lift (.load A.a3 (qR t (col h 1)).toLoadRect (View.loadsAt_vmem posOut))
  let q2 : Vec F S1x64x128 .fp8e4m3 ← Prog.lift (.load A.a3 (qR t (col h 2)).toLoadRect (View.loadsAt_vmem posOut))
  let q3 : Vec F S1x64x128 .fp8e4m3 ← Prog.lift (.load A.a3 (qR t (col h 3)).toLoadRect (View.loadsAt_vmem posOut))
  let b : Vec F (Sn n) .f32 ← Prog.lift (.load A.a11 (biasR n).toLoadRect (View.loadsAt_vmem Shp.posS))
  let c : Vec F S1x256 .f32 ← Prog.lift (.load A.a8 (cR h).toLoadRect (View.loadsAt_vmem posRow))
  let v : Vec F (Kn n) .fp8e4m3 ← Prog.lift (.load A.a5 (kR n r t h).toLoadRect (View.loadsAt_vmem Shp.posK))
  let vs : Elt F .f32 ← smemLoad A.a9 (vsR h) one1 rfl
  storePiece A t h 0 (outV (accV n v (exp2 (expoV n le k (qcat q0 q1 q2 q3) b c))) (sumV n (exp2 (expoV n le k (qcat q0 q1 q2 q3) b c))) vs)
  storePiece A t h 1 (outV (accV n v (exp2 (expoV n le k (qcat q0 q1 q2 q3) b c))) (sumV n (exp2 (expoV n le k (qcat q0 q1 q2 q3) b c))) vs)
  storePiece A t h 2 (outV (accV n v (exp2 (expoV n le k (qcat q0 q1 q2 q3) b c))) (sumV n (exp2 (expoV n le k (qcat q0 q1 q2 q3) b c))) vs)
  storePiece A t h 3 (outV (accV n v (exp2 (expoV n le k (qcat q0 q1 q2 q3) b c))) (sumV n (exp2 (expoV n le k (qcat q0 q1 q2 q3) b c))) vs)
  pure (goodV (sumV n (exp2 (expoV n le k (qcat q0 q1 q2 q3) b c))))

/-- The one-pass path over a window of `n` keys: the bias, then the eight key heads; it returns the flag. -/
def directProg (n : Nat) [Shp n] (le : F .f32) (r t : Fin 8) : Prog (TpuEff nD τ sig (Elt F) Λ .tc) (BitVec 32) := do
  let lo : Vec F S1x1x1x128 .i32 ← Prog.lift (.load A.a6 (bR t).toLoadRect (View.loadsAt_vmem posLane))
  let hi : Vec F S1x1x1x128 .i32 ← Prog.lift (.load A.a7 (bR t).toLoadRect (View.loadsAt_vmem posLane))
  let _ : Vec F (Sn n) .f32 ← Prog.lift (.load A.a11 (biasR n).toLoadRect (View.loadsAt_vmem Shp.posS))
  Prog.lift (.store A.a11 (biasR n) (shapeCast (Sn n) (biasV n (winW n r t) lo hi) Shp.scS) Finset.univ
    (View.stores_vmem_bits_univ Shp.posS rfl) (.inl rfl))
  let g0 ← headProg A n le r t 0
  let g1 ← headProg A n le r t 1
  let g2 ← headProg A n le r t 2
  let g3 ← headProg A n le r t 3
  let g4 ← headProg A n le r t 4
  let g5 ← headProg A n le r t 5
  let g6 ← headProg A n le r t 6
  let g7 ← headProg A n le r t 7
  let _ : Elt F .i32 ← smemLoad A.a12 flagR one1 rfl
  pure (flagV (andi (andi (andi (andi (andi (andi (andi g0 g1) g2) g3) g4) g5) g6) g7))

/-! ### The general path -/

/-- The quotient by 256, rounded down. -/
def floorW (x : BitVec 32) : BitVec 32 :=
  Scalar.select (Scalar.andi
      (Scalar.cmpi .ne (Scalar.subi (Scalar.extui (Scalar.cmpi .sgt x 0#32)) (Scalar.extui (Scalar.cmpi .slt x 0#32) : BitVec 32))
        (Scalar.subi (Scalar.extui (Scalar.cmpi .sgt 256#32 0#32)) (Scalar.extui (Scalar.cmpi .slt 256#32 0#32) : BitVec 32)))
      (Scalar.cmpi .ne (Scalar.remsi x 256#32) 0#32))
    (Scalar.subi (Scalar.divsi x 256#32) 1#32) (Scalar.divsi x 256#32)

/-- One past the last chunk of 256 keys of tile `t` of row block `r`. -/
def lastW (r t : Fin 8) : BitVec 32 := floorW (Scalar.subi (Scalar.addi (stopW r t) 256#32) 1#32)

/-- The loop over the chunks of 256 keys, -/
def loopC (r t : Fin 8) (s : BitVec 32) : Scf.Loop 32 :=
  ⟨floorW s, Scalar.addi (floorW s) (Scalar.muli (Scalar.divsi (Scalar.subi (lastW r t) (floorW s)) 1#32) 1#32), 1#32⟩
/-- and the loop over what unrolling left of it. -/
def loopD (r t : Fin 8) (s : BitVec 32) : Scf.Loop 32 :=
  ⟨Scalar.addi (floorW s) (Scalar.muli (Scalar.divsi (Scalar.subi (lastW r t) (floorW s)) 1#32) 1#32),
    Scalar.addi (floorW s) (Scalar.subi (lastW r t) (floorW s)), 1#32⟩

/-- The first key of a chunk, -/
def chunkW (lb : BitVec 32) (k : Nat) : BitVec 32 := Scalar.muli (Scf.iv lb 1#32 k) 256#32
/-- and where the chunk of head `h` lies in a block of the keys or the values. -/
def chunkOff (w : BitVec 32) (h : Fin 8) : Fin 3 → Nat :=
  ![0, (Scalar.indexCast w).toNat, (Scalar.indexCast (Scalar.muli (Scf.iv 0#32 1#32 h.val) 128#32)).toNat]

/-- What the general path asks of the first key. -/
def GenOK (r t : Fin 8) (s : BitVec 32) : Prop :=
  ((loopC r t s).OK ∧ ∀ (h : Fin 8) (k : Fin (loopC r t s).trips),
    ∀ a, chunkOff (chunkW (loopC r t s).lb k.val) h a + (Kn 256).size a ≤ S1x4096x1024.size a) ∧
  ((loopD r t s).OK ∧ ∀ (h : Fin 8) (k : Fin (loopD r t s).trips),
    ∀ a, chunkOff (chunkW (loopD r t s).lb k.val) h a + (Kn 256).size a ≤ S1x4096x1024.size a)

/-- The query offset as the general path computes it. -/
def gOff (t : Fin 8) (h : Fin 8) (g : Fin 4) : Fin 3 → Nat :=
  ![0, (Scalar.indexCast (Scalar.muli (Scf.iv 0#32 1#32 t.val) 64#32)).toNat,
    (Scalar.indexCast (Scalar.muli (Scalar.addi (Scalar.muli (Scf.iv 0#32 1#32 h.val) 4#32) (BitVec.ofNat 32 g.val)) 128#32)).toNat]
theorem gOff_eq (t : Fin 8) (h : Fin 8) (g : Fin 4) : gOff t h g = qOff t (col h g).val := by
  revert t h g; decide +kernel
theorem gOff_inb (t : Fin 8) (h : Fin 8) (g : Fin 4) : ∀ a, gOff t h g a + S1x64x128.size a ≤ S1x512x4096.size a := by
  rw [gOff_eq]; exact qOff_inb t (col h g)
/-- The rectangle of a query head as the general path computes it. -/
abbrev gR (t : Fin 8) (h : Fin 8) (g : Fin 4) : Rect S1x512x4096 :=
  Rect.unit (s := S1x512x4096) (gOff t h g) S1x64x128.size (gOff_inb t h g)
theorem gR_eq (t : Fin 8) (h : Fin 8) (g : Fin 4) : gR t h g = qR t (col h g) := by
  unfold gR qR; congr 1; exact gOff_eq t h g
theorem gOff_packed (t : Fin 8) (h : Fin 8) (g : Fin 4) : (gR t h g).PackedRows (EltTy.packing .bf16) := by
  rw [gR_eq]; exact qOff_packed t (col h g)
theorem hOff_inb (h : Fin 8) :
    ∀ a, (![(Scalar.indexCast (Scf.iv 0#32 1#32 h.val)).toNat, 0] : Fin 2 → Nat) a + S1x256.size a ≤ S8x256.size a := by
  revert h; decide +kernel
theorem hvOff_inb (h : Fin 8) :
    ∀ a, (![(Scalar.indexCast (Scf.iv 0#32 1#32 h.val)).toNat] : Fin 1 → Nat) a + S1.size a ≤ S8.size a := by
  revert h; decide +kernel
/-- The rectangle of head `h`'s score scales, as the general path computes it, -/
abbrev gcR (h : Fin 8) : Rect S8x256 :=
  Rect.unit (s := S8x256) ![(Scalar.indexCast (Scf.iv 0#32 1#32 h.val)).toNat, 0] S1x256.size (hOff_inb h)
/-- and of its value scale. -/
abbrev gvR (h : Fin 8) : Rect S8 := Rect.unit (s := S8) ![(Scalar.indexCast (Scf.iv 0#32 1#32 h.val)).toNat] S1.size (hvOff_inb h)

/-- The running maximum, the running sum and the running weighted values. -/
abbrev Acc (F : FTy → Type) := FVec F S1x256 .f32 × FVec F S1x256 .f32 × FVec F S128x256 .f32

/-- One step of the running softmax: `x` are the chunk's exponents, `v` its values. -/
def accStep (x : FVec F (Wn 256) .f32) (v : Vec F (Kn 256) .fp8e4m3) (a : Acc F) : Acc F :=
  (maximumf a.1 (maxV 256 x),
   addf (mulf a.2.1 (exp2 (subf a.1 (maximumf a.1 (maxV 256 x)))))
     (sumV 256 (exp2 (subf x (broadcastTo (Wn 256) (maximumf a.1 (maxV 256 x)) Shp.bcW)))),
   addf (mulf a.2.2 (broadcastTo S128x256 (exp2 (subf a.1 (maximumf a.1 (maxV 256 x)))) bcAcc))
     (accV 256 v (exp2 (subf x (broadcastTo (Wn 256) (maximumf a.1 (maxV 256 x)) Shp.bcW)))))

/-- One chunk of 256 keys from `w` on. -/
def chunkProg (le : F .f32) (t : Fin 8) (h : Fin 8) (q : FVec F S256x128 .fp8e4m3) (w : BitVec 32)
    (hw : ∀ a, chunkOff w h a + (Kn 256).size a ≤ S1x4096x1024.size a) (a : Acc F) :
    Prog (TpuEff nD τ sig (Elt F) Λ .tc) (Acc F) := do
  let k : Vec F (Kn 256) .fp8e4m3 ← Prog.lift (.load A.a4 (Rect.unit (s := S1x4096x1024) (chunkOff w h) (Kn 256).size hw).toLoadRect (View.loadsAt_vmem Shp.posK))
  let lo : Vec F S1x1x1x128 .i32 ← Prog.lift (.load A.a6 (bR t).toLoadRect (View.loadsAt_vmem posLane))
  let hi : Vec F S1x1x1x128 .i32 ← Prog.lift (.load A.a7 (bR t).toLoadRect (View.loadsAt_vmem posLane))
  let c : Vec F S1x256 .f32 ← Prog.lift (.load A.a8 (gcR h).toLoadRect (View.loadsAt_vmem posRow))
  let v : Vec F (Kn 256) .fp8e4m3 ← Prog.lift (.load A.a5 (Rect.unit (s := S1x4096x1024) (chunkOff w h) (Kn 256).size hw).toLoadRect (View.loadsAt_vmem Shp.posK))
  pure (accStep (expoV 256 le k q (biasV 256 w lo hi) c) v a)

/-- Store the rows of one query head of a tile, in the general path. -/
def storePieceG (t : Fin 8) (h : Fin 8) (g : Fin 4) (o : FVec F S256x128 .bf16) :
    Prog (TpuEff nD τ sig (Elt F) Λ .tc) PUnit := do
  let _ : Vec F S1x64x128 .bf16 ← Prog.lift (.load A.a10 (gR t h g).toLoadRect (View.loadsAt_vmem posOut))
  Prog.lift (.store A.a10 (gR t h g) (pieceV g o) Finset.univ
    (View.stores_vmem posOut (A.w10.storeExact_slice rfl _ (gOff_packed t h g)) (fun _ => rfl)) (.inl rfl))

/-- One key head by the running softmax, up to the rows of its first query head. -/
def genFront (le : F .f32) (r t : Fin 8) (s : BitVec 32) (hs : GenOK r t s) (h : Fin 8) :
    Prog (TpuEff nD τ sig (Elt F) Λ .tc) (FVec F S256x128 .bf16) := do
  let q0 : Vec F S1x64x128 .fp8e4m3 ← Prog.lift (.load A.a3 (gR t h 0).toLoadRect (View.loadsAt_vmem posOut))
  let q1 : Vec F S1x64x128 .fp8e4m3 ← Prog.lift (.load A.a3 (gR t h 1).toLoadRect (View.loadsAt_vmem posOut))
  let q2 : Vec F S1x64x128 .fp8e4m3 ← Prog.lift (.load A.a3 (gR t h 2).toLoadRect (View.loadsAt_vmem posOut))
  let q3 : Vec F S1x64x128 .fp8e4m3 ← Prog.lift (.load A.a3 (gR t h 3).toLoadRect (View.loadsAt_vmem posOut))
  let a ← Scf.Loop.for (loopC r t s) hs.1.1
    ((broadcast S1x256 (Scalar.ofBits .f32 0xFF7FFFFF#32), broadcast S1x256 (Scalar.ofBits .f32 0x00000000#32),
      broadcast S128x256 (Scalar.ofBits .f32 0x00000000#32)) : Acc F)
    fun k a => chunkProg A le t h (qcat q0 q1 q2 q3) (chunkW (loopC r t s).lb k.val) (hs.1.2 h k) a
  let a ← Scf.Loop.for (loopD r t s) hs.2.1 a
    fun k a => chunkProg A le t h (qcat q0 q1 q2 q3) (chunkW (loopD r t s).lb k.val) (hs.2.2 h k) a
  let vs : Elt F .f32 ← smemLoad A.a9 (gvR h) one1 rfl
  storePieceG A t h 0 (outV a.2.2 a.2.1 vs)
  pure (outV a.2.2 a.2.1 vs)

/-- One key head by the running softmax. -/
def genProg (le : F .f32) (r t : Fin 8) (s : BitVec 32) (hs : GenOK r t s) (h : Fin 8) :
    Prog (TpuEff nD τ sig (Elt F) Λ .tc) PUnit := do
  let o ← genFront A le r t s hs h
  storePieceG A t h 1 o
  storePieceG A t h 2 o
  storePieceG A t h 3 o

/-- `genFront`, handing on what follows needs. -/
def genFrontJ {α : Type} (le : F .f32) (r t : Fin 8) (s : BitVec 32) (hs : GenOK r t s) (h : Fin 8) (K : FVec F S256x128 .bf16 → α) :
    Prog (TpuEff nD τ sig (Elt F) Λ .tc) α := do
  let q0 : Vec F S1x64x128 .fp8e4m3 ← Prog.lift (.load A.a3 (gR t h 0).toLoadRect (View.loadsAt_vmem posOut))
  let q1 : Vec F S1x64x128 .fp8e4m3 ← Prog.lift (.load A.a3 (gR t h 1).toLoadRect (View.loadsAt_vmem posOut))
  let q2 : Vec F S1x64x128 .fp8e4m3 ← Prog.lift (.load A.a3 (gR t h 2).toLoadRect (View.loadsAt_vmem posOut))
  let q3 : Vec F S1x64x128 .fp8e4m3 ← Prog.lift (.load A.a3 (gR t h 3).toLoadRect (View.loadsAt_vmem posOut))
  let a ← Scf.Loop.for (loopC r t s) hs.1.1
    ((broadcast S1x256 (Scalar.ofBits .f32 0xFF7FFFFF#32), broadcast S1x256 (Scalar.ofBits .f32 0x00000000#32),
      broadcast S128x256 (Scalar.ofBits .f32 0x00000000#32)) : Acc F)
    fun k a => chunkProg A le t h (qcat q0 q1 q2 q3) (chunkW (loopC r t s).lb k.val) (hs.1.2 h k) a
  let a ← Scf.Loop.for (loopD r t s) hs.2.1 a
    fun k a => chunkProg A le t h (qcat q0 q1 q2 q3) (chunkW (loopD r t s).lb k.val) (hs.2.2 h k) a
  let vs : Elt F .f32 ← smemLoad A.a9 (gvR h) one1 rfl
  storePieceG A t h 0 (outV a.2.2 a.2.1 vs)
  pure (K (outV a.2.2 a.2.1 vs))

theorem genFrontJ_eq {α : Type} (le : F .f32) (r t : Fin 8) (s : BitVec 32) (hs : GenOK r t s) (h : Fin 8) (K : FVec F S256x128 .bf16 → α) :
    genFrontJ (nD := nD) (τ := τ) (Λ := Λ) A le r t s hs h K = genFront A le r t s hs h >>= fun o => pure (K o) := by
  simp only [genFrontJ, genFront, Prog.bind_assoc]
  rfl

/-- `genProg` as the printed program cuts it. -/
def genJ (le : F .f32) (r t : Fin 8) (s : BitVec 32) (hs : GenOK r t s) (h : Fin 8) :
    Prog (TpuEff nD τ sig (Elt F) Λ .tc) PUnit := do
  let ⟨o, p, x⟩ : Σ' (v148 : FVec F S256x128 .bf16) (v161 : FVec F S64x128 .bf16), BitVec 32 ← genFrontJ A le r t s hs h
    (fun o => ⟨o, extractStridedSlice S64x128 ![64 * (1 : Fin 4).val, 0] o (slO 1),
      Scalar.muli (Scalar.addi (Scalar.muli (Scf.iv 0#32 1#32 h.val) 4#32) 1#32) 128#32⟩)
  let _ : Vec F S1x64x128 .bf16 ← Prog.lift (.load A.a10 (gR t h 1).toLoadRect (View.loadsAt_vmem posOut))
  Prog.lift (.store A.a10 (gR t h 1) (shapeCast S1x64x128 p scO) Finset.univ
    (View.stores_vmem posOut (A.w10.storeExact_slice rfl _ (gOff_packed t h 1)) (fun _ => rfl)) (.inl rfl))
  storePieceG A t h 2 o
  storePieceG A t h 3 o

theorem genJ_eq (le : F .f32) (r t : Fin 8) (s : BitVec 32) (hs : GenOK r t s) (h : Fin 8) :
    genJ (nD := nD) (τ := τ) (Λ := Λ) A le r t s hs h = genProg A le r t s hs h := by
  unfold genJ genProg
  rw [genFrontJ_eq, Prog.bind_assoc]
  rfl

/-! ### A tile, and the whole body -/

/-- The condition under which the window of `n` keys is taken, `lo` being the width before it. -/
def brC (need : BitVec 32) (lo n : BitVec 32) : BitVec 1 :=
  Scalar.cmpi .ne (Scalar.extui (Scalar.andi (Scalar.cmpi .sgt need lo) (Scalar.cmpi .sle need n)) : BitVec 32) 0#32

/-- The condition under which the general path is taken. -/
def genC (f : BitVec 32) : BitVec 1 := Scalar.cmpi .ne (Scalar.extui (Scalar.cmpi .eq f 0#32) : BitVec 32) 0#32

/-- Where the first key of tile `t` of row block `r` of batch `b` lies in the table. -/
def sOff (b r t : Fin 8) : Fin 2 → Nat :=
  ![(Scalar.indexCast (BitVec.ofNat 32 b.val)).toNat,
    (Scalar.indexCast (Scalar.addi (Scalar.muli (BitVec.ofNat 32 r.val) 8#32) (Scf.iv 0#32 1#32 t.val))).toNat]
theorem sOff_inb (b r t : Fin 8) : ∀ a, sOff b r t a + S1x1.size a ≤ S8x64.size a := by
  revert b r t; decide +kernel
/-- Its rectangle. -/
abbrev sR (b r t : Fin 8) : Rect S8x64 := Rect.unit (s := S8x64) (sOff b r t) S1x1.size (sOff_inb b r t)

/-- Store a flag. -/
def setFlag (f : BitVec 32) : Prog (TpuEff nD τ sig (Elt F) Λ .tc) PUnit :=
  Prog.lift (.store A.a12 flagR (fun _ => f) Finset.univ (View.stores_smem_one rfl one1) (.inl rfl))

/-- The one-pass path over `n` keys, if its condition holds. -/
def branchProg (n : Nat) [Shp n] (le : F .f32) (r t : Fin 8) (cond : BitVec 1) :
    Prog (TpuEff nD τ sig (Elt F) Λ .tc) PUnit :=
  if cond = 1#1 then do
    let f ← directProg A n le r t
    setFlag A f
  else pure ⟨⟩

/-- The loop over the tiles of a row block and over the key heads. -/
abbrev loop8 : Scf.Loop 32 := ⟨0#32, Scalar.addi 0#32 8#32, 1#32⟩
theorem loop8_trips : loop8.trips = 8 := by decide
theorem loop8_ok : loop8.OK := by decide

/-- A tile's first key: read it, clear the flag, and take a window of up to 512 keys if it fits. -/
def tileHead (le : F .f32) (b r t : Fin 8) : Prog (TpuEff nD τ sig (Elt F) Λ .tc) (BitVec 32) := do
  let s : Elt F .i32 ← smemLoad A.a2 (sR b r t) one11 rfl
  let _ : Elt F .i32 ← smemLoad A.a12 flagR one1 rfl
  setFlag A 0#32
  branchProg A 128 le r t (brC (Scalar.subi (stopW r t) s) 0#32 128#32)
  branchProg A 256 le r t (brC (Scalar.subi (stopW r t) s) 128#32 256#32)
  branchProg A 384 le r t (brC (Scalar.subi (stopW r t) s) 256#32 384#32)
  branchProg A 512 le r t (brC (Scalar.subi (stopW r t) s) 384#32 512#32)
  pure s

/-- The rest of a tile: the wider windows, and the general path if the flag is still clear. -/
def tileTail (P : BitVec 32 → BitVec 32 → Prop) (dec : ∀ s f, Decidable (P s f)) (le : F .f32) (r t : Fin 8)
    (hP : ∀ s f, P s f → genC f = 1#1 → GenOK r t s) (s : BitVec 32) :
    Prog (TpuEff nD τ sig (Elt F) Λ .tc) PUnit := do
  branchProg A 640 le r t (brC (Scalar.subi (stopW r t) s) 512#32 640#32)
  branchProg A 768 le r t (brC (Scalar.subi (stopW r t) s) 640#32 768#32)
  branchProg A 1024 le r t (brC (Scalar.subi (stopW r t) s) 768#32 1024#32)
  let f : Elt F .i32 ← smemLoad A.a12 flagR one1 rfl
  let hp ← Prog.lift (TpuEff.assume (P s f) (dec s f))
  if hg : genC f = 1#1 then do
    Scf.Loop.for loop8 loop8_ok ⟨⟩ fun h _ => genProg A le r t s (hP s f hp.down hg) (Fin.cast loop8_trips h)
    pure ⟨⟩
  else pure ⟨⟩

/-- A tile of 64 rows. -/
def tileProg (P : BitVec 32 → BitVec 32 → Prop) (dec : ∀ s f, Decidable (P s f)) (le : F .f32) (b r t : Fin 8)
    (hP : ∀ s f, P s f → genC f = 1#1 → GenOK r t s) :
    Prog (TpuEff nD τ sig (Elt F) Λ .tc) PUnit :=
  tileHead A le b r t >>= tileTail A P dec le r t hP

/-- A conditional window and what follows it, what follows written in both arms. -/
def branchThen {α : Type} (n : Nat) [Shp n] (le : F .f32) (r t : Fin 8) (cond : BitVec 1)
    (k : Prog (TpuEff nD τ sig (Elt F) Λ .tc) α) : Prog (TpuEff nD τ sig (Elt F) Λ .tc) α :=
  if cond = 1#1 then do
    let f ← directProg A n le r t
    setFlag A f
    k
  else k

theorem branchThen_eq {α : Type} (n : Nat) [Shp n] (le : F .f32) (r t : Fin 8) (cond : BitVec 1)
    (k : Prog (TpuEff nD τ sig (Elt F) Λ .tc) α) :
    branchThen A n le r t cond k = branchProg A n le r t cond >>= fun _ => k := by
  unfold branchThen branchProg
  split
  · rw [Prog.bind_assoc]
  · rfl

/-- `tileHead` with what follows each window written in both arms. -/
def tileHeadJ {α : Type} (le : F .f32) (b r t : Fin 8) (K : BitVec 32 → α) : Prog (TpuEff nD τ sig (Elt F) Λ .tc) α := do
  let s : Elt F .i32 ← smemLoad A.a2 (sR b r t) one11 rfl
  let _ : Elt F .i32 ← smemLoad A.a12 flagR one1 rfl
  setFlag A 0#32
  branchThen A 128 le r t (brC (Scalar.subi (stopW r t) s) 0#32 128#32)
    (branchThen A 256 le r t (brC (Scalar.subi (stopW r t) s) 128#32 256#32)
      (branchThen A 384 le r t (brC (Scalar.subi (stopW r t) s) 256#32 384#32)
        (branchThen A 512 le r t (brC (Scalar.subi (stopW r t) s) 384#32 512#32) (pure (K s)))))

theorem tileHeadJ_eq {α : Type} (le : F .f32) (b r t : Fin 8) (K : BitVec 32 → α) :
    tileHeadJ (nD := nD) (τ := τ) (Λ := Λ) A le b r t K = tileHead A le b r t >>= fun s => pure (K s) := by
  simp only [tileHeadJ, tileHead, branchThen_eq, Prog.bind_assoc]
  rfl

/-- `tileTail` with what follows each window written in both arms. -/
def tileTailJ (P : BitVec 32 → BitVec 32 → Prop) (dec : ∀ s f, Decidable (P s f)) (le : F .f32) (r t : Fin 8)
    (hP : ∀ s f, P s f → genC f = 1#1 → GenOK r t s) (s : BitVec 32) :
    Prog (TpuEff nD τ sig (Elt F) Λ .tc) PUnit :=
  branchThen A 640 le r t (brC (Scalar.subi (stopW r t) s) 512#32 640#32)
    (branchThen A 768 le r t (brC (Scalar.subi (stopW r t) s) 640#32 768#32)
      (branchThen A 1024 le r t (brC (Scalar.subi (stopW r t) s) 768#32 1024#32) (do
        let f : Elt F .i32 ← smemLoad A.a12 flagR one1 rfl
        let hp ← Prog.lift (TpuEff.assume (P s f) (dec s f))
        if hg : genC f = 1#1 then do
          Scf.Loop.for loop8 loop8_ok ⟨⟩ fun h _ => genJ A le r t s (hP s f hp.down hg) (Fin.cast loop8_trips h)
          pure ⟨⟩
        else pure ⟨⟩)))

theorem tileTailJ_eq (P : BitVec 32 → BitVec 32 → Prop) (dec : ∀ s f, Decidable (P s f)) (le : F .f32) (r t : Fin 8)
    (hP : ∀ s f, P s f → genC f = 1#1 → GenOK r t s) (s : BitVec 32) :
    tileTailJ (nD := nD) (τ := τ) (Λ := Λ) A P dec le r t hP s = tileTail A P dec le r t hP s := by
  simp only [tileTailJ, tileTail, branchThen_eq, genJ_eq]

/-- The whole body at row block `r` of batch `b`. -/
def bodyProg (P : Fin 8 → BitVec 32 → BitVec 32 → Prop) (dec : ∀ t s f, Decidable (P t s f)) (le : F .f32) (b r : Fin 8)
    (hP : ∀ t s f, P t s f → genC f = 1#1 → GenOK r t s) :
    Prog (TpuEff nD τ sig (Elt F) Λ .tc) PUnit := do
  Scf.Loop.for loop8 loop8_ok ⟨⟩ fun t _ =>
    tileProg A (P (Fin.cast loop8_trips t)) (dec (Fin.cast loop8_trips t)) le b r (Fin.cast loop8_trips t) (hP (Fin.cast loop8_trips t))
  pure ⟨⟩

end Progs

end Seg
-- ==== Proof.Bounds.lean ====
module

public import proofs.«01_k».proof.Proof.Body

/-!
# The general path's chunks

The general path runs over the chunks of 256 keys from the one that holds the tile's first key to the one that
holds its last row. Given that the first key is not past the tile's first row, its loop means something, its
chunks lie inside the keys, and the loop left over by unrolling has no trip.
-/

@[expose] public section

noncomputable section

namespace Seg

open Idealize.ShloMosaic

theorem stopW_eq (r t : Fin 8) : stopW r t = BitVec.ofNat 32 (512 * r.val + 64 * t.val + 64) := by
  revert r t; decide +kernel

theorem lastW_eq (r t : Fin 8) : lastW r t = BitVec.ofNat 32 ((512 * r.val + 64 * t.val + 319) / 256) := by
  revert r t; decide +kernel

theorem floorW_fin : ∀ n : Fin 4096, floorW (BitVec.ofNat 32 n.val) = BitVec.ofNat 32 (n.val / 256) := by
  decide +kernel

theorem floorW_eq (s : BitVec 32) (h : s.toNat < 4096) : floorW s = BitVec.ofNat 32 (s.toNat / 256) := by
  have := floorW_fin ⟨s.toNat, h⟩
  simpa using this

/-- One more than the number of the last chunk of a tile. -/
abbrev lastN (r t : Fin 8) : Nat := (512 * r.val + 64 * t.val + 319) / 256

/-- The loop over the chunks from `a` to `b`, -/
def loopAB (a b : Nat) : Scf.Loop 32 :=
  ⟨BitVec.ofNat 32 a, Scalar.addi (BitVec.ofNat 32 a) (Scalar.muli (Scalar.divsi (Scalar.subi (BitVec.ofNat 32 b) (BitVec.ofNat 32 a)) 1#32) 1#32), 1#32⟩
/-- and the one after it. -/
def loopAB' (a b : Nat) : Scf.Loop 32 :=
  ⟨Scalar.addi (BitVec.ofNat 32 a) (Scalar.muli (Scalar.divsi (Scalar.subi (BitVec.ofNat 32 b) (BitVec.ofNat 32 a)) 1#32) 1#32),
    Scalar.addi (BitVec.ofNat 32 a) (Scalar.subi (BitVec.ofNat 32 b) (BitVec.ofNat 32 a)), 1#32⟩

theorem loopAB_facts : ∀ (a b : Fin 17), a.val ≤ b.val → (loopAB a.val b.val).OK ∧ (loopAB a.val b.val).trips = b.val - a.val ∧
    (loopAB' a.val b.val).OK ∧ (loopAB' a.val b.val).trips = 0 := by
  decide +kernel

theorem chunkW_fin : ∀ (a k : Fin 17), chunkW (BitVec.ofNat 32 a.val) k.val = BitVec.ofNat 32 (256 * (a.val + k.val)) := by
  decide +kernel

theorem hcol_fin : ∀ h : Fin 8, (Scalar.indexCast (Scalar.muli (Scf.iv 0#32 1#32 h.val) 128#32)).toNat = h.val * 128 := by
  decide +kernel

section
variable (r t : Fin 8) (s : BitVec 32) (hs : s.toNat ≤ 512 * r.val + 64 * t.val)
include hs

theorem loopC_eq : loopC r t s = loopAB (s.toNat / 256) (lastN r t) := by
  unfold loopC loopAB
  rw [floorW_eq s (by omega), lastW_eq]

theorem loopD_eq : loopD r t s = loopAB' (s.toNat / 256) (lastN r t) := by
  unfold loopD loopAB'
  rw [floorW_eq s (by omega), lastW_eq]

theorem ab_facts : (loopAB (s.toNat / 256) (lastN r t)).OK ∧ (loopAB (s.toNat / 256) (lastN r t)).trips = lastN r t - s.toNat / 256 ∧
    (loopAB' (s.toNat / 256) (lastN r t)).OK ∧ (loopAB' (s.toNat / 256) (lastN r t)).trips = 0 :=
  loopAB_facts ⟨s.toNat / 256, by omega⟩ ⟨lastN r t, by unfold lastN; omega⟩ (by show _ / _ ≤ lastN r t; unfold lastN; omega)

theorem loopC_ok : (loopC r t s).OK := by rw [loopC_eq r t s hs]; exact (ab_facts r t s hs).1
theorem loopC_trips : (loopC r t s).trips = lastN r t - s.toNat / 256 := by rw [loopC_eq r t s hs]; exact (ab_facts r t s hs).2.1
theorem loopD_ok : (loopD r t s).OK := by rw [loopD_eq r t s hs]; exact (ab_facts r t s hs).2.2.1
theorem loopD_trips : (loopD r t s).trips = 0 := by rw [loopD_eq r t s hs]; exact (ab_facts r t s hs).2.2.2

/-- The first key of chunk `k`. -/
theorem chunkW_eq (k : Nat) (hk : k < (loopC r t s).trips) : chunkW (loopC r t s).lb k = BitVec.ofNat 32 (256 * (s.toNat / 256 + k)) := by
  rw [loopC_trips r t s hs] at hk
  unfold lastN at hk
  have e : (loopC r t s).lb = BitVec.ofNat 32 (s.toNat / 256) := floorW_eq s (by omega)
  rw [e]
  exact chunkW_fin ⟨s.toNat / 256, by omega⟩ ⟨k, by omega⟩

theorem chunkN_lt (k : Nat) (hk : k < (loopC r t s).trips) : 256 * (s.toNat / 256 + k) + 256 ≤ 4096 := by
  rw [loopC_trips r t s hs] at hk
  unfold lastN at hk
  omega

theorem chunk_dvd (k : Nat) (hk : k < (loopC r t s).trips) : 256 ∣ (chunkW (loopC r t s).lb k).toNat := by
  rw [chunkW_eq r t s hs k hk, BitVec.toNat_ofNat]
  have := chunkN_lt r t s hs k hk
  rw [Nat.mod_eq_of_lt (by omega)]
  exact ⟨_, rfl⟩

theorem chunkOff_eq (h : Fin 8) (k : Nat) (hk : k < (loopC r t s).trips) :
    chunkOff (chunkW (loopC r t s).lb k) h = ![0, 256 * (s.toNat / 256 + k), h.val * 128] := by
  have := chunkN_lt r t s hs k hk
  unfold chunkOff
  rw [hcol_fin, chunkW_eq r t s hs k hk]
  congr 2
  show (BitVec.ofNat 32 (256 * (s.toNat / 256 + k))).toNat = _
  rw [BitVec.toNat_ofNat, Nat.mod_eq_of_lt (by omega)]

theorem chunk_inb (h : Fin 8) (k : Nat) (hk : k < (loopC r t s).trips) :
    ∀ a, chunkOff (chunkW (loopC r t s).lb k) h a + (Kn 256).size a ≤ S1x4096x1024.size a := by
  have := chunkN_lt r t s hs k hk
  have := h.isLt
  rw [chunkOff_eq r t s hs h k hk]
  intro a
  match a with
  | 0 => exact (by decide : (0 : Nat) + 1 ≤ 1)
  | 1 => show 256 * (s.toNat / 256 + k) + 256 ≤ 4096; omega
  | 2 => show h.val * 128 + 128 ≤ 1024; omega

end

end Seg
-- ==== Proof.KernelBody.lean ====
module

public import proofs.«01_k».proof.Proof.Body
public import proofs.«01_k».proof.Proof.Bounds
public import Idealize.ShloMosaic.Lib.Pipeline.Regions
public import proofs.«01_k».proof.Proof.Gen.Kernel

/-!
# The printed body is the body

Each printed one-pass path is `directProg` at its width, and the printed body is `bodyProg`.
-/

@[expose] public section

noncomputable section

namespace Seg.Word

open Idealize.ShloMosaic Idealize.SL.Sem Cert.Kernel

variable {F : FTy → Type} [FloatOps F]
variable (i : grid0.Coords) (arg2 : Memref sig .tc .smem S8x64 .i32) (harg2 : arg2.IsWhole) (arg3 : Memref sig .tc .vmem S1x512x4096 .fp8e4m3) (harg3 : arg3.IsWhole)
  (arg4 : Memref sig .tc .vmem S1x4096x1024 .fp8e4m3) (harg4 : arg4.IsWhole) (arg5 : Memref sig .tc .vmem S1x4096x1024 .fp8e4m3) (harg5 : arg5.IsWhole)
  (arg6 : Memref sig .tc .vmem S1x1x8x128 .i32) (harg6 : arg6.IsWhole) (arg7 : Memref sig .tc .vmem S1x1x8x128 .i32) (harg7 : arg7.IsWhole)
  (arg8 : Memref sig .tc .vmem S8x256 .f32) (harg8 : arg8.IsWhole) (arg9 : Memref sig .tc .smem S8 .f32) (harg9 : arg9.IsWhole)
  (arg10 : Memref sig .tc .vmem S1x512x4096 .bf16) (harg10 : arg10.IsWhole) (arg11 : Memref sig .tc .vmem S1024x128 .f32) (harg11 : arg11.IsWhole)
  (arg12 : Memref sig .tc .smem S1 .i32) (harg12 : arg12.IsWhole)

/-- The body's arguments together. -/
abbrev mem : Seg.Mem sig := ⟨arg2, arg3, arg4, arg5, arg6, arg7, arg8, arg9, arg10, arg11, arg12, harg10⟩

/-- The constant `log2e` of the kernel. -/
abbrev le : F .f32 := Scalar.ofBits .f32 0x3FB8AA3B#32

/-- The printed one-pass path over 128 keys. -/
theorem part18_eq (t : Fin k0_t1_loop.trips) :
    k0_part18 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 128 le (i 1) (Fin.cast loop8_trips t) := by
  chain_rfl

/-- The printed one-pass path over 256 keys. -/
theorem part36_eq (t : Fin k0_t1_loop.trips) :
    k0_part36 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 256 le (i 1) (Fin.cast loop8_trips t) := by
  chain_rfl

/-- The printed one-pass path over 384 keys. -/
theorem part54_eq (t : Fin k0_t1_loop.trips) :
    k0_part54 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 384 le (i 1) (Fin.cast loop8_trips t) := by
  chain_rfl

/-- The printed one-pass path over 512 keys. -/
theorem part72_eq (t : Fin k0_t1_loop.trips) :
    k0_part72 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 512 le (i 1) (Fin.cast loop8_trips t) := by
  chain_rfl

/-- The printed one-pass path over 640 keys. -/
theorem part90_eq (t : Fin k0_t1_loop.trips) :
    k0_part90 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 640 le (i 1) (Fin.cast loop8_trips t) := by
  chain_rfl

/-- The printed one-pass path over 768 keys. -/
theorem part108_eq (t : Fin k0_t1_loop.trips) :
    k0_part108 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 768 le (i 1) (Fin.cast loop8_trips t) := by
  chain_rfl

/-- The printed one-pass path over 1024 keys. -/
theorem part126_eq (t : Fin k0_t1_loop.trips) :
    k0_part126 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 1024 le (i 1) (Fin.cast loop8_trips t) := by
  chain_rfl

/-- What the printed program asks of the words it read gives what the general path asks. -/
theorem genOK_of_chk (t : Fin 8) (s f : BitVec 32) (h : k0_chk1 i (Fin.cast loop8_trips.symm t) s f) (hg : genC f = 1#1) :
    GenOK (i 1) t s :=
  ⟨⟨h.1 hg, fun a k => h.2.2.1 (Fin.cast loop8_trips.symm a) k hg⟩, h.2.2.2.1 hg, fun a k => h.2.2.2.2.2 (Fin.cast loop8_trips.symm a) k hg⟩

/-- A first key that is not past the tile's first row is one the printed program can go on from. -/
theorem chk_of_le (t : Fin 8) (s f : BitVec 32) (h : s.toNat ≤ 512 * (i 1).val + 64 * t.val) : k0_chk1 i (Fin.cast loop8_trips.symm t) s f :=
  ⟨fun _ => loopC_ok (i 1) t s h, fun k _ => chunk_dvd (i 1) t s h k.val k.isLt, fun a k _ => chunk_inb (i 1) t s h (Fin.cast loop8_trips a) k.val k.isLt,
    fun _ => loopD_ok (i 1) t s h, fun k => absurd (Nat.lt_of_lt_of_eq k.isLt (loopD_trips (i 1) t s h)) (Nat.not_lt_zero _),
    fun _ k => absurd (Nat.lt_of_lt_of_eq k.isLt (loopD_trips (i 1) t s h)) (Nat.not_lt_zero _)⟩

/-- The printed first part of a tile. -/
theorem part131_eq (t : Fin 8) :
    k0_part131 (F := F) i arg2 harg2 arg3 harg3 arg4 harg4 arg5 harg5 arg6 harg6 arg7 harg7 arg8 harg8 arg9 harg9 arg10 harg10 arg11 harg11 arg12 harg12 (BitVec.ofNat 32 (i 0).val) (BitVec.ofNat 32 (i 1).val) 0#32 1#32 (Fin.cast loop8_trips.symm t)
      = tileHeadJ (mem arg2 arg3 arg4 arg5 arg6 arg7 arg8 arg9 arg10 harg10 arg11 arg12) le (i 0) (i 1) t (fun s =>
          ⟨Scf.iv 0#32 1#32 t.val, stopW (i 1) t, s, Scalar.subi (stopW (i 1) t) s,
            Scalar.andi (Scalar.cmpi .sgt (Scalar.subi (stopW (i 1) t) s) 512#32) (Scalar.cmpi .sle (Scalar.subi (stopW (i 1) t) s) 640#32)⟩) := by
  chain_rfl

/-- The printed body. -/
theorem body_eq :
    cc0_segment_attention (F := F) i arg2 harg2 arg3 harg3 arg4 harg4 arg5 harg5 arg6 harg6 arg7 harg7 arg8 harg8 arg9 harg9 arg10 harg10 arg11 harg11 arg12 harg12
      = bodyProg (mem arg2 arg3 arg4 arg5 arg6 arg7 arg8 arg9 arg10 harg10 arg11 arg12) (fun t s f => k0_chk1 i (Fin.cast loop8_trips.symm t) s f)
          (fun t s f => k0_chk1.dec i (Fin.cast loop8_trips.symm t) s f) le (i 0) (i 1) (genOK_of_chk i) := by
  unfold cc0_segment_attention bodyProg
  refine congrArg (fun f => Scf.Loop.for loop8 loop8_ok PUnit.unit f >>= fun _ => pure PUnit.unit) (funext fun t => funext fun _ => ?_)
  refine (congrArg (· >>= _) ((part131_eq i arg2 harg2 arg3 harg3 arg4 harg4 arg5 harg5 arg6 harg6 arg7 harg7 arg8 harg8 arg9 harg9 arg10 harg10 arg11 harg11 arg12 harg12 (Fin.cast loop8_trips t)).trans (tileHeadJ_eq _ _ _ _ _ _))).trans ?_
  refine (Prog.bind_assoc _ _ _).trans ?_
  refine congrArg (tileHead _ _ _ _ _ >>= ·) (funext fun s => Eq.trans ?_ (tileTailJ_eq _ _ _ _ _ _ _ s))
  chain_rfl

end Seg.Word
-- ==== Proof.Runs.lean ====
module

public import proofs.«01_k».proof.Proof.Body
public import Idealize.ShloMosaic.Rules.Step
public import Idealize.ShloMosaic.Lib.Memref
public import Idealize.ShloMosaic.Lib.Pipeline.Dat

/-!
# Runs of the body, as relations

The body touches eight inputs it only reads, and three buffers it writes: the block of the result, the bias
and the flag. `Runs p σ R` says that from the contents `σ` of those three the program `p` runs, and that what it
returns and leaves stand in the relation `R`. The rules below take one operation at a time off the program's head.
-/

@[expose] public section

noncomputable section

namespace Seg

open Idealize.ShloMosaic Idealize.ShloMosaic.TcCoe
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Name : Type} [DecidableEq Name] {U : Type} [URA U] {Lvl : Type} [Preorder Lvl] {Λ : Labels}
variable {F : FTy → Type} [FloatOps F]

/-- What a rectangle reads of contents. -/
def ldR {s : Shape} {β : Type} (r : Rect s) (x : s.Idx → β) : r.shape.Idx → β := fun y => x (r.emb y)

open Classical in
/-- Contents with a rectangle overwritten. -/
def stR {s : Shape} {β : Type} (r : Rect s) (x : s.Idx → β) (w : r.shape.Idx → β) : s.Idx → β :=
  fun y => if h : ∃ z, r.emb z = y then w h.choose else x y

theorem stR_emb {s : Shape} {β : Type} (r : Rect s) (x : s.Idx → β) (w : r.shape.Idx → β) (z : r.shape.Idx) :
    stR r x w (r.emb z) = w z := by
  have h : ∃ z', r.emb z' = r.emb z := ⟨z, rfl⟩
  unfold stR
  rw [dif_pos h]
  exact congrArg w (r.emb.injective h.choose_spec)

theorem stR_not {s : Shape} {β : Type} (r : Rect s) (x : s.Idx → β) (w : r.shape.Idx → β) (y : s.Idx) (h : ¬ ∃ z, r.emb z = y) :
    stR r x w y = x y := by
  unfold stR
  rw [dif_neg h]

section Owns

local notation "𝕄" => MT nD τ sig Ix (Elt F) Name U Lvl

variable {defs : Defs nD τ sig (Elt F) Λ} (𝒱 : Variants) (c : Dev nD) (bd : Option 𝒱.V) (E : Set Name)

/-- A load from owned contents. -/
theorem owns_load {α : Type} {cs : CoreSpace} {s : Shape} {e : EltTy} (m : Memref sig .tc cs s e) (r : Rect s) (hl : m.view.LoadsAt r.toLoadRect)
    (q : PosShare TreeShare) (X : s.Idx → Elt F e) (k : (r.shape.Idx → Elt F e) → Prog (TpuEff nD τ sig (Elt F) Λ .tc) α) (Q : α → sProp 𝕄) :
    owns (c.tc : Thread nD τ) m q X ⊢ iprop((owns (c.tc : Thread nD τ) m q X -∗ wp frame (wpE defs 𝒱 (c.tc : Thread nD τ) bd) E (k (ldR r X)) Q)
      -∗ wp frame (wpE defs 𝒱 (c.tc : Thread nD τ) bd) E (.op (.load m r.toLoadRect hl) k) Q) := by
  unfold owns
  iintro ⟨%f, %hf, H⟩ HK
  subst hf
  iapply (wp_load_rect 𝒱 (c.tc : Thread nD τ) bd E (m := m) (r := r) (k := k) (S := m.view.set) (View.set_slice_subset _ _)) $$ H
  iintro H
  iapply HK
  iexists f
  isplitr
  · ipureintro; rfl
  · iexact H

/-- A store to owned contents. -/
theorem owns_store {α : Type} {cs : CoreSpace} {s : Shape} {e : EltTy} (m : Memref sig .tc cs s e) (r : Rect s) (w : r.shape.Idx → Elt F e)
    (hx : (m.access r).Stores Finset.univ) (hm : (Finset.univ : Finset r.shape.Idx) = Finset.univ ∨ ∀ a, r.stride a = 1)
    (X : s.Idx → Elt F e) (k : PUnit → Prog (TpuEff nD τ sig (Elt F) Λ .tc) α) (Q : α → sProp 𝕄) :
    owns (c.tc : Thread nD τ) m fullShare X ⊢ iprop((owns (c.tc : Thread nD τ) m fullShare (stR r X w) -∗ wp frame (wpE defs 𝒱 (c.tc : Thread nD τ) bd) E (k ⟨⟩) Q)
      -∗ wp frame (wpE defs 𝒱 (c.tc : Thread nD τ) bd) E (.op (.store m r w Finset.univ hx hm) k) Q) := by
  unfold owns
  iintro ⟨%f, %hf, H⟩ HK
  subst hf
  iapply (wp_store 𝒱 (c.tc : Thread nD τ) bd E (m := m) (r := r) (k := k) (S := m.view.set) ((View.setOn_subset_set _ _).trans (View.set_slice_subset _ _))) $$ H
  iintro H
  iapply HK
  iexists _
  isplitr
  rotate_left
  · iexact H
  · ipureintro
    funext y
    by_cases h : ∃ z, r.emb z = y
    · obtain ⟨z, rfl⟩ := h
      rw [stR_emb]
      exact View.read_slice_write_emb r f w (Finset.mem_univ z)
    · rw [stR_not _ _ _ _ h]
      refine View.read_slice_write_of_not_mem r f w _ ?_
      simpa using h

end Owns

/-- The contents of the buffers the body writes. -/
structure St (F : FTy → Type) where
  out : S1x512x4096.Idx → Elt F .bf16
  bias : S1024x128.Idx → Elt F .f32
  flag : S1.Idx → Elt F .i32

/-- The contents of the buffers the body reads. -/
structure Inp (F : FTy → Type) where
  x2 : S8x64.Idx → Elt F .i32
  x3 : S1x512x4096.Idx → Elt F .fp8e4m3
  x4 : S1x4096x1024.Idx → Elt F .fp8e4m3
  x5 : S1x4096x1024.Idx → Elt F .fp8e4m3
  x6 : S1x1x8x128.Idx → Elt F .i32
  x7 : S1x1x8x128.Idx → Elt F .i32
  x8 : S8x256.Idx → Elt F .f32
  x9 : S8.Idx → Elt F .f32

section RunsDef

local notation "𝕄" => MT nD τ sig Ix (Elt F) Name U Lvl

/-- The body's buffers, owned. -/
def Own (c : Dev nD) (A : Mem sig) (q : PosShare TreeShare) (I : Inp F) (σ : St F) : sProp 𝕄 :=
  iprop(owns (c.tc : Thread nD τ) A.a2 q I.x2 ∗ owns (c.tc : Thread nD τ) A.a3 fullShare I.x3 ∗ owns (c.tc : Thread nD τ) A.a4 fullShare I.x4
    ∗ owns (c.tc : Thread nD τ) A.a5 fullShare I.x5 ∗ owns (c.tc : Thread nD τ) A.a6 fullShare I.x6 ∗ owns (c.tc : Thread nD τ) A.a7 fullShare I.x7
    ∗ owns (c.tc : Thread nD τ) A.a8 fullShare I.x8 ∗ owns (c.tc : Thread nD τ) A.a9 fullShare I.x9 ∗ owns (c.tc : Thread nD τ) A.a10 fullShare σ.out
    ∗ owns (c.tc : Thread nD τ) A.a11 fullShare σ.bias ∗ owns (c.tc : Thread nD τ) A.a12 fullShare σ.flag)

/-- Where the body runs: its device, its buffers, the share of the table and the contents it reads. -/
structure Env (nD : Nat) (τ : Topo) (sig : RefSig) (Ix : Type) [DecidableEq Ix] (Name : Type) [DecidableEq Name] (U : Type) [URA U]
    (Lvl : Type) (Λ : Labels) (F : FTy → Type) where
  c : Dev nD
  A : Mem sig
  q : PosShare TreeShare
  I : Inp F
  defs : Defs nD τ sig (Elt F) Λ
  vs : Variants

variable (V : Env nD τ sig Ix Name U Lvl Λ F)

/-- From `σ` the program runs, and what it returns and leaves are related by `R`. -/
def Runs {α : Type} (p : Prog (TpuEff nD τ sig (Elt F) Λ .tc) α) (σ : St F) (R : α → St F → Prop) : Prop :=
  (Own V.c V.A V.q V.I σ : sProp 𝕄) ⊢ wp frame (wpE V.defs V.vs (V.c.tc : Thread nD τ) none) Set.univ p
    fun a => iprop(∃ σ', ⌜R a σ'⌝ ∗ Own V.c V.A V.q V.I σ')

variable {V} {α β : Type}

theorem Runs.mono {p : Prog (TpuEff nD τ sig (Elt F) Λ .tc) α} {σ : St F} {R R' : α → St F → Prop}
    (h : Runs V p σ R) (hR : ∀ a σ', R a σ' → R' a σ') : Runs V p σ R' := by
  refine (show _ ⊢ _ from h).trans (wp_mono _ _ _ fun a => ?_)
  iintro ⟨%σ', %h1, H⟩
  iexists σ'
  isplitr
  · ipureintro; exact hR a σ' h1
  · iexact H

theorem Runs.ret {a : α} {σ : St F} {R : α → St F → Prop} (h : R a σ) : Runs V (pure a) σ R := by
  unfold Runs
  iintro H
  iapply (le_wp_ret _ _ _ a _)
  iexists σ
  isplitr
  · ipureintro; exact h
  · iexact H

theorem Runs.bind {p : Prog (TpuEff nD τ sig (Elt F) Λ .tc) α} {k : α → Prog (TpuEff nD τ sig (Elt F) Λ .tc) β} {σ : St F}
    {R : α → St F → Prop} {R' : β → St F → Prop} (h : Runs V p σ R) (hk : ∀ a σ', R a σ' → Runs V (k a) σ' R') :
    Runs V (p >>= k) σ R' := by
  unfold Runs
  rw [wp_bind]
  refine (show _ ⊢ _ from h).trans (wp_mono _ _ _ fun a => ?_)
  iintro ⟨%σ', %h1, H⟩
  iapply (show _ ⊢ _ from hk a σ' h1)
  iexact H

/-- A load from one of the buffers. -/
theorem Runs.load {cs : CoreSpace} {s : Shape} {e : EltTy} {m : Memref sig .tc cs s e} {q : PosShare TreeShare} {X : s.Idx → Elt F e} {σ : St F}
    (hO : (Own V.c V.A V.q V.I σ : sProp 𝕄) ⊢ iprop(owns (V.c.tc : Thread nD τ) m q X ∗ (owns (V.c.tc : Thread nD τ) m q X -∗ Own V.c V.A V.q V.I σ)))
    {r : Rect s} {hl : m.view.LoadsAt r.toLoadRect} {k : (r.shape.Idx → Elt F e) → Prog (TpuEff nD τ sig (Elt F) Λ .tc) α} {R : α → St F → Prop}
    (h : Runs V (k (ldR r X)) σ R) : Runs V (Prog.lift (.load m r.toLoadRect hl) >>= k) σ R := by
  unfold Runs
  refine hO.trans ?_
  iintro ⟨H, HK⟩
  iapply (owns_load V.vs V.c none Set.univ m r hl q X k) $$ H
  iintro H
  iapply (show _ ⊢ _ from h)
  iapply HK
  iexact H

/-- A load of one word. -/
theorem Runs.sload {s : Shape} {e : EltTy} {m : Memref sig .tc .smem s e} {q : PosShare TreeShare} {X : s.Idx → Elt F e} {σ : St F}
    (hO : (Own V.c V.A V.q V.I σ : sProp 𝕄) ⊢ iprop(owns (V.c.tc : Thread nD τ) m q X ∗ (owns (V.c.tc : Thread nD τ) m q X -∗ Own V.c V.A V.q V.I σ)))
    {r : Rect s} {h1 : r.shape.numel = 1} {hp : e.packing = 1} {k : Elt F e → Prog (TpuEff nD τ sig (Elt F) Λ .tc) α} {R : α → St F → Prop}
    (h : Runs V (k (ldR r X (Shape.Idx.first (h1.symm ▸ Nat.one_pos)))) σ R) : Runs V (smemLoad m r h1 hp >>= k) σ R := by
  unfold Runs
  refine hO.trans ?_
  iintro ⟨H, HK⟩
  iapply (owns_load V.vs V.c none Set.univ m r (View.loadsAt_rect (View.loads_smem_one hp h1)) q X
    (fun f => k (f (Shape.Idx.first (h1.symm ▸ Nat.one_pos))))) $$ H
  iintro H
  iapply (show _ ⊢ _ from h)
  iapply HK
  iexact H

/-- A store to one of the buffers. -/
theorem Runs.store {cs : CoreSpace} {s : Shape} {e : EltTy} {m : Memref sig .tc cs s e} {X : s.Idx → Elt F e} {σ : St F} {upd : (s.Idx → Elt F e) → St F}
    (hO : ∀ X', (Own V.c V.A V.q V.I σ : sProp 𝕄) ⊢ iprop(owns (V.c.tc : Thread nD τ) m fullShare X ∗ (owns (V.c.tc : Thread nD τ) m fullShare X' -∗ Own V.c V.A V.q V.I (upd X'))))
    {r : Rect s} {w : r.shape.Idx → Elt F e} {hx : (m.access r).Stores Finset.univ} {hm : (Finset.univ : Finset r.shape.Idx) = Finset.univ ∨ ∀ a, r.stride a = 1}
    {R : PUnit → St F → Prop}
    (h : R ⟨⟩ (upd (stR r X w))) : Runs V (Prog.lift (.store m r w Finset.univ hx hm)) σ R := by
  unfold Runs
  refine (hO (stR r X w)).trans ?_
  iintro ⟨H, HK⟩
  iapply (owns_store V.vs V.c none Set.univ m r w hx hm X .ret) $$ H
  iintro H
  iapply (le_wp_ret _ _ _ _ _)
  iexists (upd (stR r X w))
  isplitr
  · ipureintro; exact h
  iapply HK
  iexact H

/-- An assumption that holds. -/
theorem Runs.assume {P : Prop} {d : Decidable P} {k : PLift P → Prog (TpuEff nD τ sig (Elt F) Λ .tc) α} {σ : St F} {R : α → St F → Prop}
    (hp : P) (h : Runs V (k ⟨hp⟩) σ R) : Runs V (Prog.lift (.assume P d) >>= k) σ R :=
  (show _ ⊢ _ from h).trans (wp_assume V.vs (V.c.tc : Thread nD τ) none Set.univ hp)

/-- A loop, by an invariant. -/
theorem Runs.loop {γ : Type} {l : Scf.Loop 32} {hok : l.OK} {init : γ} {body : Fin l.trips → γ → Prog (TpuEff nD τ sig (Elt F) Λ .tc) γ} {σ : St F}
    (J : Nat → γ → St F → Prop) (h0 : J 0 init σ)
    (hb : ∀ (k : Fin l.trips) a σ', J k.val a σ' → Runs V (body k a) σ' (J (k.val + 1))) :
    Runs V (Scf.Loop.for l hok init body) σ (J l.trips) := by
  unfold Runs
  have key : ∀ (k : Fin (Scf.trips l.lb l.ub l.st)) (acc : γ),
      (iprop(∃ σ', ⌜J k.val acc σ'⌝ ∗ Own V.c V.A V.q V.I σ') : sProp 𝕄)
        ⊢ wp frame (wpE V.defs V.vs (V.c.tc : Thread nD τ) none) Set.univ (body k acc)
          (fun a => iprop(∃ σ', ⌜J (k.val + 1) a σ'⌝ ∗ Own V.c V.A V.q V.I σ')) := by
    intro k acc
    iintro ⟨%σ', %h1, H⟩
    iapply (show _ ⊢ _ from hb k acc σ' h1)
    iexact H
  iintro H
  iapply (Scf.wp_for frame (wpE V.defs V.vs (V.c.tc : Thread nD τ) none) Set.univ l.lb l.ub l.st hok init body
    (fun n a => iprop(∃ σ', ⌜J n a σ'⌝ ∗ Own V.c V.A V.q V.I σ')) key)
  isplitl
  · iexists σ
    isplitr
    · ipureintro; exact h0
    · iexact H
  · iintro %acc H
    iexact H

/-! ### The buffers, taken out one at a time -/

variable (V) (σ : St F)

theorem own2 : (Own V.c V.A V.q V.I σ : sProp 𝕄) ⊢ iprop(owns (V.c.tc : Thread nD τ) V.A.a2 V.q V.I.x2 ∗ (owns (V.c.tc : Thread nD τ) V.A.a2 V.q V.I.x2 -∗ Own V.c V.A V.q V.I σ)) := by
  unfold Own
  iintro ⟨H2, H3, H4, H5, H6, H7, H8, H9, H10, H11, H12⟩
  isplitl [H2]
  · iexact H2
  iintro H2
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own3 : (Own V.c V.A V.q V.I σ : sProp 𝕄) ⊢ iprop(owns (V.c.tc : Thread nD τ) V.A.a3 fullShare V.I.x3 ∗ (owns (V.c.tc : Thread nD τ) V.A.a3 fullShare V.I.x3 -∗ Own V.c V.A V.q V.I σ)) := by
  unfold Own
  iintro ⟨H2, H3, H4, H5, H6, H7, H8, H9, H10, H11, H12⟩
  isplitl [H3]
  · iexact H3
  iintro H3
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own4 : (Own V.c V.A V.q V.I σ : sProp 𝕄) ⊢ iprop(owns (V.c.tc : Thread nD τ) V.A.a4 fullShare V.I.x4 ∗ (owns (V.c.tc : Thread nD τ) V.A.a4 fullShare V.I.x4 -∗ Own V.c V.A V.q V.I σ)) := by
  unfold Own
  iintro ⟨H2, H3, H4, H5, H6, H7, H8, H9, H10, H11, H12⟩
  isplitl [H4]
  · iexact H4
  iintro H4
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own5 : (Own V.c V.A V.q V.I σ : sProp 𝕄) ⊢ iprop(owns (V.c.tc : Thread nD τ) V.A.a5 fullShare V.I.x5 ∗ (owns (V.c.tc : Thread nD τ) V.A.a5 fullShare V.I.x5 -∗ Own V.c V.A V.q V.I σ)) := by
  unfold Own
  iintro ⟨H2, H3, H4, H5, H6, H7, H8, H9, H10, H11, H12⟩
  isplitl [H5]
  · iexact H5
  iintro H5
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own6 : (Own V.c V.A V.q V.I σ : sProp 𝕄) ⊢ iprop(owns (V.c.tc : Thread nD τ) V.A.a6 fullShare V.I.x6 ∗ (owns (V.c.tc : Thread nD τ) V.A.a6 fullShare V.I.x6 -∗ Own V.c V.A V.q V.I σ)) := by
  unfold Own
  iintro ⟨H2, H3, H4, H5, H6, H7, H8, H9, H10, H11, H12⟩
  isplitl [H6]
  · iexact H6
  iintro H6
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own7 : (Own V.c V.A V.q V.I σ : sProp 𝕄) ⊢ iprop(owns (V.c.tc : Thread nD τ) V.A.a7 fullShare V.I.x7 ∗ (owns (V.c.tc : Thread nD τ) V.A.a7 fullShare V.I.x7 -∗ Own V.c V.A V.q V.I σ)) := by
  unfold Own
  iintro ⟨H2, H3, H4, H5, H6, H7, H8, H9, H10, H11, H12⟩
  isplitl [H7]
  · iexact H7
  iintro H7
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own8 : (Own V.c V.A V.q V.I σ : sProp 𝕄) ⊢ iprop(owns (V.c.tc : Thread nD τ) V.A.a8 fullShare V.I.x8 ∗ (owns (V.c.tc : Thread nD τ) V.A.a8 fullShare V.I.x8 -∗ Own V.c V.A V.q V.I σ)) := by
  unfold Own
  iintro ⟨H2, H3, H4, H5, H6, H7, H8, H9, H10, H11, H12⟩
  isplitl [H8]
  · iexact H8
  iintro H8
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own9 : (Own V.c V.A V.q V.I σ : sProp 𝕄) ⊢ iprop(owns (V.c.tc : Thread nD τ) V.A.a9 fullShare V.I.x9 ∗ (owns (V.c.tc : Thread nD τ) V.A.a9 fullShare V.I.x9 -∗ Own V.c V.A V.q V.I σ)) := by
  unfold Own
  iintro ⟨H2, H3, H4, H5, H6, H7, H8, H9, H10, H11, H12⟩
  isplitl [H9]
  · iexact H9
  iintro H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own10 (X' : _) : (Own V.c V.A V.q V.I σ : sProp 𝕄) ⊢ iprop(owns (V.c.tc : Thread nD τ) V.A.a10 fullShare σ.out ∗ (owns (V.c.tc : Thread nD τ) V.A.a10 fullShare X' -∗ Own V.c V.A V.q V.I { σ with out := X' })) := by
  unfold Own
  iintro ⟨H2, H3, H4, H5, H6, H7, H8, H9, H10, H11, H12⟩
  isplitl [H10]
  · iexact H10
  iintro H10
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own11 (X' : _) : (Own V.c V.A V.q V.I σ : sProp 𝕄) ⊢ iprop(owns (V.c.tc : Thread nD τ) V.A.a11 fullShare σ.bias ∗ (owns (V.c.tc : Thread nD τ) V.A.a11 fullShare X' -∗ Own V.c V.A V.q V.I { σ with bias := X' })) := by
  unfold Own
  iintro ⟨H2, H3, H4, H5, H6, H7, H8, H9, H10, H11, H12⟩
  isplitl [H11]
  · iexact H11
  iintro H11
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem own12 (X' : _) : (Own V.c V.A V.q V.I σ : sProp 𝕄) ⊢ iprop(owns (V.c.tc : Thread nD τ) V.A.a12 fullShare σ.flag ∗ (owns (V.c.tc : Thread nD τ) V.A.a12 fullShare X' -∗ Own V.c V.A V.q V.I { σ with flag := X' })) := by
  unfold Own
  iintro ⟨H2, H3, H4, H5, H6, H7, H8, H9, H10, H11, H12⟩
  isplitl [H12]
  · iexact H12
  iintro H12
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end RunsDef

end Seg
-- ==== Proof.Triples.lean ====
module

public import proofs.«01_k».proof.Proof.Runs
public import Idealize.ShloMosaic.Lib.Pointwise
public import Idealize.ShloMosaic.Lib.Pipeline.Value

/-!
# What each part of the body leaves

Every part of the body but the tile is a function of what it reads: `headX`, `dirOut`, `genAcc` and `genOut` are those
functions, and the theorems say the parts run and leave them. A tile leaves its own rows at contents of which a
given property holds, if the property holds of what an accepted one-pass window leaves and of what the general path
leaves, and leaves the other rows alone.
-/

@[expose] public section

noncomputable section

namespace Seg

open Idealize.ShloMosaic Idealize.ShloMosaic.TcCoe
open Idealize.SL Idealize.SL.RA Idealize.SL.Sem

variable {nD : Nat} {τ : Topo} {sig : RefSig} {Ix : Type} [DecidableEq Ix]
variable {Name : Type} [DecidableEq Name] {U : Type} [URA U] {Lvl : Type} [Preorder Lvl] {Λ : Labels}
variable {F : FTy → Type} [FloatOps F]

/-! ### Rectangles -/

attribute [local irreducible] stR

theorem ldR_stR {s : Shape} {β : Type} (r : Rect s) (x : s.Idx → β) (w : r.shape.Idx → β) : ldR r (stR r x w) = w :=
  funext fun z => stR_emb r x w z

theorem ldR_unit_congr {s : Shape} {β : Type} {off off' size : Fin s.rank → Nat} (h : off = off') (i i') (x : s.Idx → β) :
    ldR (Rect.unit (s := s) off size i) x = ldR (Rect.unit (s := s) off' size i') x := by
  subst h; rfl

theorem stR_unit_congr {s : Shape} {β : Type} {off off' size : Fin s.rank → Nat} (h : off = off') (i i') (x : s.Idx → β)
    (w : (Rect.unit (s := s) off size i).shape.Idx → β) :
    stR (Rect.unit (s := s) off size i) x w = stR (Rect.unit (s := s) off' size i') x w := by
  subst h; rfl

theorem ldR_g {β : Type} (t h : Fin 8) (g : Fin 4) (x : S1x512x4096.Idx → β) : ldR (gR t h g) x = ldR (qR t (col h g)) x :=
  ldR_unit_congr (gOff_eq t h g) _ _ x

theorem stR_g {β : Type} (t h : Fin 8) (g : Fin 4) (x : S1x512x4096.Idx → β) (w : S1x64x128.Idx → β) :
    stR (gR t h g) x w = stR (qR t (col h g)) x w :=
  stR_unit_congr (gOff_eq t h g) _ _ x w

theorem qOff_eq (t : Fin 8) (c : Nat) : qOff t c = ![0, 64 * t.val, c * 128] := by
  have h : (Scalar.indexCast (Scalar.muli (Scf.iv 0#32 1#32 t.val) 64#32)).toNat = 64 * t.val := by
    revert t; decide +kernel
  unfold qOff
  rw [h]

/-- Which element of a tile's result an element of the block is. -/
def oIdx (y : S1x512x4096.Idx) : S256x128.Idx :=
  fun a => match a with
  | 0 => (⟨(y 2).val / 128 % 4 * 64 + (y 1).val % 64, by
      have : (y 2).val / 128 % 4 < 4 := Nat.mod_lt _ (by decide)
      have : (y 1).val % 64 < 64 := Nat.mod_lt _ (by decide)
      show _ < 256; omega⟩ : Fin (S256x128.size 0))
  | 1 => (⟨(y 2).val % 128, Nat.mod_lt _ (by decide)⟩ : Fin (S256x128.size 1))

/-- The element lies in tile `t`. -/
def InT (t : Nat) (y : S1x512x4096.Idx) : Prop := (y 1).val / 64 = t
/-- The element lies in key head `h`'s columns. -/
def InH (h : Nat) (y : S1x512x4096.Idx) : Prop := (y 2).val / 512 = h

theorem stR_piece_not (t h : Fin 8) (g : Fin 4) (x : S1x512x4096.Idx → Elt F .bf16) (w : S1x64x128.Idx → Elt F .bf16) (y : S1x512x4096.Idx)
    (hy : ¬ (InT t.val y ∧ (y 2).val / 128 = h.val * 4 + g.val)) : stR (qR t (col h g)) x w y = x y := by
  refine stR_not _ _ _ _ ?_
  rintro ⟨z, rfl⟩
  refine hy ⟨?_, ?_⟩
  · show (qOff t (col h g).val 1 + 1 * (z 1).val) / 64 = t.val
    rw [qOff_eq]
    have : (z 1).val < 64 := (z 1).isLt
    show (64 * t.val + 1 * (z 1).val) / 64 = t.val
    omega
  · show (qOff t (col h g).val 2 + 1 * (z 2).val) / 128 = h.val * 4 + g.val
    rw [qOff_eq]
    have : (z 2).val < 128 := (z 2).isLt
    show ((h.val * 4 + g.val) * 128 + 1 * (z 2).val) / 128 = h.val * 4 + g.val
    omega

theorem stR_piece_in (t h : Fin 8) (g : Fin 4) (x : S1x512x4096.Idx → Elt F .bf16) (o : FVec F S256x128 .bf16) (y : S1x512x4096.Idx)
    (h1 : InT t.val y) (h2 : (y 2).val / 128 = h.val * 4 + g.val) : stR (qR t (col h g)) x (pieceV g o) y = o (oIdx y) := by
  obtain ⟨z, hz⟩ : ∃ z : S1x64x128.Idx, z = fun a => match a with
      | 0 => (⟨0, by decide⟩ : Fin 1)
      | 1 => (⟨(y 1).val % 64, Nat.mod_lt _ (by decide)⟩ : Fin 64)
      | 2 => (⟨(y 2).val % 128, Nat.mod_lt _ (by decide)⟩ : Fin 128) := ⟨_, rfl⟩
  have hy : (qR t (col h g)).emb z = y := by
    funext a
    apply Fin.ext
    subst hz
    show qOff t (col h g).val a + 1 * _ = (y a).val
    rw [qOff_eq]
    unfold InT at h1
    match a with
    | 0 =>
      have : (y 0).val < 1 := (y 0).isLt
      show 0 + 1 * 0 = (y 0).val
      omega
    | 1 => show 64 * t.val + 1 * ((y 1).val % 64) = (y 1).val; omega
    | 2 => show (h.val * 4 + g.val) * 128 + 1 * ((y 2).val % 128) = (y 2).val; omega
  have e := stR_emb (qR t (col h g)) x (pieceV g o) z
  rw [hy] at e
  rw [e]
  subst hz
  unfold pieceV
  refine (shapeCast_apply _ _ _ (ix2 (⟨(y 1).val % 64, Nat.mod_lt _ (by decide)⟩ : Fin 64) (⟨(y 2).val % 128, Nat.mod_lt _ (by decide)⟩ : Fin 128)) ?_).trans ?_
  · rw [Shape.rowMajor_val_three, Shape.rowMajor_val_two]
    show ((y 1).val % 64) * 128 + (y 2).val % 128 = (0 * 64 + (y 1).val % 64) * 128 + (y 2).val % 128
    omega
  · refine extractStridedSlice_apply _ _ _ _ (oIdx y) fun a => ?_
    match a with
    | 0 =>
      show (y 2).val / 128 % 4 * 64 + (y 1).val % 64 = 64 * g.val + (y 1).val % 64
      omega
    | 1 => show (y 2).val % 128 = 0 + (y 2).val % 128; omega

/-- The block with one key head's rows of a tile overwritten. -/
def putHead (t h : Fin 8) (o : FVec F S256x128 .bf16) (x : S1x512x4096.Idx → Elt F .bf16) : S1x512x4096.Idx → Elt F .bf16 :=
  stR (qR t (col h 3)) (stR (qR t (col h 2)) (stR (qR t (col h 1)) (stR (qR t (col h 0)) x (pieceV 0 o)) (pieceV 1 o)) (pieceV 2 o)) (pieceV 3 o)

theorem putHead_in (t h : Fin 8) (o : FVec F S256x128 .bf16) (x : S1x512x4096.Idx → Elt F .bf16) (y : S1x512x4096.Idx)
    (h1 : InT t.val y) (h2 : InH h.val y) : putHead t h o x y = o (oIdx y) := by
  unfold InH at h2
  unfold putHead
  by_cases c3 : (y 2).val / 128 = h.val * 4 + (3 : Fin 4).val
  · exact stR_piece_in t h 3 _ o y h1 c3
  rw [stR_piece_not t h 3 _ _ y fun c => c3 c.2]
  by_cases c2 : (y 2).val / 128 = h.val * 4 + (2 : Fin 4).val
  · exact stR_piece_in t h 2 _ o y h1 c2
  rw [stR_piece_not t h 2 _ _ y fun c => c2 c.2]
  by_cases c1 : (y 2).val / 128 = h.val * 4 + (1 : Fin 4).val
  · exact stR_piece_in t h 1 _ o y h1 c1
  rw [stR_piece_not t h 1 _ _ y fun c => c1 c.2]
  refine stR_piece_in t h 0 _ o y h1 ?_
  simp only [Fin.val_one, Fin.val_two, show (3 : Fin 4).val = 3 from rfl, show (0 : Fin 4).val = 0 from rfl] at *
  omega

theorem putHead_not (t h : Fin 8) (o : FVec F S256x128 .bf16) (x : S1x512x4096.Idx → Elt F .bf16) (y : S1x512x4096.Idx)
    (hy : ¬ (InT t.val y ∧ InH h.val y)) : putHead t h o x y = x y := by
  have k : ∀ g : Fin 4, ¬ (InT t.val y ∧ (y 2).val / 128 = h.val * 4 + g.val) := by
    rintro g ⟨a, b⟩
    refine hy ⟨a, ?_⟩
    unfold InH
    omega
  unfold putHead
  rw [stR_piece_not t h 3 _ _ y (k 3), stR_piece_not t h 2 _ _ y (k 2), stR_piece_not t h 1 _ _ y (k 1), stR_piece_not t h 0 _ _ y (k 0)]

/-! ### The one-pass path -/

section Direct
variable (n : Nat) [Shp n] (le : F .f32) (r t : Fin 8) (I : Inp F)

/-- The bias a window of `n` keys stores, -/
def dirBias : FVec F (Sn n) .f32 :=
  shapeCast (Sn n) (biasV n (winW n r t) (ldR (bR t) I.x6) (ldR (bR t) I.x7)) Shp.scS
/-- the queries of a tile and a key head, -/
def headQ (t h : Fin 8) (I : Inp F) : FVec F S256x128 .fp8e4m3 :=
  qcat (ldR (qR t (col h 0)) I.x3) (ldR (qR t (col h 1)) I.x3) (ldR (qR t (col h 2)) I.x3) (ldR (qR t (col h 3)) I.x3)
/-- the probabilities of a key head, unnormalized, -/
def headP (h : Fin 8) : FVec F (Wn n) .f32 :=
  exp2 (expoV n le (ldR (kR n r t h) I.x4) (headQ t h I) (dirBias n r t I) (ldR (cR h) I.x8))
/-- and the rows they give. -/
def headO (h : Fin 8) : FVec F S256x128 .bf16 :=
  outV (accV n (ldR (kR n r t h) I.x5) (headP n le r t I h)) (sumV n (headP n le r t I h))
    (ldR (vsR h) I.x9 (Shape.Idx.first (one1.symm ▸ Nat.one_pos)))
/-- Which of its sums were safe. -/
def headG (h : Fin 8) : IVec S1x256 1 := goodV (sumV n (headP n le r t I h))

/-- The block after the one-pass path. -/
def dirOut (x : S1x512x4096.Idx → Elt F .bf16) : S1x512x4096.Idx → Elt F .bf16 :=
  putHead t 7 (headO n le r t I 7) (putHead t 6 (headO n le r t I 6) (putHead t 5 (headO n le r t I 5) (putHead t 4 (headO n le r t I 4)
    (putHead t 3 (headO n le r t I 3) (putHead t 2 (headO n le r t I 2) (putHead t 1 (headO n le r t I 1) (putHead t 0 (headO n le r t I 0) x)))))))

/-- Its flag. -/
def dirFlag : BitVec 32 :=
  flagV (andi (andi (andi (andi (andi (andi (andi (headG n le r t I 0) (headG n le r t I 1)) (headG n le r t I 2)) (headG n le r t I 3))
    (headG n le r t I 4)) (headG n le r t I 5)) (headG n le r t I 6)) (headG n le r t I 7))

end Direct

variable {V : Env nD τ sig Ix Name U Lvl Λ F}

theorem runs_storePiece (t h : Fin 8) (g : Fin 4) (o : FVec F S256x128 .bf16) (σ : St F) :
    Runs V (storePiece V.A t h g o) σ fun _ σ' => σ' = { σ with out := stR (qR t (col h g)) σ.out (pieceV g o) } := by
  unfold storePiece
  refine Runs.load (own10 V σ σ.out) ?_
  refine Runs.store (upd := fun X' => { σ with out := X' }) (own10 V σ) ?_
  rfl

theorem runs_pieces {α : Type} (t h : Fin 8) (o : FVec F S256x128 .bf16) (σ : St F) (a : α) :
    Runs V (do
      storePiece V.A t h 0 o
      storePiece V.A t h 1 o
      storePiece V.A t h 2 o
      storePiece V.A t h 3 o
      pure a) σ fun a' σ' => a' = a ∧ σ' = { σ with out := putHead t h o σ.out } := by
  refine (runs_storePiece t h 0 o σ).bind fun _ σ' e => ?_
  subst e
  refine (runs_storePiece t h 1 o _).bind fun _ σ' e => ?_
  subst e
  refine (runs_storePiece t h 2 o _).bind fun _ σ' e => ?_
  subst e
  refine (runs_storePiece t h 3 o _).bind fun _ σ' e => ?_
  subst e
  exact Runs.ret ⟨rfl, rfl⟩

theorem runs_head (n : Nat) [Shp n] (le : F .f32) (r t h : Fin 8) (σ : St F) (hb : ldR (biasR n) σ.bias = dirBias n r t V.I) :
    Runs V (headProg V.A n le r t h) σ fun a σ' =>
      a = headG n le r t V.I h ∧ σ' = { σ with out := putHead t h (headO n le r t V.I h) σ.out } := by
  unfold headProg
  refine Runs.load (own4 V σ) ?_
  refine Runs.load (own3 V σ) ?_
  refine Runs.load (own3 V σ) ?_
  refine Runs.load (own3 V σ) ?_
  refine Runs.load (own3 V σ) ?_
  refine Runs.load (own11 V σ σ.bias) ?_
  refine Runs.load (own8 V σ) ?_
  refine Runs.load (own5 V σ) ?_
  refine Runs.sload (own9 V σ) ?_
  rw [hb]
  exact runs_pieces t h (headO n le r t V.I h) σ (headG n le r t V.I h)

theorem runs_direct (n : Nat) [Shp n] (le : F .f32) (r t : Fin 8) (σ : St F) :
    Runs V (directProg V.A n le r t) σ fun a σ' =>
      a = dirFlag n le r t V.I ∧ σ' = { σ with out := dirOut n le r t V.I σ.out, bias := stR (biasR n) σ.bias (dirBias n r t V.I) } := by
  unfold directProg
  refine Runs.load (own6 V σ) ?_
  refine Runs.load (own7 V σ) ?_
  refine Runs.load (own11 V σ σ.bias) ?_
  refine Runs.bind (R := fun _ σ' => σ' = { σ with bias := stR (biasR n) σ.bias (dirBias n r t V.I) })
    (Runs.store (upd := fun X' => { σ with bias := X' }) (own11 V σ) rfl) fun _ σ' e => ?_
  subst e
  have hb := ldR_stR (biasR n) σ.bias (dirBias n r t V.I)
  refine (runs_head n le r t 0 _ hb).bind fun _ σ' e => ?_
  obtain ⟨rfl, rfl⟩ := e
  refine (runs_head n le r t 1 _ hb).bind fun _ σ' e => ?_
  obtain ⟨rfl, rfl⟩ := e
  refine (runs_head n le r t 2 _ hb).bind fun _ σ' e => ?_
  obtain ⟨rfl, rfl⟩ := e
  refine (runs_head n le r t 3 _ hb).bind fun _ σ' e => ?_
  obtain ⟨rfl, rfl⟩ := e
  refine (runs_head n le r t 4 _ hb).bind fun _ σ' e => ?_
  obtain ⟨rfl, rfl⟩ := e
  refine (runs_head n le r t 5 _ hb).bind fun _ σ' e => ?_
  obtain ⟨rfl, rfl⟩ := e
  refine (runs_head n le r t 6 _ hb).bind fun _ σ' e => ?_
  obtain ⟨rfl, rfl⟩ := e
  refine (runs_head n le r t 7 _ hb).bind fun _ σ' e => ?_
  obtain ⟨rfl, rfl⟩ := e
  refine Runs.sload (own12 V _ _) ?_
  exact Runs.ret ⟨rfl, rfl⟩

/-! ### The general path -/

/-- The exponents of a chunk of 256 keys from `w` on, -/
def chunkX (le : F .f32) (t h : Fin 8) (I : Inp F) (w : BitVec 32)
    (hw : ∀ a, chunkOff w h a + (Kn 256).size a ≤ S1x4096x1024.size a) : FVec F (Wn 256) .f32 :=
  expoV 256 le (ldR (Rect.unit (s := S1x4096x1024) (chunkOff w h) (Kn 256).size hw) I.x4) (headQ t h I)
    (biasV 256 w (ldR (bR t) I.x6) (ldR (bR t) I.x7)) (ldR (gcR h) I.x8)

/-- and what the chunk makes of the running values. -/
def chunkS (le : F .f32) (t h : Fin 8) (I : Inp F) (w : BitVec 32)
    (hw : ∀ a, chunkOff w h a + (Kn 256).size a ≤ S1x4096x1024.size a) (a : Acc F) : Acc F :=
  accStep (chunkX le t h I w hw) (ldR (Rect.unit (s := S1x4096x1024) (chunkOff w h) (Kn 256).size hw) I.x5) a

/-- Where the running values start. -/
def acc0 : Acc F :=
  (broadcast S1x256 (Scalar.ofBits .f32 0xFF7FFFFF#32), broadcast S1x256 (Scalar.ofBits .f32 0x00000000#32),
    broadcast S128x256 (Scalar.ofBits .f32 0x00000000#32))

/-- The running values after `k` chunks. -/
def genAcc (le : F .f32) (r t : Fin 8) (s : BitVec 32) (hs : GenOK r t s) (h : Fin 8) (I : Inp F) : Nat → Acc F
  | 0 => acc0
  | k + 1 => if hk : k < (loopC r t s).trips then
      chunkS le t h I (chunkW (loopC r t s).lb k) (hs.1.2 h ⟨k, hk⟩) (genAcc le r t s hs h I k)
    else genAcc le r t s hs h I k

theorem genAcc_succ (le : F .f32) (r t : Fin 8) (s : BitVec 32) (hs : GenOK r t s) (h : Fin 8) (I : Inp F) (k : Fin (loopC r t s).trips) :
    genAcc le r t s hs h I (k.val + 1) = chunkS le t h I (chunkW (loopC r t s).lb k.val) (hs.1.2 h k) (genAcc le r t s hs h I k.val) := by
  show (if hk : k.val < (loopC r t s).trips then _ else _) = _
  rw [dif_pos k.isLt]

/-- The rows the general path gives. -/
def genO (le : F .f32) (r t : Fin 8) (s : BitVec 32) (hs : GenOK r t s) (h : Fin 8) (I : Inp F) : FVec F S256x128 .bf16 :=
  outV (genAcc le r t s hs h I (loopC r t s).trips).2.2 (genAcc le r t s hs h I (loopC r t s).trips).2.1
    (ldR (gvR h) I.x9 (Shape.Idx.first (one1.symm ▸ Nat.one_pos)))

theorem runs_chunk (le : F .f32) (t h : Fin 8) (w : BitVec 32) (hw) (a : Acc F) (σ : St F) :
    Runs V (chunkProg V.A le t h (headQ t h V.I) w hw a) σ fun a' σ' => a' = chunkS le t h V.I w hw a ∧ σ' = σ := by
  unfold chunkProg
  refine Runs.load (own4 V σ) ?_
  refine Runs.load (own6 V σ) ?_
  refine Runs.load (own7 V σ) ?_
  refine Runs.load (own8 V σ) ?_
  refine Runs.load (own5 V σ) ?_
  exact Runs.ret ⟨rfl, rfl⟩

theorem runs_storePieceG (t h : Fin 8) (g : Fin 4) (o : FVec F S256x128 .bf16) (σ : St F) :
    Runs V (storePieceG V.A t h g o) σ fun _ σ' => σ' = { σ with out := stR (qR t (col h g)) σ.out (pieceV g o) } := by
  unfold storePieceG
  refine Runs.load (own10 V σ σ.out) ?_
  refine Runs.store (upd := fun X' => { σ with out := X' }) (own10 V σ) ?_
  rw [← stR_g t h g σ.out (pieceV g o)]

theorem runs_gen (le : F .f32) (r t : Fin 8) (s : BitVec 32) (hs : GenOK r t s) (hD : (loopD r t s).trips = 0) (h : Fin 8) (σ : St F) :
    Runs V (genProg V.A le r t s hs h) σ fun _ σ' => σ' = { σ with out := putHead t h (genO le r t s hs h V.I) σ.out } := by
  unfold genProg genFront
  refine Runs.bind (R := fun a σ' => a = genO le r t s hs h V.I ∧ σ' = { σ with out := stR (qR t (col h 0)) σ.out (pieceV 0 (genO le r t s hs h V.I)) }) ?_ ?_
  · refine Runs.load (own3 V σ) ?_
    refine Runs.load (own3 V σ) ?_
    refine Runs.load (own3 V σ) ?_
    refine Runs.load (own3 V σ) ?_
    rw [ldR_g, ldR_g, ldR_g, ldR_g]
    refine Runs.bind (Runs.loop (J := fun k a σ' => a = genAcc le r t s hs h V.I k ∧ σ' = σ) ⟨rfl, rfl⟩ ?_) ?_
    · rintro k a σ' ⟨rfl, rfl⟩
      refine (runs_chunk le t h _ _ _ _).mono ?_
      rintro a' σ'' ⟨rfl, rfl⟩
      exact ⟨(genAcc_succ le r t s hs h V.I k).symm, rfl⟩
    rintro a σ' ⟨rfl, rfl⟩
    refine Runs.bind (Runs.loop (J := fun k a σ'' => a = genAcc le r t s hs h V.I (loopC r t s).trips ∧ σ'' = σ') ⟨rfl, rfl⟩ ?_) ?_
    · intro k
      exact absurd k.isLt (by omega)
    rintro a σ' ⟨rfl, rfl⟩
    refine Runs.sload (own9 V σ') ?_
    refine (runs_storePieceG t h 0 _ _).bind fun _ σ'' e => ?_
    subst e
    exact Runs.ret ⟨rfl, rfl⟩
  · rintro a σ' ⟨rfl, rfl⟩
    refine (runs_storePieceG t h 1 _ _).bind fun _ σ' e => ?_
    subst e
    refine (runs_storePieceG t h 2 _ _).bind fun _ σ' e => ?_
    subst e
    refine (runs_storePieceG t h 3 _ _).mono fun _ σ' e => ?_
    subst e
    rfl

/-! ### A tile -/

theorem putHead_ite (t h : Fin 8) (o : FVec F S256x128 .bf16) (x : S1x512x4096.Idx → Elt F .bf16) (y : S1x512x4096.Idx)
    (h1 : InT t.val y) [Decidable (InH h.val y)] : putHead t h o x y = if InH h.val y then o (oIdx y) else x y := by
  split
  · next h2 => exact putHead_in t h o x y h1 h2
  · next h2 => exact putHead_not t h o x y fun c => h2 c.2

theorem dirOut_not (n : Nat) [Shp n] (le : F .f32) (r t : Fin 8) (I : Inp F) (x : S1x512x4096.Idx → Elt F .bf16) (y : S1x512x4096.Idx)
    (hy : ¬ InT t.val y) : dirOut n le r t I x y = x y := by
  unfold dirOut
  iterate 8 rw [putHead_not _ _ _ _ _ fun c => hy c.1]

theorem dirOut_in (n : Nat) [Shp n] (le : F .f32) (r t : Fin 8) (I : Inp F) (x : S1x512x4096.Idx → Elt F .bf16) (y : S1x512x4096.Idx)
    (h1 : InT t.val y) (C : Elt F .bf16 → Prop) (H : ∀ h : Fin 8, InH h.val y → C (headO n le r t I h (oIdx y))) :
    C (dirOut n le r t I x y) := by
  classical
  unfold dirOut
  iterate 8 rw [putHead_ite _ _ _ _ _ h1]
  split_ifs with k7 k6 k5 k4 k3 k2 k1 k0
  · exact H 7 k7
  · exact H 6 k6
  · exact H 5 k5
  · exact H 4 k4
  · exact H 3 k3
  · exact H 2 k2
  · exact H 1 k1
  · exact H 0 k0
  · exfalso
    have : (y 2).val < 4096 := (y 2).isLt
    unfold InH at k0 k1 k2 k3 k4 k5 k6 k7
    simp only [show (7 : Fin 8).val = 7 from rfl, show (6 : Fin 8).val = 6 from rfl, show (5 : Fin 8).val = 5 from rfl,
      show (4 : Fin 8).val = 4 from rfl, show (3 : Fin 8).val = 3 from rfl, show (2 : Fin 8).val = 2 from rfl,
      show (1 : Fin 8).val = 1 from rfl, show (0 : Fin 8).val = 0 from rfl] at k0 k1 k2 k3 k4 k5 k6 k7
    omega

/-- The flag's word. -/
def flagOf (σ : St F) : BitVec 32 := ldR flagR σ.flag (Shape.Idx.first (one1.symm ▸ Nat.one_pos))

/-- What a tile's result must satisfy for `G` to hold of it: `G` of what an accepted window leaves, and of what the general
    path leaves. -/
structure TileOK (I : Inp F) (le : F .f32) (r t : Fin 8) (s : BitVec 32) (G : S1x512x4096.Idx → Elt F .bf16 → Prop) : Prop where
  direct : ∀ (n : Nat) [Shp n] (lo : BitVec 32), brC (Scalar.subi (stopW r t) s) lo (BitVec.ofNat 32 n) = 1#1 →
    dirFlag n le r t I ≠ 0#32 → ∀ (h : Fin 8) y, InT t.val y → InH h.val y → G y (headO n le r t I h (oIdx y))
  gen : ∀ hs : GenOK r t s, ∀ (h : Fin 8) y, InT t.val y → InH h.val y → G y (genO le r t s hs h I (oIdx y))

/-- Other tiles' rows are as they were, and if the flag is set this one's are as `G` asks. -/
def TileInv (t : Fin 8) (G : S1x512x4096.Idx → Elt F .bf16 → Prop) (x : S1x512x4096.Idx → Elt F .bf16) (σ : St F) : Prop :=
  (∀ y, ¬ InT t.val y → σ.out y = x y) ∧ (flagOf σ ≠ 0#32 → ∀ y, InT t.val y → G y (σ.out y))

theorem runs_setFlag (f : BitVec 32) (σ : St F) :
    Runs V (setFlag V.A f) σ fun _ σ' => σ'.out = σ.out ∧ σ'.bias = σ.bias ∧ flagOf σ' = f := by
  unfold setFlag
  refine Runs.store (upd := fun X' => { σ with flag := X' }) (own12 V σ) ⟨rfl, rfl, ?_⟩
  unfold flagOf
  rw [ldR_stR]

theorem runs_branch (n : Nat) [Shp n] (le : F .f32) (r t : Fin 8) (s lo : BitVec 32) (G : S1x512x4096.Idx → Elt F .bf16 → Prop)
    (hT : TileOK V.I le r t s G) (x : S1x512x4096.Idx → Elt F .bf16) (σ : St F) (hσ : TileInv t G x σ) :
    Runs V (branchProg V.A n le r t (brC (Scalar.subi (stopW r t) s) lo (BitVec.ofNat 32 n))) σ fun _ σ' => TileInv t G x σ' := by
  unfold branchProg
  split
  · next hc =>
    refine (runs_direct n le r t σ).bind fun a σ' e => ?_
    obtain ⟨rfl, rfl⟩ := e
    refine (runs_setFlag _ _).mono fun _ σ' e => ?_
    obtain ⟨e1, e2, e3⟩ := e
    constructor
    · intro y hy
      rw [e1]
      exact (dirOut_not n le r t V.I σ.out y hy).trans (hσ.1 y hy)
    · intro hf y hy
      rw [e1]
      rw [e3] at hf
      exact dirOut_in n le r t V.I σ.out y hy _ fun h hh => hT.direct n lo hc hf h y hy hh
  · exact Runs.ret hσ

/-- The first key of a tile, read from the table. -/
def sW (b r t : Fin 8) (I : Inp F) : BitVec 32 := ldR (sR b r t) I.x2 (Shape.Idx.first (one11.symm ▸ Nat.one_pos))

theorem runs_tileHead (le : F .f32) (b r t : Fin 8) (G : S1x512x4096.Idx → Elt F .bf16 → Prop)
    (hT : TileOK V.I le r t (sW b r t V.I) G) (σ : St F) :
    Runs V (tileHead V.A le b r t) σ fun s σ' => s = sW b r t V.I ∧ TileInv t G σ.out σ' := by
  unfold tileHead
  refine Runs.sload (own2 V σ) ?_
  refine Runs.sload (own12 V σ σ.flag) ?_
  refine (runs_setFlag 0#32 σ).bind fun _ σ' e => ?_
  have h0 : TileInv t G σ.out σ' := ⟨fun y _ => congrFun e.1 y, fun hf => absurd e.2.2 hf⟩
  refine (runs_branch 128 le r t _ 0#32 G hT σ.out σ' h0).bind fun _ σ' h0 => ?_
  refine (runs_branch 256 le r t _ 128#32 G hT σ.out σ' h0).bind fun _ σ' h0 => ?_
  refine (runs_branch 384 le r t _ 256#32 G hT σ.out σ' h0).bind fun _ σ' h0 => ?_
  refine (runs_branch 512 le r t _ 384#32 G hT σ.out σ' h0).bind fun _ σ' h0 => ?_
  exact Runs.ret ⟨rfl, h0⟩

theorem genC_eq (f : BitVec 32) : genC f = 1#1 ↔ f = 0#32 := by
  unfold genC
  by_cases h : f = 0#32
  · subst h; exact ⟨fun _ => rfl, fun _ => by decide⟩
  · have : Scalar.cmpi .eq f 0#32 = 0#1 := by
      show BitVec.ofBool (f == 0#32) = 0#1
      rw [beq_false_of_ne h]; rfl
    rw [this]
    exact ⟨fun c => absurd c (by decide), fun c => absurd c h⟩

theorem runs_tileTail (P : BitVec 32 → BitVec 32 → Prop) (dec : ∀ s f, Decidable (P s f)) (le : F .f32) (r t : Fin 8)
    (hP : ∀ s f, P s f → genC f = 1#1 → GenOK r t s) (s : BitVec 32) (G : S1x512x4096.Idx → Elt F .bf16 → Prop)
    (hT : TileOK V.I le r t s G) (hchk : ∀ f, P s f) (hD : (loopD r t s).trips = 0)
    (x : S1x512x4096.Idx → Elt F .bf16) (σ : St F) (h0 : TileInv t G x σ) :
    Runs V (tileTail V.A P dec le r t hP s) σ fun _ σ' =>
      (∀ y, ¬ InT t.val y → σ'.out y = x y) ∧ ∀ y, InT t.val y → G y (σ'.out y) := by
  unfold tileTail
  refine (runs_branch 640 le r t _ 512#32 G hT x σ h0).bind fun _ σ h0 => ?_
  refine (runs_branch 768 le r t _ 640#32 G hT x σ h0).bind fun _ σ h0 => ?_
  refine (runs_branch 1024 le r t _ 768#32 G hT x σ h0).bind fun _ σ h0 => ?_
  refine Runs.sload (own12 V σ σ.flag) ?_
  refine Runs.assume (hchk _) ?_
  split
  · next hg =>
    refine Runs.bind (Runs.loop (J := fun k _ σ' => (∀ y, ¬ InT t.val y → σ'.out y = x y) ∧
      ∀ y, InT t.val y → (y 2).val / 512 < k → G y (σ'.out y)) ⟨h0.1, fun _ _ h => absurd h (Nat.not_lt_zero _)⟩ ?_) ?_
    · intro k _ σ' h1
      refine (runs_gen le r t s _ hD (Fin.cast loop8_trips k) σ').mono fun _ σ'' e => ?_
      subst e
      constructor
      · intro y hy
        exact (putHead_not t _ _ _ y fun c => hy c.1).trans (h1.1 y hy)
      · intro y hy hk
        by_cases hh : InH (Fin.cast loop8_trips k).val y
        · show G y (putHead t _ _ _ y)
          rw [putHead_in t _ _ _ y hy hh]
          exact hT.gen _ _ y hy hh
        · show G y (putHead t _ _ _ y)
          rw [putHead_not t _ _ _ y fun c => hh c.2]
          refine h1.2 y hy ?_
          have : ¬ (y 2).val / 512 = k.val := hh
          omega
    · intro _ σ' h1
      refine Runs.ret ⟨h1.1, fun y hy => h1.2 y hy ?_⟩
      have e : loop8.trips = 8 := loop8_trips
      have : (y 2).val < 4096 := (y 2).isLt
      omega
  · next hg =>
    exact Runs.ret ⟨h0.1, h0.2 fun c => hg ((genC_eq _).2 c)⟩

/-- The whole body leaves the block of the result at contents of which `G` holds everywhere. -/
theorem runs_body (P : Fin 8 → BitVec 32 → BitVec 32 → Prop) (dec : ∀ t s f, Decidable (P t s f)) (le : F .f32) (b r : Fin 8)
    (hP : ∀ t s f, P t s f → genC f = 1#1 → GenOK r t s) (G : S1x512x4096.Idx → Elt F .bf16 → Prop)
    (hT : ∀ t, TileOK V.I le r t (sW b r t V.I) G) (hchk : ∀ t f, P t (sW b r t V.I) f)
    (hD : ∀ t, (loopD r t (sW b r t V.I)).trips = 0) (σ : St F) :
    Runs V (bodyProg V.A P dec le b r hP) σ fun _ σ' => ∀ y, G y (σ'.out y) := by
  unfold bodyProg
  refine Runs.bind (Runs.loop (J := fun k _ σ' => ∀ y : S1x512x4096.Idx, (y 1).val / 64 < k → G y (σ'.out y))
    (fun y h => absurd h (Nat.not_lt_zero _)) ?_) ?_
  · intro k _ σ' h1
    unfold tileProg
    refine (runs_tileHead le b r (Fin.cast loop8_trips k) G (hT _) σ').bind fun s σ'' e => ?_
    obtain ⟨rfl, h0⟩ := e
    refine (runs_tileTail _ _ le r _ _ _ G (hT _) (hchk _) (hD _) σ'.out σ'' h0).mono fun _ σ3 h2 y hy => ?_
    by_cases hh : InT (Fin.cast loop8_trips k).val y
    · exact h2.2 y hh
    · rw [h2.1 y hh]
      refine h1 y ?_
      have : ¬ (y 1).val / 64 = k.val := hh
      omega
  · intro _ σ' h1
    refine Runs.ret fun y => h1 y ?_
    have e : loop8.trips = 8 := loop8_trips
    have : (y 1).val < 512 := (y 1).isLt
    omega

end Seg
-- ==== Proof.KernelRun.lean ====
module

public import proofs.«01_k».proof.Proof.KernelBody
public import proofs.«01_k».proof.Proof.Triples
public import proofs.«01_k».proof.Proof.Gen.Kernel.Launch
public import Idealize.ShloMosaic.Lib.Pipeline.FrameBody
public import Idealize.ShloMosaic.Lib.Claim
public import Idealize.ShloMosaic.Lib.Ring
public import Idealize.ShloMosaic.Lib.Pipeline.Regions

/-!
# The run of the kernel's program

The host lines before the call, the call's pipeline, and what every run of the program leaves, from a statement
`G` of what the body leaves in a block of the result.
-/

@[expose] public section

noncomputable section

namespace Seg.Word

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the call, in order. -/
abbrev lines : List (HloOp τ sig (Elt F)) := List.flatten [hostOps0, hostOps0_1, hostOps0_2, hostOps0_3]

/-- The buffers when the call is reached. -/
abbrev V0 (c : Dev nD) : Valuation τ sig (Elt F) := StableHlo.after lines (fun b => m (c, b))

/-- The same, read at a reference. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor

set_option maxHeartbeats 800000 in
/-- The program is the host lines, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨fresh0, fresh1, fresh2, fresh3⟩) main_chain

/-- The table when the call is reached. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The call's pipeline at the table. -/
abbrev adm : (pcfg0 (F := F)).Adm := ⟨tbl m, trivial⟩
abbrev cfgM : Cfg sig Λ₀ := cfg0 (adm m)

/-- Window `w`'s block at point `t`, read off its array as the call finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

variable (G : (c : Dev nD) → Fin (cfgM m).N → S1x512x4096.Idx → Elt F .bf16 → Prop)

/-- What the body may leave: an input's buffer as it was found, the result's at contents of which `G` holds. -/
def rdat (c : Dev nD) : RDat τ (Elt F) Unit ℕ (UR sig nD τ) ℕ (cfgM m) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => ∀ y, G c t y (X y)
  Φ _ := iprop(Pipeline.ΦA spec0 c ∗ Pipeline.ΦT pre0 (tbl m) c)
  q _ := fullShare
  owed _ := 0

theorem A_eq (c : Dev nD) (w : Fin (cfgM m).W) : (rdat m G c).A w = V m c (Pipeline.arrRef spec0 w) := by
  dsimp only [rdat]

theorem keeps (c : Dev nD) (w : Fin (cfgM m).W) (hw : w ≠ 7) (t Y X) (h : (rdat m G c).after w t Y X) : X = Y := by
  fin_cases w
  all_goals first
    | exact h
    | exact absurd rfl hw

/-- An input's buffer holds its block whenever the body runs. -/
theorem found (c : Dev nD) (w : Fin (cfgM m).W) (hw : w ≠ 7) (ho : ((cfgM m).win w).isOut = false) (t Y) (h : (rdat m G c).Finds w t Y) : Y = iblk m c w t := by
  obtain ⟨d, rfl⟩ := RDat.finds_in_eq_fetched (rdat m G c) w ho (fun _ _ _ => rfl) (fun t Y X => keeps m G c w hw t Y X) t Y h
  unfold RDat.fetched RDat.blockOf iblk
  rw [A_eq]
  funext j
  exact Window.fill_xinj ((cfgM m).win w) ((cfgM m).grid.coords t) d _ j

/-- What the body reads at a point. -/
def inp (c : Dev nD) (t : Fin (cfgM m).N) : Inp F where
  x2 := tbl m 0
  x3 := iblk m c 0 t
  x4 := iblk m c 1 t
  x5 := iblk m c 2 t
  x6 := iblk m c 3 t
  x7 := iblk m c 4 t
  x8 := iblk m c 5 t
  x9 := iblk m c 6 t

/-- The body's buffers at a point. -/
abbrev memAt (t : Fin (cfgM m).N) : Seg.Mem sig :=
  mem (Memref.whole main_v18) (spec0_0.stage ((cfgM m).slots t 0)) (spec0_1.stage ((cfgM m).slots t 1)) (spec0_2.stage ((cfgM m).slots t 2))
    (spec0_3.stage ((cfgM m).slots t 3)) (spec0_4.stage ((cfgM m).slots t 4)) (spec0_5.stage ((cfgM m).slots t 5)) (spec0_6.stage ((cfgM m).slots t 6))
    (spec0_7.stage ((cfgM m).slots t 7)) (K0.R2.Facts₀.hstage0_7 (((cfgM m).slots t 7).cast K0.R2.Facts₀.nbuf0_7)) (Memref.whole cc0_scratch0) (Memref.whole cc0_scratch1)

theorem PhiT_eq (c : Dev nD) : (Pipeline.ΦT pre0 (tbl m) c : sProp 𝕄) = owns (c : Thread nD τ) (Memref.whole main_v18) fullShare.right (tbl m 0) := by
  unfold Pipeline.ΦT Pipeline.prefHeld
  rw [show (Finset.univ : Finset (Fin 1)) = {(0 : Fin 1)} from by decide, bigSep_singleton]
  exact (owns_whole (c : Thread nD τ) main_v18 fullShare.right (tbl m 0)).symm

/-- The body at a point leaves every input's buffer as it was and the result's at contents of which `G` holds. -/
theorem sound (c : Dev nD) (t : Fin (cfgM m).N) (σ : St F)
    (hT : ∀ u, TileOK (inp m c t) (le (F := F)) ((grid0.coords t) 1) u (sW ((grid0.coords t) 0) ((grid0.coords t) 1) u (inp m c t)) (G c t))
    (hs : ∀ u : Fin 8, (sW ((grid0.coords t) 0) ((grid0.coords t) 1) u (inp m c t)).toNat ≤ 512 * ((grid0.coords t) 1).val + 64 * u.val) :
    (Own c (memAt m t) fullShare.right (inp m c t) σ : sProp 𝕄)
      ⊢ wp frame (wpE (defs₀ (F := F)) Variants.none c none) Set.univ (defs₀ (F := F) .tc (cfgM m).body ((cfgM m).bodyArgs t ((cfgM m).slots t)))
          fun _ => iprop(∃ σ', ⌜∀ y, G c t y (σ'.out y)⌝ ∗ Own c (memAt m t) fullShare.right (inp m c t) σ') := by
  have h := runs_body (V := (⟨c, memAt m t, fullShare.right, inp m c t, defs₀ (F := F), Variants.none⟩ : Env nD τ sig Unit ℕ (UR sig nD τ) ℕ Λ₀ F))
    (fun u s f => k0_chk1 (grid0.coords t) (Fin.cast loop8_trips.symm u) s f) (fun u s f => k0_chk1.dec (grid0.coords t) (Fin.cast loop8_trips.symm u) s f)
    (le (F := F)) ((grid0.coords t) 0) ((grid0.coords t) 1) (genOK_of_chk (grid0.coords t)) (G c t) hT
    (fun u f => chk_of_le (grid0.coords t) u _ f (hs u)) (fun u => loopD_trips _ _ _ (hs u)) σ
  have e : defs₀ (F := F) .tc (cfgM m).body ((cfgM m).bodyArgs t ((cfgM m).slots t)) = bodyProg (memAt m t) (fun u s f => k0_chk1 (grid0.coords t) (Fin.cast loop8_trips.symm u) s f)
      (fun u s f => k0_chk1.dec (grid0.coords t) (Fin.cast loop8_trips.symm u) s f) (le (F := F)) ((grid0.coords t) 0) ((grid0.coords t) 1) (genOK_of_chk (grid0.coords t)) := by
    refine Eq.trans ?_ (body_eq (grid0.coords t) (harg2 := Memref.isWhole_whole _) (harg3 := stage_whole0 0 ((cfgM m).slots t 0)) (harg4 := stage_whole0 1 ((cfgM m).slots t 1)) (harg5 := stage_whole0 2 ((cfgM m).slots t 2)) (harg6 := stage_whole0 3 ((cfgM m).slots t 3)) (harg7 := stage_whole0 4 ((cfgM m).slots t 4)) (harg8 := stage_whole0 5 ((cfgM m).slots t 5)) (harg9 := stage_whole0 6 ((cfgM m).slots t 6)) (harg11 := Memref.isWhole_whole _) (harg12 := Memref.isWhole_whole _) ..)
    unfold defs₀
    rw [Defs.onTc_tc]
  rw [e]
  exact h

attribute [local irreducible] tbl iblk in
/-- The body's buffers at a point, one by one. -/
theorem own_eq (c : Dev nD) (t : Fin (cfgM m).N) (σ : St F) :
    (Own c (memAt m t) fullShare.right (inp m c t) σ : sProp 𝕄)
      = iprop(owns (c : Thread nD τ) (Memref.whole main_v18) fullShare.right (tbl m 0) ∗ owns (c : Thread nD τ) (((cfgM m).win 0).stage ((cfgM m).slots t 0)) fullShare (iblk m c 0 t) ∗ owns (c : Thread nD τ) (((cfgM m).win 1).stage ((cfgM m).slots t 1)) fullShare (iblk m c 1 t) ∗ owns (c : Thread nD τ) (((cfgM m).win 2).stage ((cfgM m).slots t 2)) fullShare (iblk m c 2 t) ∗ owns (c : Thread nD τ) (((cfgM m).win 3).stage ((cfgM m).slots t 3)) fullShare (iblk m c 3 t) ∗ owns (c : Thread nD τ) (((cfgM m).win 4).stage ((cfgM m).slots t 4)) fullShare (iblk m c 4 t) ∗ owns (c : Thread nD τ) (((cfgM m).win 5).stage ((cfgM m).slots t 5)) fullShare (iblk m c 5 t) ∗ owns (c : Thread nD τ) (((cfgM m).win 6).stage ((cfgM m).slots t 6)) fullShare (iblk m c 6 t)
        ∗ owns (c : Thread nD τ) (((cfgM m).win 7).stage ((cfgM m).slots t 7)) fullShare σ.out
        ∗ (((c : Thread nD τ).loc cc0_scratch0) ↦{fullShare} σ.bias) ∗ (((c : Thread nD τ).loc cc0_scratch1) ↦{fullShare} σ.flag)) := by
  have e1 := owns_whole (nD := nD) (τ := τ) (Ix := Unit) (Val := Elt F) (Name := ℕ) (U := UR sig nD τ) (Lvl := ℕ) (c : Thread nD τ) cc0_scratch0 fullShare σ.bias
  have e2 := owns_whole (nD := nD) (τ := τ) (Ix := Unit) (Val := Elt F) (Name := ℕ) (U := UR sig nD τ) (Lvl := ℕ) (c : Thread nD τ) cc0_scratch1 fullShare σ.flag
  rw [← e1, ← e2]
  unfold Own inp memAt mem
  congr 1

theorem own_open (c : Dev nD) (t : Fin (cfgM m).N) (σ : St F) :
    (Own c (memAt m t) fullShare.right (inp m c t) σ : sProp 𝕄) ⊢ iprop(owns (c : Thread nD τ) (Memref.whole main_v18) fullShare.right (tbl m 0) ∗ owns (c : Thread nD τ) (((cfgM m).win 0).stage ((cfgM m).slots t 0)) fullShare (iblk m c 0 t) ∗ owns (c : Thread nD τ) (((cfgM m).win 1).stage ((cfgM m).slots t 1)) fullShare (iblk m c 1 t) ∗ owns (c : Thread nD τ) (((cfgM m).win 2).stage ((cfgM m).slots t 2)) fullShare (iblk m c 2 t) ∗ owns (c : Thread nD τ) (((cfgM m).win 3).stage ((cfgM m).slots t 3)) fullShare (iblk m c 3 t) ∗ owns (c : Thread nD τ) (((cfgM m).win 4).stage ((cfgM m).slots t 4)) fullShare (iblk m c 4 t) ∗ owns (c : Thread nD τ) (((cfgM m).win 5).stage ((cfgM m).slots t 5)) fullShare (iblk m c 5 t) ∗ owns (c : Thread nD τ) (((cfgM m).win 6).stage ((cfgM m).slots t 6)) fullShare (iblk m c 6 t)
        ∗ owns (c : Thread nD τ) (((cfgM m).win 7).stage ((cfgM m).slots t 7)) fullShare σ.out
        ∗ (((c : Thread nD τ).loc cc0_scratch0) ↦{fullShare} σ.bias) ∗ (((c : Thread nD τ).loc cc0_scratch1) ↦{fullShare} σ.flag)) := by
  rw [own_eq]

set_option maxHeartbeats 1000000 in
/-- What the pipeline asks of the body. -/
theorem obligation (c : Dev nD)
    (hT : ∀ t u, TileOK (inp m c t) (le (F := F)) ((grid0.coords t) 1) u (sW ((grid0.coords t) 0) ((grid0.coords t) 1) u (inp m c t)) (G c t))
    (hs : ∀ t, ∀ u : Fin 8, (sW ((grid0.coords t) 0) ((grid0.coords t) 1) u (inp m c t)).toNat ≤ 512 * ((grid0.coords t) 1).val + 64 * u.val) :
    (rdat m G c).BodyObligation (defs₀ (F := F)) Variants.none () Set.univ := by
  intro t Y hY
  have e0 := found m G c 0 (show (0 : Fin 8) ≠ 7 from by decide) rfl t _ (hY 0)
  have e1 := found m G c 1 (show (1 : Fin 8) ≠ 7 from by decide) rfl t _ (hY 1)
  have e2 := found m G c 2 (show (2 : Fin 8) ≠ 7 from by decide) rfl t _ (hY 2)
  have e3 := found m G c 3 (show (3 : Fin 8) ≠ 7 from by decide) rfl t _ (hY 3)
  have e4 := found m G c 4 (show (4 : Fin 8) ≠ 7 from by decide) rfl t _ (hY 4)
  have e5 := found m G c 5 (show (5 : Fin 8) ≠ 7 from by decide) rfl t _ (hY 5)
  have e6 := found m G c 6 (show (6 : Fin 8) ≠ 7 from by decide) rfl t _ (hY 6)
  rw [show (rdat m G c).Φ t.succ = (rdat m G c).Φ t.castSucc from rfl, show (rdat m G c).owesAt () t.succ = (rdat m G c).owesAt () t.castSucc from rfl,
    bigSep_W0, bigSep_W0, show (rdat m G c).Φ t.castSucc = iprop(Pipeline.ΦA spec0 c ∗ Pipeline.ΦT pre0 (tbl m) c) from rfl]
  unfold Pipeline.ΦA
  rw [PhiT_eq, scopedRest0_eq]
  rw [e0, e1, e2, e3, e4, e5, e6]
  iintro ⟨⟨⟨⟨⟨%f11, H11⟩, ⟨%f12, H12⟩⟩, Hp⟩, HT⟩, Ho, H0, H1, H2, H3, H4, H5, H6, H7⟩
  ihave HO : (Own c (memAt m t) fullShare.right (inp m c t) ⟨Y 7, f11, f12⟩ : sProp 𝕄) $$ [H0 H1 H2 H3 H4 H5 H6 H7 H11 H12 HT]
  · rw [own_eq]
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H11]; · iexact H11
    iexact H12
  ihave HW := (show _ ⊢ _ from sound m G c t ⟨Y 7, f11, f12⟩ (hT t) (hs t)) $$ HO
  iapply (wp_wand frame _ Set.univ) $$ HW
  iintro %a ⟨%σ', %hG, HO⟩
  ihave HO := own_open m c t σ' $$ HO
  icases HO with ⟨HT, H0, H1, H2, H3, H4, H5, H6, H7, H11, H12⟩
  isplitl [HT H11 H12 Hp]
  · isplitr [HT]
    · isplitr [Hp]
      · isplitl [H11]
        · iexists _; iexact H11
        · iexists _; iexact H12
      · iexact Hp
    · iexact HT
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  iexists σ'.out; isplitr
  · ipureintro; exact hG
  · iexact H7

/-! Every argument is as launched when the call is reached. -/

theorem V_arg0 (c : Dev nD) : V m c main_arg0 = m ((c : Thread nD τ).loc main_arg0) :=
  StableHlo.after_of_forall_not_mem (b := Proc.devRef .tc main_arg0) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg5 (c : Dev nD) : V m c main_arg5 = m ((c : Thread nD τ).loc main_arg5) :=
  StableHlo.after_of_forall_not_mem (b := Proc.devRef .tc main_arg5) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg6 (c : Dev nD) : V m c main_arg6 = m ((c : Thread nD τ).loc main_arg6) :=
  StableHlo.after_of_forall_not_mem (b := Proc.devRef .tc main_arg6) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- Every run of the program leaves the arguments as they were, every counter at zero, and in the result's array what
    `G` allows. -/
theorem run (hT : ∀ c t u, TileOK (inp m c t) (le (F := F)) ((grid0.coords t) 1) u (sW ((grid0.coords t) 0) ((grid0.coords t) 1) u (inp m c t)) (G c t))
    (hs : ∀ c t, ∀ u : Fin 8, (sW ((grid0.coords t) 0) ((grid0.coords t) 1) u (inp m c t)).toNat ≤ 512 * ((grid0.coords t) 1).val + 64 * u.val) :
    θ_run defs (onTc (τ := τ) (main (F := F))) ⟨m, fun _ => 0, ρ⟩ (fun r =>
      ((∀ c, (rdat m G c).ArrAt 7 (cfgM m).N (r.2.mem ((c.tc : Thread nD τ).loc main_v29)))
      ∧ (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))) ∧ r.2.sem = fun _ => 0) :=
  RDat.θ_run_frameP (Q' := _) pcfgs (fun _ => adm m) 0 launch0 defs₀ Variants.none (rdat m G) m ρ main
    (hbody := fun c => obligation m G c (hT c) (hs c)) (hshare := fun c => (rdat m G c).share_full fun _ => rfl) (howed := fun _ _ => rfl)
    (V := V m) (hmain := hmain m Variants.none) (hA := A_eq m G) (hpf := V_pre m) (hΦ := fun _ _ => rfl)
    (hQ' := fun r ⟨h, hz⟩ => ⟨⟨fun c => (h c).1 7, fun c => ⟨
      (RDat.FramePost.arr_in h c 0 rfl).trans ((A_eq m G c 0).trans (V_arg0 m c)),
      (RDat.FramePost.arr_in h c 1 rfl).trans ((A_eq m G c 1).trans (V_arg1 m c)),
      (RDat.FramePost.arr_in h c 2 rfl).trans ((A_eq m G c 2).trans (V_arg2 m c)),
      ((h c).2 main_arg3 (Pipeline.mem_restRefs_of _ (by decide) (show ∀ w : Fin 8, (spec0 w).arr.view.ref ≠ main_arg3 from by decide))).trans (V_arg3 m c),
      ((h c).2 main_arg4 (Pipeline.mem_restRefs_of _ (by decide) (show ∀ w : Fin 8, (spec0 w).arr.view.ref ≠ main_arg4 from by decide))).trans (V_arg4 m c),
      (RDat.FramePost.arr_in h c 6 rfl).trans ((A_eq m G c 6).trans (V_arg5 m c)),
      ((h c).2 main_arg6 (Pipeline.mem_restRefs_of _ (by decide) (show ∀ w : Fin 8, (spec0 w).arr.view.ref ≠ main_arg6 from by decide))).trans (V_arg6 m c)⟩⟩, hz⟩)

end Seg.Word
-- ==== Proof.Start.lean ====
module

public import Idealize.ShloMosaic.PureOps
public import Idealize.ShloMosaic.Lib.Pointwise

/-!
# The running maximum over the positions of a row

What the host's running maximum holds at a position: one of the entries up to it, and none of them greater.
-/

@[expose] public section

noncomputable section

namespace Seg

open Idealize.ShloMosaic

/-- A word as a signed number orders the maximum of two. -/
theorem maxsi_toInt (x y : BitVec 32) : (IntOp.maxsi x y).toInt = max x.toInt y.toInt := by
  unfold IntOp.maxsi
  split
  · next h => rw [BitVec.slt_iff_toInt_lt] at h; omega
  · next h => rw [BitVec.slt_iff_toInt_lt] at h; omega

/-- A left fold of the maximum is one of its entries or the start, and none is greater. -/
theorem foldl_maxsi {ι : Type} (g : ι → BitVec 32) (l : List ι) (v : BitVec 32) :
    (l.foldl (fun r n => IntOp.maxsi r (g n)) v = v ∨ ∃ n ∈ l, l.foldl (fun r n => IntOp.maxsi r (g n)) v = g n)
      ∧ v.toInt ≤ (l.foldl (fun r n => IntOp.maxsi r (g n)) v).toInt ∧ ∀ n ∈ l, (g n).toInt ≤ (l.foldl (fun r n => IntOp.maxsi r (g n)) v).toInt := by
  induction l generalizing v with
  | nil => exact ⟨.inl rfl, le_rfl, fun _ h => absurd h (List.not_mem_nil)⟩
  | cons a l ih =>
    obtain ⟨h1, h2, h3⟩ := ih (IntOp.maxsi v (g a))
    rw [List.foldl_cons]
    have hm := maxsi_toInt v (g a)
    refine ⟨?_, by omega, fun n hn => ?_⟩
    · rcases h1 with h1 | ⟨n, hn, h1⟩
      · rw [h1]
        unfold IntOp.maxsi
        split
        · exact .inl rfl
        · exact .inr ⟨a, List.mem_cons_self, rfl⟩
      · exact .inr ⟨n, List.mem_cons_of_mem _ hn, h1⟩
    · rcases List.mem_cons.1 hn with rfl | hn
      · omega
      · exact h3 n hn

abbrev SRow : Shape := ⟨2, ![8, 4096]⟩

theorem runmax_pos (n : Fin (⟨2, ![1, 4096]⟩ : Shape).numel) :
    ((⟨2, ![1, 4096]⟩ : Shape).rowMajor.symm n 0).val = 0 ∧ ((⟨2, ![1, 4096]⟩ : Shape).rowMajor.symm n 1).val = n.val := by
  have h0 : ((⟨2, ![1, 4096]⟩ : Shape).rowMajor.symm n 0).val < 1 := ((⟨2, ![1, 4096]⟩ : Shape).rowMajor.symm n 0).isLt
  have := Shape.rowMajor_val_two ((⟨2, ![1, 4096]⟩ : Shape).rowMajor.symm n)
  rw [Equiv.apply_symm_apply] at this
  refine ⟨by omega, ?_⟩
  simp at this
  omega

/-- The host's running maximum from the least word: at each position one of the entries up to it, and none of them
    greater. -/
theorem runmax {u : Shape} (x : SRow.Idx → BitVec 32) (init : u.Idx → BitVec 32) (h : SRow.ReduceWindows ![1, 4096] ![1, 1] ![0, 4095] ![0, 0] SRow)
    (hu : 0 < u.numel) (hv : init (Shape.Idx.first hu) = 2147483648#32) (b : Fin 8) (q : Fin 4096) :
    (∃ p : Fin 4096, p.val ≤ q.val ∧ Host.reduceWindow IntOp.maxsi ![1, 4096] ![1, 1] ![0, 4095] ![0, 0] x init h hu (ix2 b q) = x (ix2 b p))
      ∧ ∀ p : Fin 4096, p.val ≤ q.val → (x (ix2 b p)).toInt ≤ (Host.reduceWindow IntOp.maxsi ![1, 4096] ![1, 1] ![0, 4095] ![0, 0] x init h hu (ix2 b q)).toInt := by
  let g : Fin (⟨2, ![1, 4096]⟩ : Shape).numel → BitVec 32 := fun n =>
    if hn : 4095 ≤ q.val + n.val ∧ q.val + n.val - 4095 < 4096 then x (ix2 b ⟨q.val + n.val - 4095, hn.2⟩) else 2147483648#32
  have e : Host.reduceWindow IntOp.maxsi ![1, 4096] ![1, 1] ![0, 4095] ![0, 0] x init h hu (ix2 b q)
      = (List.finRange (⟨2, ![1, 4096]⟩ : Shape).numel).foldl (fun r n => IntOp.maxsi r (g n)) 2147483648#32 := by
    unfold Host.reduceWindow
    rw [hv]
    refine List.foldl_ext _ _ _ fun r n _ => ?_
    obtain ⟨w0, w1⟩ := runmax_pos n
    refine congrArg (IntOp.maxsi r) ?_
    dsimp only [g]
    split
    · next hin =>
      have h1 := hin 1
      change 4095 ≤ q.val * 1 + ((⟨2, ![1, 4096]⟩ : Shape).rowMajor.symm n 1).val ∧ q.val * 1 + ((⟨2, ![1, 4096]⟩ : Shape).rowMajor.symm n 1).val - 4095 < 4096 at h1
      rw [w1] at h1
      rw [dif_pos (by omega)]
      refine congrArg x (funext fun a => Fin.ext ?_)
      match a with
      | ⟨0, _⟩ =>
        show b.val * 1 + ((⟨2, ![1, 4096]⟩ : Shape).rowMajor.symm n 0).val - 0 = b.val
        rw [w0]; omega
      | ⟨1, _⟩ =>
        show q.val * 1 + ((⟨2, ![1, 4096]⟩ : Shape).rowMajor.symm n 1).val - 4095 = q.val + n.val - 4095
        rw [w1, Nat.mul_one]
    · next hin =>
      rw [dif_neg fun hle => hin fun a => by
        match a with
        | ⟨0, _⟩ =>
          show 0 ≤ b.val * 1 + ((⟨2, ![1, 4096]⟩ : Shape).rowMajor.symm n 0).val ∧ b.val * 1 + ((⟨2, ![1, 4096]⟩ : Shape).rowMajor.symm n 0).val - 0 < 8
          rw [w0]; omega
        | ⟨1, _⟩ =>
          show 4095 ≤ q.val * 1 + ((⟨2, ![1, 4096]⟩ : Shape).rowMajor.symm n 1).val
            ∧ q.val * 1 + ((⟨2, ![1, 4096]⟩ : Shape).rowMajor.symm n 1).val - 4095 < 4096
          rw [w1]; omega]
  have hN : (⟨2, ![1, 4096]⟩ : Shape).numel = 4096 := by decide
  obtain ⟨h1, -, h3⟩ := foldl_maxsi g (List.finRange (⟨2, ![1, 4096]⟩ : Shape).numel) 2147483648#32
  rw [← e] at h1 h3
  have hle : ∀ p : Fin 4096, p.val ≤ q.val → (x (ix2 b p)).toInt ≤ (Host.reduceWindow IntOp.maxsi ![1, 4096] ![1, 1] ![0, 4095] ![0, 0] x init h hu (ix2 b q)).toInt := by
    intro p hp
    have := h3 ⟨4095 - q.val + p.val, by omega⟩ (List.mem_finRange _)
    dsimp only [g] at this
    rw [dif_pos (by omega)] at this
    have e2 : (⟨q.val + (4095 - q.val + p.val) - 4095, by omega⟩ : Fin 4096) = p := Fin.ext (by simp only; omega)
    rw [e2] at this
    exact this
  have hmin : ∀ w : BitVec 32, Host.reduceWindow IntOp.maxsi ![1, 4096] ![1, 1] ![0, 4095] ![0, 0] x init h hu (ix2 b q) = 2147483648#32 →
      ∃ p : Fin 4096, p.val ≤ q.val ∧ Host.reduceWindow IntOp.maxsi ![1, 4096] ![1, 1] ![0, 4095] ![0, 0] x init h hu (ix2 b q) = x (ix2 b p) := by
    intro _ hw
    have := hle q le_rfl
    rw [hw] at this ⊢
    refine ⟨q, le_rfl, ?_⟩
    apply BitVec.eq_of_toInt_eq
    have e3 : (2147483648#32 : BitVec 32).toInt = -2147483648 := by decide
    have := BitVec.le_toInt (x (ix2 b q))
    norm_num at this
    omega
  refine ⟨?_, hle⟩
  rcases h1 with h1 | ⟨n, -, h1⟩
  · exact hmin 0#32 h1
  · by_cases hn : 4095 ≤ q.val + n.val ∧ q.val + n.val - 4095 < 4096
    · have : g n = x (ix2 b ⟨q.val + n.val - 4095, hn.2⟩) := dif_pos hn
      exact ⟨⟨q.val + n.val - 4095, hn.2⟩, by have := n.isLt; simp only; omega, h1.trans this⟩
    · exact hmin 0#32 (h1.trans (dif_neg hn))

/-- A segment starts at position `p` of a row: it is the first, or its id is not the one before. -/
def Edge (seg : SRow.Idx → BitVec 32) (b : Fin 8) (p : Fin 4096) : Prop :=
  ∀ h : 0 < p.val, seg (ix2 b p) ≠ seg (ix2 b ⟨p.val - 1, by omega⟩)

open Classical in
/-- A position where a segment starts, zero elsewhere. -/
def mark (seg : SRow.Idx → BitVec 32) (b : Fin 8) (p : Fin 4096) : BitVec 32 := if Edge seg b p then BitVec.ofNat 32 p.val else 0#32

theorem mark_toNat_le (seg : SRow.Idx → BitVec 32) (b : Fin 8) (p : Fin 4096) : (mark seg b p).toNat ≤ p.val := by
  unfold mark
  split
  · rw [BitVec.toNat_ofNat]; exact Nat.mod_le _ _
  · exact Nat.zero_le _

/-- The running maximum of the segment starts is a position at most the one it is read at. -/
structure IsStart (seg : SRow.Idx → BitVec 32) (b : Fin 8) (q : Fin 4096) (w : BitVec 32) : Prop where
  is : ∃ p : Fin 4096, p.val ≤ q.val ∧ w = mark seg b p
  ge : ∀ p : Fin 4096, p.val ≤ q.val → (mark seg b p).toInt ≤ w.toInt

theorem IsStart.le {seg : SRow.Idx → BitVec 32} {b : Fin 8} {q : Fin 4096} {w : BitVec 32} (h : IsStart seg b q w) : w.toNat ≤ q.val := by
  obtain ⟨p, hp, rfl⟩ := h.is
  exact (mark_toNat_le seg b p).trans hp

theorem mark_select (seg : SRow.Idx → BitVec 32) (b : Fin 8) (p : Fin 4096) (z : BitVec 32) (hz : z = 0#32)
    (h1 : ¬ p.val < 1 → 1 + (p.val - 1) < 4096) (h2 : ¬ p.val < 1 → p.val - 1 < 4096) :
    Scalar.select (if h : p.val < 1 then 1#1 else IntOp.cmpi .ne (seg (ix2 b ⟨1 + (p.val - 1), h1 h⟩)) (seg (ix2 b ⟨p.val - 1, h2 h⟩))) (BitVec.ofNat 32 p.val) z = mark seg b p := by
  subst hz
  unfold mark Scalar.select Edge
  by_cases h : p.val < 1
  · rw [dif_pos h, if_pos (show (1#1 : BitVec 1) = 1 from rfl), if_pos (fun h' => absurd h' (by omega))]
  · rw [dif_neg h]
    have e : (⟨1 + (p.val - 1), h1 h⟩ : Fin 4096) = p := Fin.ext (by simp only; omega)
    rw [e]
    by_cases he : seg (ix2 b p) = seg (ix2 b ⟨p.val - 1, h2 h⟩)
    · have h3 : IntOp.cmpi .ne (seg (ix2 b p)) (seg (ix2 b ⟨p.val - 1, h2 h⟩)) ≠ 1 := by
        rw [he]; simp [IntOp.cmpi]
      rw [if_neg h3, if_neg (fun hh => hh (Nat.pos_of_ne_zero fun h0 => h (by omega)) he)]
    · have h3 : IntOp.cmpi .ne (seg (ix2 b p)) (seg (ix2 b ⟨p.val - 1, h2 h⟩)) = 1 := by
        simp only [IntOp.cmpi, bne_iff_ne.2 he]; rfl
      rw [if_pos h3, if_pos (fun _ => he)]

end Seg

end
-- ==== Proof.KernelHost.lean ====
module

public import proofs.«01_k».proof.Proof.KernelRun
public import proofs.«01_k».proof.Proof.Start
public import Idealize.ShloMosaic.Lib.StableHlo.ReadAt
public import Idealize.ShloMosaic.Lib.Pointwise

/-!
# The host's lines before the call

Where each position's segment starts, as the host's lines leave it, and with it the frame of the program.
-/

@[expose] public section

noncomputable section

namespace Seg.Word

open Idealize.ShloMosaic Idealize.ShloMosaic.TcCoe Idealize.ShloMosaic.Tactic Idealize.ShloMosaic.StableHlo
open Idealize.SL Idealize.SL.Sem
open Cert.Kernel Cert.Kernel.Gen Cert.Kernel.Facts Cert.Kernel.Facts₀

variable {F : FTy → Type} [FloatOps F]
variable (m : (ℓ : Loc nD τ sig) → Buf (Elt F) ℓ)

/-- The host's running maximum of the segment starts, -/
theorem v8_eq (c : Dev nD) : V m c main_v8 = Host.reduceWindow IntOp.maxsi ![1, 4096] ![1, 1] ![0, 4095] ![0, 0] (V m c main_v7) (broadcastInDim S_ ![] bcast_S_S_ (constantI S_ 32 2147483648#32)) reduceWindows_S8x4096_S8x4096_w1s1p0_0_w4096s1p4095_0 h_S_ := by
  unfold V V0 lines
  after_reads_simp
  simp -implicitDefEqProofs only [StableHlo.TRef.toBuf, StableHlo.TRef.ofBuf, cast_cast, cast_eq]

/-- the table it is sampled into, -/
theorem v18_at (c : Dev nD) (b : Fin 8) (k : Fin 64) : V m c main_v18 (ix2 b k) = V m c main_v8 (ix2 b ⟨64 * k.val, by omega⟩) := by
  have e : V m c main_v18 = Host.slice S8x64 ![0, 0] ![1, 64] (V m c main_v8) slicesBy_S8x4096_S8x64_0s1_0s64 := by
    unfold V V0 lines
    after_reads_simp
  rw [e]
  pointwise

/-- the starts themselves, -/
theorem v7_at (c : Dev nD) (b : Fin 8) (p : Fin 4096) : V m c main_v7 (ix2 b p) = mark (m (c, Proc.devRef .tc main_arg6)) b p := by
  unfold V V0 lines
  after_reads_at
  all_goals after_reads_at
  exact mark_select _ _ _ _ rfl _ _

/-- and what the running maximum is. -/
theorem v8_start (c : Dev nD) (b : Fin 8) (q : Fin 4096) : IsStart (m (c, Proc.devRef .tc main_arg6)) b q (V m c main_v8 (ix2 b q)) := by
  obtain ⟨⟨p, hp, e⟩, h⟩ := runmax (V m c main_v7) (broadcastInDim S_ ![] bcast_S_S_ (constantI S_ 32 2147483648#32)) reduceWindows_S8x4096_S8x4096_w1s1p0_0_w4096s1p4095_0 h_S_ rfl b q
  rw [← v8_eq] at e h
  refine ⟨⟨p, hp, e.trans (v7_at m c b p)⟩, fun p hp => ?_⟩
  have := h p hp
  rwa [v7_at] at this

theorem sOff_at (b r t : Fin 8) : ∀ a : Fin 2, ((sR b r t).emb (Shape.Idx.first (one11.symm ▸ Nat.one_pos)) a).val = ((ix2 b (⟨8 * r.val + t.val, by omega⟩ : Fin 64) : S8x64.Idx) a).val := by
  have h : sOff b r t = ![b.val, 8 * r.val + t.val] := by revert b r t; decide +kernel
  intro a
  have h0 : ((Shape.Idx.first (s := S1x1) (one11.symm ▸ Nat.one_pos)) a).val = 0 := by
    have := ((Shape.Idx.first (s := S1x1) (one11.symm ▸ Nat.one_pos)) a).isLt
    fin_cases a <;> exact Nat.lt_one_iff.1 this
  show sOff b r t a + 1 * ((Shape.Idx.first (s := S1x1) (one11.symm ▸ Nat.one_pos)) a).val = _
  rw [h0, h]
  fin_cases a <;> rfl

/-- The table's word at tile `t` of rows block `r`: the first key of the tile's first row. -/
theorem sW_eq (c : Dev nD) (b r t : Fin 8) (I : Inp F) (hI : I.x2 = V m c main_v18) : sW b r t I = V m c main_v8 (ix2 b ⟨512 * r.val + 64 * t.val, by omega⟩) := by
  unfold sW ldR
  rw [hI]
  refine Eq.trans ?_ ((v18_at m c b ⟨8 * r.val + t.val, by omega⟩).trans ?_)
  · refine congrArg (V m c main_v18) ?_
    refine funext fun a => Fin.ext ?_
    revert a
    exact sOff_at b r t
  · refine congrArg (V m c main_v8) ?_
    congr 1
    apply Fin.ext
    simp only
    omega

theorem inp_x2 (c : Dev nD) (t : Fin (cfgM m).N) : (inp m c t).x2 = V m 0 main_v18 := by
  chain_rfl

/-- The first key of a tile is not past the tile's first row. -/
theorem sW_le (c : Dev nD) (t : Fin (cfgM m).N) (u : Fin 8) :
    (sW ((grid0.coords t) 0) ((grid0.coords t) 1) u (inp m c t)).toNat ≤ 512 * ((grid0.coords t) 1).val + 64 * u.val := by
  obtain rfl : c = 0 := Subsingleton.elim _ _
  have h := sW_eq m 0 ((grid0.coords t) 0) ((grid0.coords t) 1) u (inp m 0 t) (inp_x2 m 0 t)
  exact (congrArg BitVec.toNat h).le.trans (v8_start m 0 _ _).le

variable (ρ : Dev nD → PrngReg)

/-- Every run of the program leaves its arguments as they were and every counter at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r h => ⟨h.1.2, h.2⟩) (run m ρ (fun _ _ _ _ => True)
    (fun _ _ _ => ⟨fun _ _ _ _ _ _ _ _ _ => trivial, fun _ _ _ _ _ => trivial⟩) (fun c t u => sW_le m c t u))

end Seg.Word
end
-- ==== Proof.IdealBody.lean ====
module

public import proofs.«01_k».proof.Proof.Body
public import proofs.«01_k».proof.Proof.Bounds
public import Idealize.ShloMosaic.Lib.Pipeline.Regions
public import proofs.«01_k».proof.Proof.Gen.KernelIdeal

/-!
# The printed body is the body

Each printed one-pass path is `directProg` at its width, and the printed body is `bodyProg`.
-/

@[expose] public section

noncomputable section

namespace Seg.Ideal

open Idealize.ShloMosaic Idealize.SL.Sem Cert.KernelIdeal

variable {F : FTy → Type} [FloatOps F] [Named F]
variable (i : grid0.Coords) (arg2 : Memref sig .tc .smem S8x64 .i32) (harg2 : arg2.IsWhole) (arg3 : Memref sig .tc .vmem S1x512x4096 .fp8e4m3) (harg3 : arg3.IsWhole)
  (arg4 : Memref sig .tc .vmem S1x4096x1024 .fp8e4m3) (harg4 : arg4.IsWhole) (arg5 : Memref sig .tc .vmem S1x4096x1024 .fp8e4m3) (harg5 : arg5.IsWhole)
  (arg6 : Memref sig .tc .vmem S1x1x8x128 .i32) (harg6 : arg6.IsWhole) (arg7 : Memref sig .tc .vmem S1x1x8x128 .i32) (harg7 : arg7.IsWhole)
  (arg8 : Memref sig .tc .vmem S8x256 .f32) (harg8 : arg8.IsWhole) (arg9 : Memref sig .tc .smem S8 .f32) (harg9 : arg9.IsWhole)
  (arg10 : Memref sig .tc .vmem S1x512x4096 .bf16) (harg10 : arg10.IsWhole) (arg11 : Memref sig .tc .vmem S1024x128 .f32) (harg11 : arg11.IsWhole)
  (arg12 : Memref sig .tc .smem S1 .i32) (harg12 : arg12.IsWhole)

/-- The body's arguments together. -/
abbrev mem : Seg.Mem sig := ⟨arg2, arg3, arg4, arg5, arg6, arg7, arg8, arg9, arg10, arg11, arg12, harg10⟩

/-- The constant `log2e` of the kernel. -/
abbrev le : F .f32 := Named.named κ "log2e" 0x3FB8AA3B#32

/-- The printed one-pass path over 128 keys. -/
theorem part18_eq (t : Fin k0_t1_loop.trips) :
    k0_part18 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 128 le (i 1) (Fin.cast loop8_trips t) := by
  chain_rfl

/-- The printed one-pass path over 256 keys. -/
theorem part36_eq (t : Fin k0_t1_loop.trips) :
    k0_part36 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 256 le (i 1) (Fin.cast loop8_trips t) := by
  chain_rfl

/-- The printed one-pass path over 384 keys. -/
theorem part54_eq (t : Fin k0_t1_loop.trips) :
    k0_part54 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 384 le (i 1) (Fin.cast loop8_trips t) := by
  chain_rfl

/-- The printed one-pass path over 512 keys. -/
theorem part72_eq (t : Fin k0_t1_loop.trips) :
    k0_part72 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 512 le (i 1) (Fin.cast loop8_trips t) := by
  chain_rfl

/-- The printed one-pass path over 640 keys. -/
theorem part90_eq (t : Fin k0_t1_loop.trips) :
    k0_part90 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 640 le (i 1) (Fin.cast loop8_trips t) := by
  chain_rfl

/-- The printed one-pass path over 768 keys. -/
theorem part108_eq (t : Fin k0_t1_loop.trips) :
    k0_part108 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 768 le (i 1) (Fin.cast loop8_trips t) := by
  chain_rfl

/-- The printed one-pass path over 1024 keys. -/
theorem part126_eq (t : Fin k0_t1_loop.trips) :
    k0_part126 (F := F) i arg2 harg2 arg3 harg3 arg4 harg4 arg5 harg5 arg6 harg6 arg7 harg7 arg8 harg8 arg9 harg9 arg10 harg10 arg11 harg11 arg12 harg12 t (Scf.iv 0#32 1#32 t.val) (stopW (i 1) (Fin.cast loop8_trips t))
      = directProg (mem arg2 arg3 arg4 arg5 arg6 arg7 arg8 arg9 arg10 harg10 arg11 arg12) 1024 le (i 1) (Fin.cast loop8_trips t) := by
  chain_rfl

/-- What the printed program asks of the words it read gives what the general path asks. -/
theorem genOK_of_chk (t : Fin 8) (s f : BitVec 32) (h : k0_chk1 i (Fin.cast loop8_trips.symm t) s f) (hg : genC f = 1#1) :
    GenOK (i 1) t s :=
  ⟨⟨h.1 hg, fun a k => h.2.2.1 (Fin.cast loop8_trips.symm a) k hg⟩, h.2.2.2.1 hg, fun a k => h.2.2.2.2.2 (Fin.cast loop8_trips.symm a) k hg⟩

/-- A first key that is not past the tile's first row is one the printed program can go on from. -/
theorem chk_of_le (t : Fin 8) (s f : BitVec 32) (h : s.toNat ≤ 512 * (i 1).val + 64 * t.val) : k0_chk1 i (Fin.cast loop8_trips.symm t) s f :=
  ⟨fun _ => loopC_ok (i 1) t s h, fun k _ => chunk_dvd (i 1) t s h k.val k.isLt, fun a k _ => chunk_inb (i 1) t s h (Fin.cast loop8_trips a) k.val k.isLt,
    fun _ => loopD_ok (i 1) t s h, fun k => absurd (Nat.lt_of_lt_of_eq k.isLt (loopD_trips (i 1) t s h)) (Nat.not_lt_zero _),
    fun _ k => absurd (Nat.lt_of_lt_of_eq k.isLt (loopD_trips (i 1) t s h)) (Nat.not_lt_zero _)⟩

/-- The printed first part of a tile. -/
theorem part131_eq (t : Fin 8) :
    k0_part131 (F := F) i arg2 harg2 arg3 harg3 arg4 harg4 arg5 harg5 arg6 harg6 arg7 harg7 arg8 harg8 arg9 harg9 arg10 harg10 arg11 harg11 arg12 harg12 (BitVec.ofNat 32 (i 0).val) (BitVec.ofNat 32 (i 1).val) 0#32 1#32 (Fin.cast loop8_trips.symm t)
      = tileHeadJ (mem arg2 arg3 arg4 arg5 arg6 arg7 arg8 arg9 arg10 harg10 arg11 arg12) le (i 0) (i 1) t (fun s =>
          ⟨Scf.iv 0#32 1#32 t.val, stopW (i 1) t, s, Scalar.subi (stopW (i 1) t) s,
            Scalar.andi (Scalar.cmpi .sgt (Scalar.subi (stopW (i 1) t) s) 512#32) (Scalar.cmpi .sle (Scalar.subi (stopW (i 1) t) s) 640#32)⟩) := by
  chain_rfl

/-- The printed body. -/
theorem body_eq :
    cc0_segment_attention (F := F) i arg2 harg2 arg3 harg3 arg4 harg4 arg5 harg5 arg6 harg6 arg7 harg7 arg8 harg8 arg9 harg9 arg10 harg10 arg11 harg11 arg12 harg12
      = bodyProg (mem arg2 arg3 arg4 arg5 arg6 arg7 arg8 arg9 arg10 harg10 arg11 arg12) (fun t s f => k0_chk1 i (Fin.cast loop8_trips.symm t) s f)
          (fun t s f => k0_chk1.dec i (Fin.cast loop8_trips.symm t) s f) le (i 0) (i 1) (genOK_of_chk i) := by
  unfold cc0_segment_attention bodyProg
  refine congrArg (fun f => Scf.Loop.for loop8 loop8_ok PUnit.unit f >>= fun _ => pure PUnit.unit) (funext fun t => funext fun _ => ?_)
  refine (congrArg (· >>= _) ((part131_eq i arg2 harg2 arg3 harg3 arg4 harg4 arg5 harg5 arg6 harg6 arg7 harg7 arg8 harg8 arg9 harg9 arg10 harg10 arg11 harg11 arg12 harg12 (Fin.cast loop8_trips t)).trans (tileHeadJ_eq _ _ _ _ _ _))).trans ?_
  refine (Prog.bind_assoc _ _ _).trans ?_
  refine congrArg (tileHead _ _ _ _ _ >>= ·) (funext fun s => Eq.trans ?_ (tileTailJ_eq _ _ _ _ _ _ _ s))
  chain_rfl

end Seg.Ideal
-- ==== Proof.IdealRun.lean ====
module

public import proofs.«01_k».proof.Proof.IdealBody
public import proofs.«01_k».proof.Proof.Triples
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Pipeline.Regions

/-!
# The run of the kernel's program

The host lines before the call, the call's pipeline, and what every run of the program leaves, from a statement
`G` of what the body leaves in a block of the result.
-/

@[expose] public section

noncomputable section

namespace Seg.Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host lines before the call, in order. -/
abbrev lines : List (HloOp τ sig (Elt F)) := List.flatten [hostOps0, hostOps0_1, hostOps0_2, hostOps0_3]

/-- The buffers when the call is reached. -/
abbrev V0 (c : Dev nD) : Valuation τ sig (Elt F) := StableHlo.after lines (fun b => m (c, b))

/-- The same, read at a reference. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor

set_option maxHeartbeats 800000 in
/-- The program is the host lines, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨fresh0, fresh1, fresh2, fresh3⟩) main_chain

/-- The table when the call is reached. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The call's pipeline at the table. -/
abbrev adm : (pcfg0 (F := F)).Adm := ⟨tbl m, trivial⟩
abbrev cfgM : Cfg sig Λ₀ := cfg0 (adm m)

/-- Window `w`'s block at point `t`, read off its array as the call finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

variable (G : (c : Dev nD) → Fin (cfgM m).N → S1x512x4096.Idx → Elt F .bf16 → Prop)

/-- What the body may leave: an input's buffer as it was found, the result's at contents of which `G` holds. -/
def rdat (c : Dev nD) : RDat τ (Elt F) Unit ℕ (UR sig nD τ) ℕ (cfgM m) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => ∀ y, G c t y (X y)
  Φ _ := iprop(Pipeline.ΦA spec0 c ∗ Pipeline.ΦT pre0 (tbl m) c)
  q _ := fullShare
  owed _ := 0

theorem A_eq (c : Dev nD) (w : Fin (cfgM m).W) : (rdat m G c).A w = V m c (Pipeline.arrRef spec0 w) := by
  dsimp only [rdat]

theorem keeps (c : Dev nD) (w : Fin (cfgM m).W) (hw : w ≠ 7) (t Y X) (h : (rdat m G c).after w t Y X) : X = Y := by
  fin_cases w
  all_goals first
    | exact h
    | exact absurd rfl hw

/-- An input's buffer holds its block whenever the body runs. -/
theorem found (c : Dev nD) (w : Fin (cfgM m).W) (hw : w ≠ 7) (ho : ((cfgM m).win w).isOut = false) (t Y) (h : (rdat m G c).Finds w t Y) : Y = iblk m c w t := by
  obtain ⟨d, rfl⟩ := RDat.finds_in_eq_fetched (rdat m G c) w ho (fun _ _ _ => rfl) (fun t Y X => keeps m G c w hw t Y X) t Y h
  unfold RDat.fetched RDat.blockOf iblk
  rw [A_eq]
  funext j
  exact Window.fill_xinj ((cfgM m).win w) ((cfgM m).grid.coords t) d _ j

/-- What the body reads at a point. -/
def inp (c : Dev nD) (t : Fin (cfgM m).N) : Inp F where
  x2 := tbl m 0
  x3 := iblk m c 0 t
  x4 := iblk m c 1 t
  x5 := iblk m c 2 t
  x6 := iblk m c 3 t
  x7 := iblk m c 4 t
  x8 := iblk m c 5 t
  x9 := iblk m c 6 t

/-- The body's buffers at a point. -/
abbrev memAt (t : Fin (cfgM m).N) : Seg.Mem sig :=
  mem (Memref.whole main_v18) (spec0_0.stage ((cfgM m).slots t 0)) (spec0_1.stage ((cfgM m).slots t 1)) (spec0_2.stage ((cfgM m).slots t 2))
    (spec0_3.stage ((cfgM m).slots t 3)) (spec0_4.stage ((cfgM m).slots t 4)) (spec0_5.stage ((cfgM m).slots t 5)) (spec0_6.stage ((cfgM m).slots t 6))
    (spec0_7.stage ((cfgM m).slots t 7)) (K0.R2.Facts₀.hstage0_7 (((cfgM m).slots t 7).cast K0.R2.Facts₀.nbuf0_7)) (Memref.whole cc0_scratch0) (Memref.whole cc0_scratch1)

theorem PhiT_eq (c : Dev nD) : (Pipeline.ΦT pre0 (tbl m) c : sProp 𝕄) = owns (c : Thread nD τ) (Memref.whole main_v18) fullShare.right (tbl m 0) := by
  unfold Pipeline.ΦT Pipeline.prefHeld
  rw [show (Finset.univ : Finset (Fin 1)) = {(0 : Fin 1)} from by decide, bigSep_singleton]
  exact (owns_whole (c : Thread nD τ) main_v18 fullShare.right (tbl m 0)).symm

/-- The body at a point leaves every input's buffer as it was and the result's at contents of which `G` holds. -/
theorem sound (c : Dev nD) (t : Fin (cfgM m).N) (σ : St F)
    (hT : ∀ u, TileOK (inp m c t) (le (F := F)) ((grid0.coords t) 1) u (sW ((grid0.coords t) 0) ((grid0.coords t) 1) u (inp m c t)) (G c t))
    (hs : ∀ u : Fin 8, (sW ((grid0.coords t) 0) ((grid0.coords t) 1) u (inp m c t)).toNat ≤ 512 * ((grid0.coords t) 1).val + 64 * u.val) :
    (Own c (memAt m t) fullShare.right (inp m c t) σ : sProp 𝕄)
      ⊢ wp frame (wpE (defs₀ (F := F)) Variants.none c none) Set.univ (defs₀ (F := F) .tc (cfgM m).body ((cfgM m).bodyArgs t ((cfgM m).slots t)))
          fun _ => iprop(∃ σ', ⌜∀ y, G c t y (σ'.out y)⌝ ∗ Own c (memAt m t) fullShare.right (inp m c t) σ') := by
  have h := runs_body (V := (⟨c, memAt m t, fullShare.right, inp m c t, defs₀ (F := F), Variants.none⟩ : Env nD τ sig Unit ℕ (UR sig nD τ) ℕ Λ₀ F))
    (fun u s f => k0_chk1 (grid0.coords t) (Fin.cast loop8_trips.symm u) s f) (fun u s f => k0_chk1.dec (grid0.coords t) (Fin.cast loop8_trips.symm u) s f)
    (le (F := F)) ((grid0.coords t) 0) ((grid0.coords t) 1) (genOK_of_chk (grid0.coords t)) (G c t) hT
    (fun u f => chk_of_le (grid0.coords t) u _ f (hs u)) (fun u => loopD_trips _ _ _ (hs u)) σ
  have e : defs₀ (F := F) .tc (cfgM m).body ((cfgM m).bodyArgs t ((cfgM m).slots t)) = bodyProg (memAt m t) (fun u s f => k0_chk1 (grid0.coords t) (Fin.cast loop8_trips.symm u) s f)
      (fun u s f => k0_chk1.dec (grid0.coords t) (Fin.cast loop8_trips.symm u) s f) (le (F := F)) ((grid0.coords t) 0) ((grid0.coords t) 1) (genOK_of_chk (grid0.coords t)) := by
    refine Eq.trans ?_ (body_eq (grid0.coords t) (harg2 := Memref.isWhole_whole _) (harg3 := stage_whole0 0 ((cfgM m).slots t 0)) (harg4 := stage_whole0 1 ((cfgM m).slots t 1)) (harg5 := stage_whole0 2 ((cfgM m).slots t 2)) (harg6 := stage_whole0 3 ((cfgM m).slots t 3)) (harg7 := stage_whole0 4 ((cfgM m).slots t 4)) (harg8 := stage_whole0 5 ((cfgM m).slots t 5)) (harg9 := stage_whole0 6 ((cfgM m).slots t 6)) (harg11 := Memref.isWhole_whole _) (harg12 := Memref.isWhole_whole _) ..)
    unfold defs₀
    rw [Defs.onTc_tc]
  rw [e]
  exact h

attribute [local irreducible] tbl iblk in
/-- The body's buffers at a point, one by one. -/
theorem own_eq (c : Dev nD) (t : Fin (cfgM m).N) (σ : St F) :
    (Own c (memAt m t) fullShare.right (inp m c t) σ : sProp 𝕄)
      = iprop(owns (c : Thread nD τ) (Memref.whole main_v18) fullShare.right (tbl m 0) ∗ owns (c : Thread nD τ) (((cfgM m).win 0).stage ((cfgM m).slots t 0)) fullShare (iblk m c 0 t) ∗ owns (c : Thread nD τ) (((cfgM m).win 1).stage ((cfgM m).slots t 1)) fullShare (iblk m c 1 t) ∗ owns (c : Thread nD τ) (((cfgM m).win 2).stage ((cfgM m).slots t 2)) fullShare (iblk m c 2 t) ∗ owns (c : Thread nD τ) (((cfgM m).win 3).stage ((cfgM m).slots t 3)) fullShare (iblk m c 3 t) ∗ owns (c : Thread nD τ) (((cfgM m).win 4).stage ((cfgM m).slots t 4)) fullShare (iblk m c 4 t) ∗ owns (c : Thread nD τ) (((cfgM m).win 5).stage ((cfgM m).slots t 5)) fullShare (iblk m c 5 t) ∗ owns (c : Thread nD τ) (((cfgM m).win 6).stage ((cfgM m).slots t 6)) fullShare (iblk m c 6 t)
        ∗ owns (c : Thread nD τ) (((cfgM m).win 7).stage ((cfgM m).slots t 7)) fullShare σ.out
        ∗ (((c : Thread nD τ).loc cc0_scratch0) ↦{fullShare} σ.bias) ∗ (((c : Thread nD τ).loc cc0_scratch1) ↦{fullShare} σ.flag)) := by
  have e1 := owns_whole (nD := nD) (τ := τ) (Ix := Unit) (Val := Elt F) (Name := ℕ) (U := UR sig nD τ) (Lvl := ℕ) (c : Thread nD τ) cc0_scratch0 fullShare σ.bias
  have e2 := owns_whole (nD := nD) (τ := τ) (Ix := Unit) (Val := Elt F) (Name := ℕ) (U := UR sig nD τ) (Lvl := ℕ) (c : Thread nD τ) cc0_scratch1 fullShare σ.flag
  rw [← e1, ← e2]
  unfold Own inp memAt mem
  congr 1

theorem own_open (c : Dev nD) (t : Fin (cfgM m).N) (σ : St F) :
    (Own c (memAt m t) fullShare.right (inp m c t) σ : sProp 𝕄) ⊢ iprop(owns (c : Thread nD τ) (Memref.whole main_v18) fullShare.right (tbl m 0) ∗ owns (c : Thread nD τ) (((cfgM m).win 0).stage ((cfgM m).slots t 0)) fullShare (iblk m c 0 t) ∗ owns (c : Thread nD τ) (((cfgM m).win 1).stage ((cfgM m).slots t 1)) fullShare (iblk m c 1 t) ∗ owns (c : Thread nD τ) (((cfgM m).win 2).stage ((cfgM m).slots t 2)) fullShare (iblk m c 2 t) ∗ owns (c : Thread nD τ) (((cfgM m).win 3).stage ((cfgM m).slots t 3)) fullShare (iblk m c 3 t) ∗ owns (c : Thread nD τ) (((cfgM m).win 4).stage ((cfgM m).slots t 4)) fullShare (iblk m c 4 t) ∗ owns (c : Thread nD τ) (((cfgM m).win 5).stage ((cfgM m).slots t 5)) fullShare (iblk m c 5 t) ∗ owns (c : Thread nD τ) (((cfgM m).win 6).stage ((cfgM m).slots t 6)) fullShare (iblk m c 6 t)
        ∗ owns (c : Thread nD τ) (((cfgM m).win 7).stage ((cfgM m).slots t 7)) fullShare σ.out
        ∗ (((c : Thread nD τ).loc cc0_scratch0) ↦{fullShare} σ.bias) ∗ (((c : Thread nD τ).loc cc0_scratch1) ↦{fullShare} σ.flag)) := by
  rw [own_eq]

set_option maxHeartbeats 1000000 in
/-- What the pipeline asks of the body. -/
theorem obligation (c : Dev nD)
    (hT : ∀ t u, TileOK (inp m c t) (le (F := F)) ((grid0.coords t) 1) u (sW ((grid0.coords t) 0) ((grid0.coords t) 1) u (inp m c t)) (G c t))
    (hs : ∀ t, ∀ u : Fin 8, (sW ((grid0.coords t) 0) ((grid0.coords t) 1) u (inp m c t)).toNat ≤ 512 * ((grid0.coords t) 1).val + 64 * u.val) :
    (rdat m G c).BodyObligation (defs₀ (F := F)) Variants.none () Set.univ := by
  intro t Y hY
  have e0 := found m G c 0 (show (0 : Fin 8) ≠ 7 from by decide) rfl t _ (hY 0)
  have e1 := found m G c 1 (show (1 : Fin 8) ≠ 7 from by decide) rfl t _ (hY 1)
  have e2 := found m G c 2 (show (2 : Fin 8) ≠ 7 from by decide) rfl t _ (hY 2)
  have e3 := found m G c 3 (show (3 : Fin 8) ≠ 7 from by decide) rfl t _ (hY 3)
  have e4 := found m G c 4 (show (4 : Fin 8) ≠ 7 from by decide) rfl t _ (hY 4)
  have e5 := found m G c 5 (show (5 : Fin 8) ≠ 7 from by decide) rfl t _ (hY 5)
  have e6 := found m G c 6 (show (6 : Fin 8) ≠ 7 from by decide) rfl t _ (hY 6)
  rw [show (rdat m G c).Φ t.succ = (rdat m G c).Φ t.castSucc from rfl, show (rdat m G c).owesAt () t.succ = (rdat m G c).owesAt () t.castSucc from rfl,
    bigSep_W0, bigSep_W0, show (rdat m G c).Φ t.castSucc = iprop(Pipeline.ΦA spec0 c ∗ Pipeline.ΦT pre0 (tbl m) c) from rfl]
  unfold Pipeline.ΦA
  rw [PhiT_eq, scopedRest0_eq]
  rw [e0, e1, e2, e3, e4, e5, e6]
  iintro ⟨⟨⟨⟨⟨%f11, H11⟩, ⟨%f12, H12⟩⟩, Hp⟩, HT⟩, Ho, H0, H1, H2, H3, H4, H5, H6, H7⟩
  ihave HO : (Own c (memAt m t) fullShare.right (inp m c t) ⟨Y 7, f11, f12⟩ : sProp 𝕄) $$ [H0 H1 H2 H3 H4 H5 H6 H7 H11 H12 HT]
  · rw [own_eq]
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H11]; · iexact H11
    iexact H12
  ihave HW := (show _ ⊢ _ from sound m G c t ⟨Y 7, f11, f12⟩ (hT t) (hs t)) $$ HO
  iapply (wp_wand frame _ Set.univ) $$ HW
  iintro %a ⟨%σ', %hG, HO⟩
  ihave HO := own_open m c t σ' $$ HO
  icases HO with ⟨HT, H0, H1, H2, H3, H4, H5, H6, H7, H11, H12⟩
  isplitl [HT H11 H12 Hp]
  · isplitr [HT]
    · isplitr [Hp]
      · isplitl [H11]
        · iexists _; iexact H11
        · iexists _; iexact H12
      · iexact Hp
    · iexact HT
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  iexists σ'.out; isplitr
  · ipureintro; exact hG
  · iexact H7

/-! Every argument is as launched when the call is reached. -/

theorem V_arg0 (c : Dev nD) : V m c main_arg0 = m ((c : Thread nD τ).loc main_arg0) :=
  StableHlo.after_of_forall_not_mem (b := Proc.devRef .tc main_arg0) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg5 (c : Dev nD) : V m c main_arg5 = m ((c : Thread nD τ).loc main_arg5) :=
  StableHlo.after_of_forall_not_mem (b := Proc.devRef .tc main_arg5) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg6 (c : Dev nD) : V m c main_arg6 = m ((c : Thread nD τ).loc main_arg6) :=
  StableHlo.after_of_forall_not_mem (b := Proc.devRef .tc main_arg6) _ _ (List.forall_iff_forall_mem.mp (by
    simp only [lines, hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- Every run of the program leaves the arguments as they were, every counter at zero, and in the result's array what
    `G` allows. -/
theorem run (hT : ∀ c t u, TileOK (inp m c t) (le (F := F)) ((grid0.coords t) 1) u (sW ((grid0.coords t) 0) ((grid0.coords t) 1) u (inp m c t)) (G c t))
    (hs : ∀ c t, ∀ u : Fin 8, (sW ((grid0.coords t) 0) ((grid0.coords t) 1) u (inp m c t)).toNat ≤ 512 * ((grid0.coords t) 1).val + 64 * u.val) :
    θ_run defs (onTc (τ := τ) (main (F := F))) ⟨m, fun _ => 0, ρ⟩ (fun r =>
      ((∀ c, (rdat m G c).ArrAt 7 (cfgM m).N (r.2.mem ((c.tc : Thread nD τ).loc main_v29)))
      ∧ (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))) ∧ r.2.sem = fun _ => 0) :=
  RDat.θ_run_frameP (Q' := _) pcfgs (fun _ => adm m) 0 launch0 defs₀ Variants.none (rdat m G) m ρ main
    (hbody := fun c => obligation m G c (hT c) (hs c)) (hshare := fun c => (rdat m G c).share_full fun _ => rfl) (howed := fun _ _ => rfl)
    (V := V m) (hmain := hmain m Variants.none) (hA := A_eq m G) (hpf := V_pre m) (hΦ := fun _ _ => rfl)
    (hQ' := fun r ⟨h, hz⟩ => ⟨⟨fun c => (h c).1 7, fun c => ⟨
      (RDat.FramePost.arr_in h c 0 rfl).trans ((A_eq m G c 0).trans (V_arg0 m c)),
      (RDat.FramePost.arr_in h c 1 rfl).trans ((A_eq m G c 1).trans (V_arg1 m c)),
      (RDat.FramePost.arr_in h c 2 rfl).trans ((A_eq m G c 2).trans (V_arg2 m c)),
      ((h c).2 main_arg3 (Pipeline.mem_restRefs_of _ (by decide) (show ∀ w : Fin 8, (spec0 w).arr.view.ref ≠ main_arg3 from by decide))).trans (V_arg3 m c),
      ((h c).2 main_arg4 (Pipeline.mem_restRefs_of _ (by decide) (show ∀ w : Fin 8, (spec0 w).arr.view.ref ≠ main_arg4 from by decide))).trans (V_arg4 m c),
      (RDat.FramePost.arr_in h c 6 rfl).trans ((A_eq m G c 6).trans (V_arg5 m c)),
      ((h c).2 main_arg6 (Pipeline.mem_restRefs_of _ (by decide) (show ∀ w : Fin 8, (spec0 w).arr.view.ref ≠ main_arg6 from by decide))).trans (V_arg6 m c)⟩⟩, hz⟩)

end Seg.Ideal
-- ==== Proof.IdealHost.lean ====
module

public import proofs.«01_k».proof.Proof.IdealRun
public import proofs.«01_k».proof.Proof.Start
public import Idealize.ShloMosaic.Lib.StableHlo.ReadAt
public import Idealize.ShloMosaic.Lib.Pointwise

/-!
# The host's lines before the call

Where each position's segment starts, as the host's lines leave it, and with it the frame of the program.
-/

@[expose] public section

noncomputable section

namespace Seg.Ideal

open Idealize.ShloMosaic Idealize.ShloMosaic.TcCoe Idealize.ShloMosaic.Tactic Idealize.ShloMosaic.StableHlo
open Idealize.SL Idealize.SL.Sem
open Cert.KernelIdeal Cert.KernelIdeal.Gen Cert.KernelIdeal.Facts Cert.KernelIdeal.Facts₀

variable {F : FTy → Type} [FloatOps F] [Named F]
variable (m : (ℓ : Loc nD τ sig) → Buf (Elt F) ℓ)

/-- The host's running maximum of the segment starts, -/
theorem v8_eq (c : Dev nD) : V m c main_v8 = Host.reduceWindow IntOp.maxsi ![1, 4096] ![1, 1] ![0, 4095] ![0, 0] (V m c main_v7) (broadcastInDim S_ ![] bcast_S_S_ (constantI S_ 32 2147483648#32)) reduceWindows_S8x4096_S8x4096_w1s1p0_0_w4096s1p4095_0 h_S_ := by
  unfold V V0 lines
  after_reads_simp
  simp -implicitDefEqProofs only [StableHlo.TRef.toBuf, StableHlo.TRef.ofBuf, cast_cast, cast_eq]

/-- the table it is sampled into, -/
theorem v18_at (c : Dev nD) (b : Fin 8) (k : Fin 64) : V m c main_v18 (ix2 b k) = V m c main_v8 (ix2 b ⟨64 * k.val, by omega⟩) := by
  have e : V m c main_v18 = Host.slice S8x64 ![0, 0] ![1, 64] (V m c main_v8) slicesBy_S8x4096_S8x64_0s1_0s64 := by
    unfold V V0 lines
    after_reads_simp
  rw [e]
  pointwise

/-- the starts themselves, -/
theorem v7_at (c : Dev nD) (b : Fin 8) (p : Fin 4096) : V m c main_v7 (ix2 b p) = mark (m (c, Proc.devRef .tc main_arg6)) b p := by
  unfold V V0 lines
  after_reads_at
  all_goals after_reads_at
  exact mark_select _ _ _ _ rfl _ _

/-- and what the running maximum is. -/
theorem v8_start (c : Dev nD) (b : Fin 8) (q : Fin 4096) : IsStart (m (c, Proc.devRef .tc main_arg6)) b q (V m c main_v8 (ix2 b q)) := by
  obtain ⟨⟨p, hp, e⟩, h⟩ := runmax (V m c main_v7) (broadcastInDim S_ ![] bcast_S_S_ (constantI S_ 32 2147483648#32)) reduceWindows_S8x4096_S8x4096_w1s1p0_0_w4096s1p4095_0 h_S_ rfl b q
  rw [← v8_eq] at e h
  refine ⟨⟨p, hp, e.trans (v7_at m c b p)⟩, fun p hp => ?_⟩
  have := h p hp
  rwa [v7_at] at this

theorem sOff_at (b r t : Fin 8) : ∀ a : Fin 2, ((sR b r t).emb (Shape.Idx.first (one11.symm ▸ Nat.one_pos)) a).val = ((ix2 b (⟨8 * r.val + t.val, by omega⟩ : Fin 64) : S8x64.Idx) a).val := by
  have h : sOff b r t = ![b.val, 8 * r.val + t.val] := by revert b r t; decide +kernel
  intro a
  have h0 : ((Shape.Idx.first (s := S1x1) (one11.symm ▸ Nat.one_pos)) a).val = 0 := by
    have := ((Shape.Idx.first (s := S1x1) (one11.symm ▸ Nat.one_pos)) a).isLt
    fin_cases a <;> exact Nat.lt_one_iff.1 this
  show sOff b r t a + 1 * ((Shape.Idx.first (s := S1x1) (one11.symm ▸ Nat.one_pos)) a).val = _
  rw [h0, h]
  fin_cases a <;> rfl

/-- The table's word at tile `t` of rows block `r`: the first key of the tile's first row. -/
theorem sW_eq (c : Dev nD) (b r t : Fin 8) (I : Inp F) (hI : I.x2 = V m c main_v18) : sW b r t I = V m c main_v8 (ix2 b ⟨512 * r.val + 64 * t.val, by omega⟩) := by
  unfold sW ldR
  rw [hI]
  refine Eq.trans ?_ ((v18_at m c b ⟨8 * r.val + t.val, by omega⟩).trans ?_)
  · refine congrArg (V m c main_v18) ?_
    refine funext fun a => Fin.ext ?_
    revert a
    exact sOff_at b r t
  · refine congrArg (V m c main_v8) ?_
    congr 1
    apply Fin.ext
    simp only
    omega

theorem inp_x2 (c : Dev nD) (t : Fin (cfgM m).N) : (inp m c t).x2 = V m 0 main_v18 := by
  chain_rfl

/-- The first key of a tile is not past the tile's first row. -/
theorem sW_le (c : Dev nD) (t : Fin (cfgM m).N) (u : Fin 8) :
    (sW ((grid0.coords t) 0) ((grid0.coords t) 1) u (inp m c t)).toNat ≤ 512 * ((grid0.coords t) 1).val + 64 * u.val := by
  obtain rfl : c = 0 := Subsingleton.elim _ _
  have h := sW_eq m 0 ((grid0.coords t) 0) ((grid0.coords t) 1) u (inp m 0 t) (inp_x2 m 0 t)
  exact (congrArg BitVec.toNat h).le.trans (v8_start m 0 _ _).le

variable (ρ : Dev nD → PrngReg)

/-- Every run of the program leaves its arguments as they were and every counter at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r h => ⟨h.1.2, h.2⟩) (run m ρ (fun _ _ _ _ => True)
    (fun _ _ _ => ⟨fun _ _ _ _ _ _ _ _ _ => trivial, fun _ _ _ _ _ => trivial⟩) (fun c t u => sW_le m c t u))

end Seg.Ideal
end
-- ==== Proof.Soft.lean ====
module

public import Idealize.ShloMosaic.PureOps.Ideal
public import Idealize.ShloMosaic.PureOps.Ideal.Laws

/-!
# Softmax over the extended reals

A weighted average under softmax, as the reference writes it: with the maximum subtracted, with base `e`, and with a
guarded division. The kernel computes it with base two, over windows or chunks of the keys, with zero or a running
maximum subtracted. The theorems say these agree, whatever the scores and the values are.
-/

@[expose] public section

noncomputable section

namespace Seg

open Idealize.ShloMosaic

/-- The constant `1 / log 2`. -/
def lam : EReal := (((Real.log 2)⁻¹ : ℝ) : EReal)

theorem exp2_nonneg (x : EReal) : 0 ≤ Ideal.exp2 x := by
  induction x with
  | bot => exact le_rfl
  | top => exact le_top
  | coe r => rw [Ideal.exp2_coe]; exact EReal.coe_nonneg.2 (Real.rpow_nonneg (by norm_num) r)

theorem exp_nonneg (x : EReal) : 0 ≤ Ideal.exp x := by
  induction x with
  | bot => exact le_rfl
  | top => exact le_top
  | coe r => rw [Ideal.exp_coe]; exact EReal.coe_nonneg.2 (Real.exp_pos r).le

theorem rpow_pos (r : ℝ) : 0 < Real.rpow 2 r := Real.rpow_pos_of_pos (by norm_num) r

theorem rpow_add (a b : ℝ) : Real.rpow 2 (a + b) = Real.rpow 2 a * Real.rpow 2 b := Real.rpow_add (by norm_num) a b

theorem top_mul_rpow (r : ℝ) : (⊤ : EReal) * (Real.rpow 2 r : EReal) = ⊤ := EReal.top_mul_coe_of_pos (rpow_pos r)

/-- A power of two at a lower maximum, rescaled. -/
theorem exp2_split (t m m' : EReal) (hm : m ≠ ⊥) (h : m ≤ m') : Ideal.exp2 (t - m') = Ideal.exp2 (t - m) * Ideal.exp2 (m - m') := by
  induction m' with
  | bot => exact absurd (le_bot_iff.1 h) hm
  | top => simp [EReal.sub_top]
  | coe r' =>
    induction m with
    | bot => exact absurd rfl hm
    | top => exact absurd (top_le_iff.1 h) (EReal.coe_ne_top r')
    | coe r =>
      induction t with
      | bot => simp [EReal.bot_sub]
      | top =>
        rw [EReal.top_sub_coe, EReal.top_sub_coe, Ideal.exp2_top, ← EReal.coe_sub, Ideal.exp2_coe, top_mul_rpow]
      | coe s =>
        rw [← EReal.coe_sub, ← EReal.coe_sub, ← EReal.coe_sub, Ideal.exp2_coe, Ideal.exp2_coe, Ideal.exp2_coe, ← EReal.coe_mul, ← rpow_add]
        congr 2
        ring

theorem exp2_sub_ne_top (m m' : EReal) (hm : m ≠ ⊥) (h : m ≤ m') : Ideal.exp2 (m - m') ≠ ⊤ := by
  induction m' with
  | bot => exact absurd (le_bot_iff.1 h) hm
  | top => simp [EReal.sub_top]
  | coe r' =>
    induction m with
    | bot => exact absurd rfl hm
    | top => exact absurd (top_le_iff.1 h) (EReal.coe_ne_top r')
    | coe r =>
      rw [← EReal.coe_sub, Ideal.exp2_coe]
      exact EReal.coe_ne_top _

/-- A finite factor that is not negative distributes over a sum. -/
theorem sum_mul_nn {ι : Type} (S : Finset ι) (f : ι → EReal) (a : EReal) (h0 : 0 ≤ a) (h1 : a ≠ ⊤) : (∑ i ∈ S, f i) * a = ∑ i ∈ S, f i * a := by
  classical
  induction S using Finset.induction_on with
  | empty => simp
  | insert i S hi ih => rw [Finset.sum_insert hi, Finset.sum_insert hi, EReal.right_distrib_of_nonneg_of_ne_top h0 h1, ih]

variable {ι : Type} [Fintype ι] [DecidableEq ι]

/-- The maximum, the sum and the weighted sum over the keys of `S`, the maximum from `fl` up. -/
structure RunSt (fl : EReal) (T V : ι → EReal) (S : Finset ι) (m l a : EReal) : Prop where
  max : m = max fl (S.sup T)
  sum : l = ∑ i ∈ S, Ideal.exp2 (T i - m)
  acc : a = ∑ i ∈ S, V i * Ideal.exp2 (T i - m)

theorem RunSt.empty (fl : EReal) (T V : ι → EReal) : RunSt fl T V ∅ fl 0 0 := ⟨by simp, by simp, by simp⟩

/-- One more chunk. -/
theorem RunSt.step {fl : EReal} {T V : ι → EReal} {S C S' : Finset ι} {m l a m' : EReal} (h : RunSt fl T V S m l a) (hfl : fl ≠ ⊥)
    (hd : Disjoint S C) (hS : S' = S ∪ C) (hm : m' = Max.max m (C.sup T)) :
    RunSt fl T V S' m' (l * Ideal.exp2 (m - m') + ∑ i ∈ C, Ideal.exp2 (T i - m')) (a * Ideal.exp2 (m - m') + ∑ i ∈ C, V i * Ideal.exp2 (T i - m')) := by
  subst hS
  have hmb : m ≠ ⊥ := by
    rw [h.max]
    intro hb
    exact hfl (le_bot_iff.1 (hb ▸ le_max_left _ _))
  have hle : m ≤ m' := by rw [hm]; exact le_max_left _ _
  have n0 := exp2_nonneg (m - m')
  have n1 := exp2_sub_ne_top m m' hmb hle
  refine ⟨?_, ?_, ?_⟩
  · rw [hm, h.max, Finset.sup_union]
    exact max_assoc _ _ _
  · rw [h.sum, sum_mul_nn _ _ _ n0 n1, Finset.sum_union hd]
    congr 1
    exact Finset.sum_congr rfl fun i _ => (exp2_split (T i) m m' hmb hle).symm
  · rw [h.acc, sum_mul_nn _ _ _ n0 n1, Finset.sum_union hd]
    congr 1
    refine Finset.sum_congr rfl fun i _ => ?_
    rw [exp2_split (T i) m m' hmb hle, mul_assoc]

/-- Keys whose exponent is `-∞` count for nothing. -/
theorem sum_exp2_univ (T V : ι → EReal) (S : Finset ι) (m : EReal) (hS : ∀ i, i ∉ S → T i = ⊥) :
    ∑ i ∈ S, Ideal.exp2 (T i - m) = ∑ i, Ideal.exp2 (T i - m) ∧ ∑ i ∈ S, V i * Ideal.exp2 (T i - m) = ∑ i, V i * Ideal.exp2 (T i - m) := by
  constructor
  · refine Finset.sum_subset (Finset.subset_univ S) fun i _ hi => ?_
    rw [hS i hi, EReal.bot_sub, Ideal.exp2_bot]
  · refine Finset.sum_subset (Finset.subset_univ S) fun i _ hi => ?_
    rw [hS i hi, EReal.bot_sub, Ideal.exp2_bot, mul_zero]

theorem RunSt.univ {fl : EReal} {T V : ι → EReal} {S : Finset ι} {m l a : EReal} (h : RunSt fl T V S m l a) (hS : ∀ i, i ∉ S → T i = ⊥) :
    RunSt fl T V Finset.univ m l a := by
  obtain ⟨e1, e2⟩ := sum_exp2_univ T V S m hS
  refine ⟨?_, h.sum.trans e1, h.acc.trans e2⟩
  rw [h.max]
  congr 1
  refine le_antisymm (Finset.sup_mono (Finset.subset_univ S)) (Finset.sup_le fun i _ => ?_)
  by_cases hi : i ∈ S
  · exact Finset.le_sup hi
  · rw [hS i hi]; exact bot_le

/-! ### The reference's average -/

/-- The maximum of the scores, -/
def softM (Y : ι → EReal) : EReal := Finset.univ.sup Y
/-- the sum of the exponentials, -/
def softL (Y : ι → EReal) : EReal := ∑ i, Ideal.exp (Y i - softM Y)
/-- and the average of the values, scaled. -/
def softO (Y V : ι → EReal) (vs : EReal) : EReal :=
  (∑ i, V i * Ideal.div (Ideal.exp (Y i - softM Y)) (if 0 < softL Y then softL Y else 1)) * vs

theorem mul_lam (Y : ℝ) : (Y : EReal) * lam = ((Y * (Real.log 2)⁻¹ : ℝ) : EReal) := by
  rw [lam, EReal.coe_mul]

theorem log2_inv_pos : 0 < (Real.log 2)⁻¹ := inv_pos.2 (Real.log_pos (by norm_num))

theorem top_mul_lam : (⊤ : EReal) * lam = ⊤ := EReal.top_mul_coe_of_pos log2_inv_pos
theorem bot_mul_lam : (⊥ : EReal) * lam = ⊥ := EReal.bot_mul_coe_of_pos log2_inv_pos

theorem rpow_lam (x : ℝ) : Real.rpow 2 (x * (Real.log 2)⁻¹) = Real.exp x := by
  show (2 : ℝ) ^ (x * (Real.log 2)⁻¹) = Real.exp x
  rw [Real.rpow_def_of_pos (by norm_num)]
  congr 1
  have : Real.log 2 ≠ 0 := (Real.log_pos (by norm_num)).ne'
  field_simp

/-- Base two against base `e`, each with its own maximum subtracted. -/
theorem exp2_exp (y : EReal) (r m : ℝ) :
    Ideal.exp2 (y * lam - (m : EReal)) = Ideal.exp (y - (r : EReal)) * ((Real.rpow 2 (r * (Real.log 2)⁻¹ - m) : ℝ) : EReal) := by
  induction y with
  | bot => rw [bot_mul_lam, EReal.bot_sub, EReal.bot_sub, Ideal.exp2_bot, Ideal.exp_bot, zero_mul]
  | top => rw [top_mul_lam, EReal.top_sub_coe, EReal.top_sub_coe, Ideal.exp2_top, Ideal.exp_top, top_mul_rpow]
  | coe s =>
    rw [mul_lam, ← EReal.coe_sub, ← EReal.coe_sub, Ideal.exp2_coe, Ideal.exp_coe, ← EReal.coe_mul, ← rpow_lam, ← rpow_add]
    congr 2
    ring

theorem softM_le (Y : ι → EReal) (i : ι) : Y i ≤ softM Y := Finset.le_sup (Finset.mem_univ i)

theorem softM_mem [Nonempty ι] (Y : ι → EReal) : ∃ i, softM Y = Y i := by
  obtain ⟨i, -, h⟩ := Finset.exists_mem_eq_sup Finset.univ Finset.univ_nonempty Y
  exact ⟨i, h⟩

theorem coe_sum (S : Finset ι) (f : ι → ℝ) : ((∑ i ∈ S, f i : ℝ) : EReal) = ∑ i ∈ S, (f i : EReal) := by
  induction S using Finset.induction_on with
  | empty => simp
  | insert i S hi ih => rw [Finset.sum_insert hi, Finset.sum_insert hi, EReal.coe_add, ih]

/-- With a finite maximum every exponential is finite, and their sum positive. -/
theorem softL_real [Nonempty ι] (Y : ι → EReal) (r : ℝ) (hr : softM Y = r) : ∃ L : ℝ, softL Y = L ∧ 0 < L := by
  have h : ∀ i, ∃ e : ℝ, Ideal.exp (Y i - r) = e ∧ 0 ≤ e := by
    intro i
    have hi := softM_le Y i
    rw [hr] at hi
    generalize Y i = y at hi
    induction y with
    | bot => exact ⟨0, by rw [EReal.bot_sub, Ideal.exp_bot]; rfl, le_rfl⟩
    | top => exact absurd (top_le_iff.1 hi) (EReal.coe_ne_top r)
    | coe s => exact ⟨Real.exp (s - r), by rw [← EReal.coe_sub, Ideal.exp_coe], (Real.exp_pos _).le⟩
  choose e he h0 using h
  refine ⟨∑ i, e i, ?_, ?_⟩
  · rw [softL, hr, coe_sum]
    exact Finset.sum_congr rfl fun i _ => he i
  · obtain ⟨i, hi⟩ := softM_mem Y
    refine Finset.sum_pos' (fun i _ => h0 i) ⟨i, Finset.mem_univ i, ?_⟩
    have := he i
    rw [← hi, hr, ← EReal.coe_sub, Ideal.exp_coe, EReal.coe_eq_coe_iff] at this
    rw [← this]
    exact Real.exp_pos _

/-- With any finite number subtracted, base two, the quotient is the reference's average. -/
theorem soft_core [Nonempty ι] (Y V : ι → EReal) (vs : EReal) (r m : ℝ) (hr : softM Y = r) (T : ι → EReal) (hT : ∀ i, T i = Y i * lam) :
    (∑ i, V i * Ideal.exp2 (T i - (m : EReal))) * Ideal.div vs (∑ i, Ideal.exp2 (T i - (m : EReal))) = softO Y V vs := by
  obtain ⟨L, hL, h0⟩ := softL_real Y r hr
  have hg := rpow_pos (r * (Real.log 2)⁻¹ - m)
  have hg' : ∀ i, Ideal.exp2 (T i - (m : EReal)) = Ideal.exp (Y i - r) * ((Real.rpow 2 (r * (Real.log 2)⁻¹ - m) : ℝ) : EReal) :=
    fun i => (congrArg (fun t => Ideal.exp2 (t - (m : EReal))) (hT i)).trans (exp2_exp (Y i) r m)
  generalize Real.rpow 2 (r * (Real.log 2)⁻¹ - m) = g at hg hg'
  have n0 : (0 : EReal) ≤ (g : EReal) := EReal.coe_nonneg.2 hg.le
  have e1 : ∑ i, Ideal.exp2 (T i - (m : EReal)) = ((L * g : ℝ) : EReal) := by
    rw [EReal.coe_mul, ← hL, softL, sum_mul_nn _ _ _ n0 (EReal.coe_ne_top g), hr]
    exact Finset.sum_congr rfl fun i _ => hg' i
  have e2 : ∑ i, V i * Ideal.exp2 (T i - (m : EReal)) = (∑ i, V i * Ideal.exp (Y i - r)) * (g : EReal) := by
    rw [sum_mul_nn _ _ _ n0 (EReal.coe_ne_top g)]
    refine Finset.sum_congr rfl fun i _ => ?_
    rw [hg' i, mul_assoc]
  have hLg : ((L * g : ℝ) : EReal) ≠ 0 := EReal.coe_ne_zero.2 (mul_pos h0 hg).ne'
  have hL0 : ((L : ℝ) : EReal) ≠ 0 := EReal.coe_ne_zero.2 h0.ne'
  have i0 : (0 : EReal) ≤ ((L⁻¹ : ℝ) : EReal) := EReal.coe_nonneg.2 (inv_pos.2 h0).le
  have e3 : ∑ i, V i * Ideal.div (Ideal.exp (Y i - softM Y)) (if 0 < softL Y then softL Y else 1) = (∑ i, V i * Ideal.exp (Y i - r)) * ((L⁻¹ : ℝ) : EReal) := by
    rw [sum_mul_nn _ _ _ i0 (EReal.coe_ne_top _), hr, hL, if_pos (EReal.coe_pos.2 h0)]
    refine Finset.sum_congr rfl fun i _ => ?_
    rw [Ideal.div, if_neg hL0, ← EReal.coe_inv, mul_assoc]
  rw [softO, e3, e1, e2, Ideal.div, if_neg hLg, ← EReal.coe_inv]
  have e4 : (g : EReal) * (((L * g)⁻¹ : ℝ) : EReal) = ((L⁻¹ : ℝ) : EReal) := by
    rw [← EReal.coe_mul]
    congr 1
    have := hg.ne'
    have := h0.ne'
    field_simp
  rw [← e4]
  ac_rfl

/-- If the maximum is infinite the reference's average is zero. -/
theorem softO_top (Y V : ι → EReal) (vs : EReal) (h : softM Y = ⊤ ∨ softM Y = ⊥) : softO Y V vs = 0 := by
  have e : ∀ i, Ideal.exp (Y i - softM Y) = 0 := by
    intro i
    rcases h with h | h
    · rw [h, EReal.sub_top, Ideal.exp_bot]
    · have := softM_le Y i
      rw [h] at this
      rw [le_bot_iff.1 this, EReal.bot_sub, Ideal.exp_bot]
  have hL : softL Y = 0 := Finset.sum_eq_zero fun i _ => e i
  rw [softO, hL, if_neg (lt_irrefl _)]
  rw [Finset.sum_eq_zero fun i _ => ?_, zero_mul]
  rw [e i, Ideal.div, if_neg one_ne_zero, zero_mul, mul_zero]

/-- The kernel's running values, over all the keys, give the reference's average. -/
theorem RunSt.out [Nonempty ι] {f : ℝ} {T V : ι → EReal} {m l a : EReal} (h : RunSt (f : EReal) T V Finset.univ m l a) (Y : ι → EReal)
    (hT : ∀ i, T i = Y i * lam) (vs : EReal) : a * Ideal.div vs l = softO Y V vs := by
  have hz : (∀ i, Ideal.exp2 (T i - m) = 0) → a = 0 := fun hz => by
    rw [h.acc]
    exact Finset.sum_eq_zero fun i _ => by rw [hz i, mul_zero]
  rcases hM : softM Y with _ | _ | r
  · have hM' : softM Y = ⊥ := hM
    rw [softO_top Y V vs (.inr hM'), hz fun i => ?_, zero_mul]
    have := softM_le Y i
    rw [hM'] at this
    rw [hT i, le_bot_iff.1 this, bot_mul_lam, EReal.bot_sub, Ideal.exp2_bot]
  · have hM' : softM Y = ⊤ := hM
    obtain ⟨j, hj⟩ := softM_mem Y
    have hj' : T j = ⊤ := by rw [hT j, ← hj, hM', top_mul_lam]
    have hm : m = ⊤ := by
      have : T j ≤ m := by rw [h.max]; exact le_max_of_le_right (Finset.le_sup (Finset.mem_univ j))
      rw [hj'] at this
      exact top_le_iff.1 this
    rw [softO_top Y V vs (.inl hM'), hz fun i => ?_, zero_mul]
    rw [hm, EReal.sub_top, Ideal.exp2_bot]
  · have hM' : softM Y = (r : EReal) := hM
    have ht : m < ⊤ := by
      rw [h.max]
      refine max_lt (EReal.coe_lt_top f) ((Finset.sup_lt_iff (by exact bot_lt_top)).2 fun i _ => ?_)
      have hi := softM_le Y i
      rw [hM'] at hi
      rw [hT i]
      generalize Y i = y at hi
      induction y with
      | bot => rw [bot_mul_lam]; exact bot_lt_top
      | top => exact absurd (top_le_iff.1 hi) (EReal.coe_ne_top r)
      | coe s => rw [mul_lam]; exact EReal.coe_lt_top _
    have hb : m ≠ ⊥ := by
      rw [h.max]
      intro hb
      exact EReal.coe_ne_bot f (le_bot_iff.1 (hb ▸ le_max_left _ _))
    obtain ⟨mr, hmr⟩ : ∃ mr : ℝ, m = mr := ⟨m.toReal, (EReal.coe_toReal ht.ne hb).symm⟩
    rw [h.acc, h.sum, hmr]
    exact soft_core Y V vs r mr hM' T hT

/-- The one-pass path's sums, where they are positive and finite, give the reference's average. -/
theorem direct_out [Nonempty ι] (T V Y : ι → EReal) (S : Finset ι) (hS : ∀ i, i ∉ S → T i = ⊥) (hT : ∀ i, T i = Y i * lam) (vs : EReal)
    (h0 : 0 < ∑ i ∈ S, Ideal.exp2 (T i)) (h1 : ∑ i ∈ S, Ideal.exp2 (T i) ≠ ⊤) :
    (∑ i ∈ S, V i * Ideal.exp2 (T i)) * Ideal.div vs (∑ i ∈ S, Ideal.exp2 (T i)) = softO Y V vs := by
  have hs : ∀ t : EReal, Ideal.exp2 t = Ideal.exp2 (t - ((0 : ℝ) : EReal)) := fun t => by rw [EReal.coe_zero, sub_zero]
  have q1 : ∑ i ∈ S, Ideal.exp2 (T i) = ∑ i ∈ S, Ideal.exp2 (T i - ((0 : ℝ) : EReal)) := Finset.sum_congr rfl fun i _ => hs (T i)
  have q2 : ∑ i ∈ S, V i * Ideal.exp2 (T i) = ∑ i ∈ S, V i * Ideal.exp2 (T i - ((0 : ℝ) : EReal)) :=
    Finset.sum_congr rfl fun i _ => congrArg (V i * ·) (hs (T i))
  rw [q1] at h0 h1
  rw [q1, q2]
  obtain ⟨e1, e2⟩ := sum_exp2_univ T V S ((0 : ℝ) : EReal) hS
  rw [e1] at h0 h1
  rw [e1, e2]
  rcases hM : softM Y with _ | _ | r
  · have hM' : softM Y = ⊥ := hM
    exfalso
    refine h0.ne' (Finset.sum_eq_zero fun i _ => ?_)
    have := softM_le Y i
    rw [hM'] at this
    rw [hT i, le_bot_iff.1 this, bot_mul_lam, EReal.bot_sub, Ideal.exp2_bot]
  · have hM' : softM Y = ⊤ := hM
    exfalso
    obtain ⟨j, hj⟩ := softM_mem Y
    have hj' : T j = ⊤ := by rw [hT j, ← hj, hM', top_mul_lam]
    refine h1 (top_le_iff.1 ?_)
    have := Finset.single_le_sum (f := fun i => Ideal.exp2 (T i - ((0 : ℝ) : EReal))) (fun i _ => exp2_nonneg _) (Finset.mem_univ j)
    rwa [hj', EReal.top_sub_coe, Ideal.exp2_top] at this
  · exact soft_core Y V vs r 0 hM T hT

end Seg
-- ==== Proof.Spec.lean ====
module

public import proofs.«01_k».proof.Proof.Soft
public import Idealize.ShloMosaic.Lib.Pointwise

/-!
# What both programs compute

Causal attention within segments, over the extended reals: `attn` is one entry of the result, as a function of the
argument arrays. Both the kernel's result and the reference's are shown to be this.
-/

@[expose] public section

noncomputable section

namespace Seg

open Idealize.ShloMosaic

abbrev AX : Shape := ⟨3, ![8, 4096, 4096]⟩
abbrev AK : Shape := ⟨3, ![8, 4096, 1024]⟩
abbrev A32 : Shape := ⟨1, ![32]⟩
abbrev A8 : Shape := ⟨1, ![8]⟩
abbrev AS : Shape := ⟨2, ![8, 4096]⟩

/-- The argument arrays: queries, keys, values, their scales, and the segment ids. -/
structure Args where
  x : AX.Idx → EReal
  k : AK.Idx → EReal
  v : AK.Idx → EReal
  qs : A32.Idx → EReal
  ks : A8.Idx → EReal
  vs : A8.Idx → EReal
  seg : AS.Idx → BitVec 32

/-- The column of the queries where lane `d` of query head `4h + g` lies, -/
abbrev colX (h : Fin 8) (g : Fin 4) (d : Fin 128) : Fin 4096 := ⟨(h.val * 4 + g.val) * 128 + d.val, by omega⟩
/-- and the column of the keys and values where lane `d` of head `h` lies. -/
abbrev colK (h : Fin 8) (d : Fin 128) : Fin 1024 := ⟨h.val * 128 + d.val, by omega⟩

/-- The head of a column, -/
def headC (c : Fin 4096) : Fin 8 := ⟨c.val / 512, by omega⟩
/-- its place in the group, -/
def groupC (c : Fin 4096) : Fin 4 := ⟨c.val / 128 % 4, by omega⟩
/-- and its depth. -/
def depthC (c : Fin 4096) : Fin 128 := ⟨c.val % 128, by omega⟩

variable (A : Args)

/-- The score scale of a head. -/
def scl (h : Fin 8) (g : Fin 4) : EReal :=
  A.qs (ix1 (⟨h.val * 4 + g.val, by omega⟩ : Fin 32)) * A.ks (ix1 h) * Ideal.ofBits .f32 0x3DB504F3#32

/-- The product of a key and a query. -/
def qk (b : Fin 8) (q : Fin 4096) (h : Fin 8) (g : Fin 4) (s : Fin 4096) : EReal :=
  ∑ d : Fin 128, A.k (ix3 b s (colK h d)) * A.x (ix3 b q (colX h g d))

/-- A row may look at a key: the key is not later, and of the row's segment. -/
def see (b : Fin 8) (q s : Fin 4096) : Prop := s.val ≤ q.val ∧ A.seg (ix2 b q) = A.seg (ix2 b s)

instance (b : Fin 8) (q s : Fin 4096) : Decidable (see A b q s) := by unfold see; infer_instance

/-- The scores of a row, `-∞` where it may not look. -/
def scr (b : Fin 8) (q : Fin 4096) (h : Fin 8) (g : Fin 4) (s : Fin 4096) : EReal :=
  if see A b q s then qk A b q h g s * scl A h g else ⊥

/-- One entry of the result. -/
def attn (b : Fin 8) (q : Fin 4096) (h : Fin 8) (g : Fin 4) (d : Fin 128) : EReal :=
  softO (scr A b q h g) (fun s => A.v (ix3 b s (colK h d))) (A.vs (ix1 h))

end Seg
-- ==== Proof.Arith.lean ====
module

public import proofs.«01_k».proof.Proof.Triples
public import proofs.«01_k».proof.Proof.Spec
public import Idealize.ShloMosaic.Lib.Pointwise
public import Idealize.ShloMosaic.Lib.Pipeline.Value
public import Idealize.ShloMosaic.Lib.Tactic

/-!
# The body's arithmetic over the extended reals

What each piece of the body's arithmetic is at one index.
-/

@[expose] public section

noncomputable section

namespace Seg

open Idealize.ShloMosaic Idealize.ShloMosaic.TcCoe Idealize.ShloMosaic.Tactic

variable (n : Nat) [Shp n]

/-- A block of keys or values, flattened. -/
theorem flat_at (k : Vec Ideal (Kn n) .fp8e4m3) (s : Fin n) (d : Fin 128) : shapeCast (Sn n) k Shp.scK (ix2 s d) = k (ix3 0 s d) := by
  refine shapeCast_apply k Shp.scK (ix2 s d) (ix3 0 s d) ?_
  rw [Shape.rowMajor_val_two, Shape.rowMajor_val_three]
  show (0 * n + s.val) * 128 + d.val = s.val * 128 + d.val
  omega

theorem dotKQ_at (k : FVec Ideal (Sn n) .fp8e4m3) (q : FVec Ideal S256x128 .fp8e4m3) (s : Fin n) (i : Fin 256) :
    matmul (dotKQ n) none k q (constant (Wn n) .f32 0x00000000#32) (ix2 s i) = ∑ d : Fin 128, (k (ix2 s d) : EReal) * q (ix2 i d) := by
  refine (Ideal.matmul_apply₁_of (dotKQ n) (K := 128) rfl rfl k q _ (ix2 s i) (fun d => ix2 s d) (fun d => ix2 i d)
    (fun d => ?_) (fun d => ?_)).trans ?_
  · funext a; fin_cases a <;> rfl
  · funext a; fin_cases a <;> rfl
  · pointwise

theorem dotVP_at (v : FVec Ideal (Sn n) .bf16) (p : FVec Ideal (Wn n) .bf16) (d : Fin 128) (i : Fin 256) :
    matmul (dotVP n) none v p (constant S128x256 .f32 0x00000000#32) (ix2 d i) = ∑ s : Fin n, (v (ix2 s d) : EReal) * p (ix2 s i) := by
  refine (Ideal.matmul_apply₁_of (dotVP n) (K := n) rfl rfl v p _ (ix2 d i) (fun s => ix2 s d) (fun s => ix2 s i)
    (fun s => ?_) (fun s => ?_)).trans ?_
  · funext a; fin_cases a <;> rfl
  · funext a; fin_cases a <;> rfl
  · pointwise

theorem expoV_at (le : Ideal .f32) (k : Vec Ideal (Kn n) .fp8e4m3) (q : FVec Ideal S256x128 .fp8e4m3) (b : FVec Ideal (Sn n) .f32)
    (c : Vec Ideal S1x256 .f32) (s : Fin n) (i : Fin 256) :
    expoV n le k q b c (ix2 s i) = (∑ d : Fin 128, (k (ix3 0 s d) : EReal) * q (ix2 i d)) * (c (ix2 0 i) * le) + b (ix2 s ⟨i.val % 128, by omega⟩) := by
  unfold expoV
  refine congr (congrArg HAdd.hAdd (congr (congrArg HMul.hMul ((dotKQ_at n _ q s i).trans (Finset.sum_congr rfl fun d _ => congrArg (· * _) (flat_at n k s d)))) ?_)) ?_
  · pointwise
  · pointwise
    split
    · next h =>
      refine congrArg b ?_
      funext a; fin_cases a
      · rfl
      · exact Fin.ext (by show i.val = i.val % 128; omega)
    · next h =>
      have := i.isLt
      refine congrArg b ?_
      funext a; fin_cases a
      · rfl
      · exact Fin.ext (by show i.val - 128 = i.val % 128; omega)

theorem sumV_at (p : FVec Ideal (Wn n) .f32) (i : Fin 256) : sumV n p (ix2 0 i) = ∑ s : Fin n, (p (ix2 s i) : EReal) := by
  unfold sumV
  pointwise

theorem bot_word : Ideal.ofBits .f32 0xFF800000#32 = ⊥ := by
  simp [Ideal.ofBits, Ideal.ieee]

theorem maxV_at (p : FVec Ideal (Wn n) .f32) (i : Fin 256) : maxV n p (ix2 0 i) = Finset.univ.sup fun s : Fin n => (p (ix2 s i) : EReal) := by
  unfold maxV
  pointwise
  rw [bot_word]
  rfl

theorem accV_at (v : Vec Ideal (Kn n) .fp8e4m3) (p : FVec Ideal (Wn n) .f32) (d : Fin 128) (i : Fin 256) :
    accV n v p (ix2 d i) = ∑ s : Fin n, (v (ix3 0 s d) : EReal) * p (ix2 s i) := by
  unfold accV
  rw [dotVP_at]
  exact Finset.sum_congr rfl fun s _ => congrArg (· * _) (flat_at n v s d)

theorem outV_at (acc : FVec Ideal S128x256 .f32) (l : FVec Ideal S1x256 .f32) (vs : Ideal .f32) (i : Fin 256) (d : Fin 128) :
    outV acc l vs (ix2 i d) = (acc (ix2 d i) : EReal) * Ideal.div vs (l (ix2 0 i)) := by
  unfold outV
  pointwise

theorem selBias (l x u : BitVec 32) : Scalar.select (IntOp.andi (IntOp.cmpi .sge x l) (IntOp.cmpi .sle x u)) (0 : EReal) ⊥
    = if l.toInt ≤ x.toInt ∧ x.toInt ≤ u.toInt then (0 : EReal) else ⊥ := by
  simp only [IntOp.cmpi, IntOp.andi, BitVec.sle]
  by_cases ha : l.toInt ≤ x.toInt <;> by_cases hb : x.toInt ≤ u.toInt <;> simp [ha, hb] <;> rfl

/-- The bias of a key: nothing if the key lies between the bounds, `-∞` if not. -/
theorem biasV_at (w : BitVec 32) (lo hi : Vec Ideal S1x1x1x128 .i32) (s : Fin n) (i : Fin 128) :
    biasV n w lo hi (ix2 s i) = if (lo (ix4 0 0 0 i) : BitVec 32).toInt ≤ (w + BitVec.ofNat 32 s.val).toInt ∧ (w + BitVec.ofNat 32 s.val).toInt ≤ (hi (ix4 0 0 0 i) : BitVec 32).toInt
      then (0 : EReal) else ⊥ := by
  unfold biasV
  pointwise
  rw [bot_word]
  exact selBias _ _ _

/-- Which of the four query heads' rows a row of the four together is. -/
theorem qcat_at (q : Fin 4 → Vec Ideal S1x64x128 .fp8e4m3) (i : Fin 256) (d : Fin 128) :
    qcat (q 0) (q 1) (q 2) (q 3) (ix2 i d) = q ⟨i.val / 64, by omega⟩ (ix3 0 ⟨i.val % 64, by omega⟩ d) := by
  unfold qcat
  pointwise
  split
  · next h =>
    rw [show (⟨i.val / 64, by omega⟩ : Fin 4) = 0 from Fin.ext (by show i.val / 64 = 0; omega)]
    congr 2; exact Fin.ext (by show i.val = i.val % 64; omega)
  split
  · next h h' =>
    rw [show (⟨i.val / 64, by omega⟩ : Fin 4) = 1 from Fin.ext (by show i.val / 64 = 1; omega)]
    congr 2; exact Fin.ext (by show i.val - 64 = i.val % 64; omega)
  split
  · next h h' h'' =>
    rw [show (⟨i.val / 64, by omega⟩ : Fin 4) = 2 from Fin.ext (by show i.val / 64 = 2; omega)]
    congr 2; exact Fin.ext (by show i.val - 64 - 64 = i.val % 64; omega)
  · next h h' h'' =>
    have := i.isLt
    rw [show (⟨i.val / 64, by omega⟩ : Fin 4) = 3 from Fin.ext (by show i.val / 64 = 3; omega)]
    congr 2; exact Fin.ext (by show i.val - 64 - 64 - 64 = i.val % 64; omega)

end Seg
end
-- ==== Proof.Mask.lean ====
module

public import proofs.«01_k».proof.Proof.Start
public import proofs.«01_k».proof.Proof.Spec

/-!
# Which keys a row looks at

With the segment ids of a row in order, the keys from the start of a position's segment up to the position are the keys
it may look at; and sums over a window of keys as sums over a set of keys.
-/

@[expose] public section

noncomputable section

namespace Seg

open Idealize.ShloMosaic

/-- The ids of a row never decrease. -/
def Sorted (seg : SRow.Idx → BitVec 32) (b : Fin 8) : Prop :=
  ∀ p : Nat, (h : p + 1 < 4096) → (seg (ix2 b ⟨p, by omega⟩)).toInt ≤ (seg (ix2 b ⟨p + 1, h⟩)).toInt

theorem Sorted.le {seg : SRow.Idx → BitVec 32} {b : Fin 8} (h : Sorted seg b) (p : Nat) (hp : p < 4096) (q : Nat) (hpq : p ≤ q) :
    ∀ hq : q < 4096, (seg (ix2 b ⟨p, hp⟩)).toInt ≤ (seg (ix2 b ⟨q, hq⟩)).toInt := by
  induction q, hpq using Nat.le_induction with
  | base => exact fun _ => le_rfl
  | succ q hpq ih => exact fun hq => (ih (by omega)).trans (h q hq)

theorem IsStart.toInt {seg : SRow.Idx → BitVec 32} {b : Fin 8} {q : Fin 4096} {w : BitVec 32} (h : IsStart seg b q w) : w.toInt = w.toNat := by
  have := h.le
  exact BitVec.toInt_eq_toNat_of_lt (by omega)

theorem toInt_pos (p : Nat) (hp : p < 65536) : (BitVec.ofNat 32 p).toInt = p := by
  have e : (BitVec.ofNat 32 p).toNat = p := by rw [BitVec.toNat_ofNat]; exact Nat.mod_eq_of_lt (by omega)
  rw [BitVec.toInt_eq_toNat_of_lt (by rw [e]; omega), e]

/-- Later positions' segments start no earlier. -/
theorem IsStart.mono {seg : SRow.Idx → BitVec 32} {b : Fin 8} {q q' : Fin 4096} {w w' : BitVec 32} (h : IsStart seg b q w)
    (h' : IsStart seg b q' w') (hq : q.val ≤ q'.val) : w.toNat ≤ w'.toNat := by
  obtain ⟨p, hp, e⟩ := h.is
  have := h'.ge p (hp.trans hq)
  rw [← e, h.toInt, h'.toInt] at this
  exact_mod_cast this

/-- The keys from the start of its segment up to a position are the ones it may look at. -/
theorem see_iff (A : Args) (b : Fin 8) (hs : Sorted A.seg b) (q s : Fin 4096) (w : BitVec 32) (hw : IsStart A.seg b q w) :
    see A b q s ↔ w.toNat ≤ s.val ∧ s.val ≤ q.val := by
  unfold see
  constructor
  · rintro ⟨h1, h2⟩
    refine ⟨?_, h1⟩
    by_contra hlt
    obtain ⟨p, hp, e⟩ := hw.is
    unfold mark at e
    split at e
    · next he =>
      have ep : w.toNat = p.val := by rw [e, BitVec.toNat_ofNat]; exact Nat.mod_eq_of_lt (by omega)
      have hpos : 0 < p.val := by omega
      have a1 := hs.le s.val s.isLt (p.val - 1) (by omega) (by omega)
      have a2 := hs.le (p.val - 1) (by omega) p.val (by omega) p.isLt
      have a3 := hs.le p.val p.isLt q.val hp q.isLt
      rw [show (⟨q.val, q.isLt⟩ : Fin 4096) = q from rfl, h2] at a3
      refine he hpos (BitVec.eq_of_toInt_eq ?_)
      exact le_antisymm (a3.trans a1) a2
    · rw [e] at hlt; exact hlt (Nat.zero_le _)
  · rintro ⟨h1, h2⟩
    refine ⟨h2, ?_⟩
    have key : ∀ p : Nat, s.val ≤ p → ∀ hp : p < 4096, p ≤ q.val → A.seg (ix2 b ⟨p, hp⟩) = A.seg (ix2 b s) := by
      intro p hsp
      induction p, hsp using Nat.le_induction with
      | base => exact fun _ _ => rfl
      | succ p hsp ih =>
        intro hp hpq
        have hne : ¬ Edge A.seg b ⟨p + 1, hp⟩ := by
          intro he
          have hg := hw.ge ⟨p + 1, hp⟩ hpq
          unfold mark at hg
          rw [if_pos he, hw.toInt, toInt_pos _ (by show p + 1 < 65536; omega)] at hg
          have : p + 1 ≤ w.toNat := by exact_mod_cast hg
          omega
        unfold Edge at hne
        push Not at hne
        obtain ⟨_, hne⟩ := hne
        exact hne.trans (ih (by omega) (by omega))
    exact key q.val h2 q.isLt le_rfl

/-! ### Windows of keys -/

/-- The keys from `w` up to `w + n`. -/
def keys (w n : Nat) : Finset (Fin 4096) := Finset.univ.filter fun s => w ≤ s.val ∧ s.val < w + n

theorem mem_keys (w n : Nat) (s : Fin 4096) : s ∈ keys w n ↔ w ≤ s.val ∧ s.val < w + n := by simp [keys]

theorem keys_eq (w n : Nat) (h : w + n ≤ 4096) :
    keys w n = Finset.univ.map ⟨fun s : Fin n => (⟨w + s.val, by omega⟩ : Fin 4096), fun a b e => Fin.ext (by have := congrArg Fin.val e; simp only at this; omega)⟩ := by
  ext s
  rw [mem_keys, Finset.mem_map]
  constructor
  · rintro ⟨h1, h2⟩
    exact ⟨⟨s.val - w, by omega⟩, Finset.mem_univ _, Fin.ext (by show w + (s.val - w) = s.val; omega)⟩
  · rintro ⟨a, -, rfl⟩
    exact ⟨Nat.le_add_right _ _, Nat.add_lt_add_left a.isLt _⟩

/-- A sum over the rows of a window is a sum over its keys, -/
theorem sum_keys (w n : Nat) (h : w + n ≤ 4096) (f : Fin 4096 → EReal) : ∑ s : Fin n, f ⟨w + s.val, by omega⟩ = ∑ s ∈ keys w n, f s := by
  rw [keys_eq w n h, Finset.sum_map]; rfl

/-- and so is a maximum. -/
theorem sup_keys (w n : Nat) (h : w + n ≤ 4096) (f : Fin 4096 → EReal) : (Finset.univ.sup fun s : Fin n => f ⟨w + s.val, by omega⟩) = (keys w n).sup f := by
  rw [keys_eq w n h, Finset.sup_map]; rfl

theorem keys_disjoint (w n k : Nat) : Disjoint (keys w n) (keys (w + n) k) := by
  rw [Finset.disjoint_left]
  intro s h1 h2
  rw [mem_keys] at h1 h2
  omega

theorem keys_union (w n k : Nat) : keys w (n + k) = keys w n ∪ keys (w + n) k := by
  ext s
  rw [Finset.mem_union, mem_keys, mem_keys, mem_keys]
  omega

theorem keys_zero (w : Nat) : keys w 0 = ∅ := by
  ext s
  rw [mem_keys]
  simp only [Finset.notMem_empty, iff_false]
  omega

end Seg
end
-- ==== Proof.Tile.lean ====
module

public import proofs.«01_k».proof.Proof.Arith
public import proofs.«01_k».proof.Proof.Mask
public import proofs.«01_k».proof.Proof.Soft
public import proofs.«01_k».proof.Proof.Bounds

/-!
# What a tile computes

Over the extended reals, from blocks that read the argument arrays, both ways of computing a tile give the attention.
-/

@[expose] public section

noncomputable section

namespace Seg

open Idealize.ShloMosaic Idealize.ShloMosaic.TcCoe Idealize.ShloMosaic.Tactic

/-- Row `j` of tile `t` of row block `r`. -/
abbrev row (r t : Fin 8) (j : Fin 64) : Fin 4096 := ⟨512 * r.val + 64 * t.val + j.val, by omega⟩
/-- Which row of its tile a row of the four query heads together is, -/
abbrev tileRow (i : Fin 256) : Fin 64 := ⟨i.val % 64, by omega⟩
/-- and whose. -/
abbrev tileGrp (i : Fin 256) : Fin 4 := ⟨i.val / 64, by omega⟩

/-- The body's inputs read the argument arrays: row block `r` of batch row `b`. -/
structure Reads (A : Args) (b r : Fin 8) (st : Fin 4096 → BitVec 32) (I : Inp Ideal) : Prop where
  x3 : ∀ (y : Fin 512) (c : Fin 4096), (I.x3 (ix3 0 y c) : EReal) = A.x (ix3 b ⟨512 * r.val + y.val, by omega⟩ c)
  x4 : ∀ (s : Fin 4096) (c : Fin 1024), (I.x4 (ix3 0 s c) : EReal) = A.k (ix3 b s c)
  x5 : ∀ (s : Fin 4096) (c : Fin 1024), (I.x5 (ix3 0 s c) : EReal) = A.v (ix3 b s c)
  x6 : ∀ (t : Fin 8) (l : Fin 128), (I.x6 (ix4 0 0 t l) : BitVec 32) = st (row r t ⟨l.val % 64, by omega⟩)
  x7 : ∀ (t : Fin 8) (l : Fin 128), (I.x7 (ix4 0 0 t l) : BitVec 32) = BitVec.ofNat 32 (row r t ⟨l.val % 64, by omega⟩).val
  x8 : ∀ (h : Fin 8) (i : Fin 256), (I.x8 (ix2 h i) : EReal) = scl A h (tileGrp i)
  x9 : ∀ h : Fin 8, (I.x9 (ix1 h) : EReal) = A.vs (ix1 h)
  start : ∀ q, IsStart A.seg b q (st q)

section
variable {A : Args} {b r : Fin 8} {st : Fin 4096 → BitVec 32} {I : Inp Ideal} (R : Reads A b r st I) (hs : Sorted A.seg b)

/-! ### The loads -/

include R in
theorem headQ_at (t h : Fin 8) (i : Fin 256) (d : Fin 128) :
    headQ t h I (ix2 i d) = A.x (ix3 b (row r t (tileRow i)) (colX h (tileGrp i) d)) := by
  unfold headQ
  rw [qcat_at (fun g => ldR (qR t (col h g)) I.x3) i d]
  have e : ldR (qR t (col h (tileGrp i))) I.x3 (ix3 0 (tileRow i) d) = I.x3 (ix3 0 (⟨64 * t.val + (tileRow i).val, by omega⟩ : Fin 512) (colX h (tileGrp i) d)) := by
    unfold ldR
    refine congrArg I.x3 (funext fun a => Fin.ext ?_)
    show qOff t (col h (tileGrp i)).val a + 1 * ((ix3 0 (tileRow i) d : S1x64x128.Idx) a).val = _
    rw [qOff_eq]
    match a with
    | 0 => rfl
    | 1 => show 64 * t.val + 1 * (tileRow i).val = _; rw [Nat.one_mul]; rfl
    | 2 => show (h.val * 4 + (tileGrp i).val) * 128 + 1 * d.val = _; rw [Nat.one_mul]; rfl
  exact e.trans ((R.x3 _ _).trans (congrArg A.x (congrArg (fun q => ix3 b q _) (Fin.ext (by show 512 * r.val + (64 * t.val + i.val % 64) = 512 * r.val + 64 * t.val + i.val % 64; omega)))))

theorem ldK_at {β : Type} (n w : Nat) (hw : w + n ≤ 4096) (h : Fin 8) (off : Fin 3 → Nat) (ho : off = ![0, w, h.val * 128]) (inb) (x : S1x4096x1024.Idx → β) (s : Fin n) (d : Fin 128) :
    ldR (Rect.unit (s := S1x4096x1024) off (Kn n).size inb) x (ix3 0 s d) = x (ix3 0 (⟨w + s.val, by omega⟩ : Fin 4096) (colK h d)) := by
  subst ho
  unfold ldR
  refine congrArg x (funext fun a => Fin.ext ?_)
  match a with
  | 0 => rfl
  | 1 => show w + 1 * s.val = _; rw [Nat.one_mul]; rfl
  | 2 => show h.val * 128 + 1 * d.val = _; rw [Nat.one_mul]; rfl

theorem bOff_eq (t : Fin 8) : bOff t = ![0, 0, t.val, 0] := by
  have h : (Scalar.indexCast (Scf.iv 0#32 1#32 t.val)).toNat = t.val := by
    revert t; decide +kernel
  unfold bOff
  rw [h]

theorem ldB_at {β : Type} (t : Fin 8) (x : S1x1x8x128.Idx → β) (l : Fin 128) : ldR (bR t) x (ix4 0 0 0 l) = x (ix4 0 0 t l) := by
  unfold ldR
  refine congrArg x (funext fun a => Fin.ext ?_)
  show bOff t a + 1 * ((ix4 0 0 0 l : S1x1x1x128.Idx) a).val = _
  rw [bOff_eq]
  match a with
  | 0 => rfl
  | 1 => rfl
  | 2 => rfl
  | 3 => show 0 + 1 * l.val = _; rw [Nat.one_mul, Nat.zero_add]; rfl

theorem ldC_at {β : Type} (h : Fin 8) (off : Fin 2 → Nat) (ho : off = ![h.val, 0]) (inb) (x : S8x256.Idx → β) (i : Fin 256) :
    ldR (Rect.unit (s := S8x256) off S1x256.size inb) x (ix2 0 i) = x (ix2 h i) := by
  subst ho
  unfold ldR
  refine congrArg x (funext fun a => Fin.ext ?_)
  match a with
  | 0 => rfl
  | 1 => show 0 + 1 * i.val = _; rw [Nat.one_mul, Nat.zero_add]; rfl

theorem ldV_at {β : Type} (h : Fin 8) (off : Fin 1 → Nat) (ho : off = ![h.val]) (inb) (x : S8.Idx → β) (z : S1.Idx) :
    ldR (Rect.unit (s := S8) off S1.size inb) x z = x (ix1 h) := by
  subst ho
  unfold ldR
  refine congrArg x (funext fun a => Fin.ext ?_)
  match a with
  | 0 =>
    have : (z 0).val < 1 := (z 0).isLt
    show h.val + 1 * (z 0).val = h.val
    omega

theorem word_add (w : Nat) (s : Nat) (h : w + s < 65536) : (BitVec.ofNat 32 w + BitVec.ofNat 32 s).toInt = (w + s : Nat) := by
  rw [← BitVec.ofNat_add]
  exact toInt_pos _ h

include R hs in
/-- The bias of a key, for a lane. -/
theorem bias_at (n : Nat) [Shp n] (t : Fin 8) (w : Nat) (hw : w + n ≤ 4096) (s : Fin n) (l : Fin 128) :
    biasV n (BitVec.ofNat 32 w) (ldR (bR t) I.x6) (ldR (bR t) I.x7) (ix2 s l)
      = if see A b (row r t ⟨l.val % 64, by omega⟩) ⟨w + s.val, by omega⟩ then (0 : EReal) else ⊥ := by
  rw [biasV_at, ldB_at, ldB_at, R.x6, R.x7, word_add _ _ (by omega), (R.start _).toInt, toInt_pos _ (by show 512 * r.val + 64 * t.val + l.val % 64 < 65536; omega)]
  have e := see_iff A b hs (row r t ⟨l.val % 64, by omega⟩) ⟨w + s.val, by omega⟩ _ (R.start _)
  refine if_congr ?_ rfl rfl
  rw [e]
  simp only [Nat.cast_le]

include R hs in
/-- The exponents of a window of keys are the scores, in base two. -/
theorem expo_at (n : Nat) [Shp n] (t h : Fin 8) (w : Nat) (hw : w + n ≤ 4096) (k : Vec Ideal (Kn n) .fp8e4m3)
    (hk : ∀ (s : Fin n) (d : Fin 128), (k (ix3 0 s d) : EReal) = A.k (ix3 b ⟨w + s.val, by omega⟩ (colK h d))) (c : Vec Ideal S1x256 .f32)
    (hc : ∀ i : Fin 256, (c (ix2 0 i) : EReal) = scl A h (tileGrp i)) (bias : FVec Ideal (Sn n) .f32)
    (hb : bias = biasV n (BitVec.ofNat 32 w) (ldR (bR t) I.x6) (ldR (bR t) I.x7)) (s : Fin n) (i : Fin 256) :
    expoV n lam k (headQ t h I) bias c (ix2 s i) = scr A b (row r t (tileRow i)) h (tileGrp i) ⟨w + s.val, by omega⟩ * lam := by
  subst hb
  rw [expoV_at, bias_at R hs n t w hw, hc]
  have e : (⟨i.val % 128 % 64, by omega⟩ : Fin 64) = tileRow i := Fin.ext (by show i.val % 128 % 64 = i.val % 64; omega)
  rw [e]
  have eq : (∑ d : Fin 128, (k (ix3 0 s d) : EReal) * headQ t h I (ix2 i d)) = qk A b (row r t (tileRow i)) h (tileGrp i) ⟨w + s.val, by omega⟩ := by
    unfold qk
    exact Finset.sum_congr rfl fun d _ => by rw [hk, headQ_at R]
  rw [eq]
  unfold scr
  split
  · rw [add_zero, mul_assoc]
  · rw [EReal.add_bot, bot_mul_lam]

/-! ### The one-pass path -/

theorem bmod_id (x : Int) (h1 : -2147483648 ≤ x) (h2 : x < 2147483648) : x.bmod (2 ^ 32) = x := by
  have e : ((2 ^ 32 : Nat) : Int) = 4294967296 := by norm_num
  rw [Int.bmod_def, e]
  split <;> omega

theorem stopN (n : Nat) (hn : n ≤ 1024) (r t : Fin 8) : winW n r t = BitVec.ofNat 32 (512 * r.val + 64 * t.val + 64 - n) := by
  have e1 := toInt_pos (512 * r.val + 64 * t.val + 64) (by omega)
  have e2 := toInt_pos n (by omega)
  apply BitVec.eq_of_toInt_eq
  rw [toInt_pos _ (by omega)]
  show (IntOp.maxsi (stopW r t - BitVec.ofNat 32 n) 0#32).toInt = _
  rw [maxsi_toInt, stopW_eq, BitVec.toInt_sub, e1, e2, show (0#32 : BitVec 32).toInt = 0 from rfl, bmod_id _ (by omega) (by omega)]
  omega

theorem shp_le (n : Nat) [Shp n] : n ≤ 1024 := by
  have := Shp.inbBias (n := n) 0
  change 0 + n ≤ 1024 at this
  omega

theorem oIdx_eq (y : S1x512x4096.Idx) (i : Fin 256) (d : Fin 128) (hi : i.val = (y 2).val / 128 % 4 * 64 + (y 1).val % 64) (hd : d.val = (y 2).val % 128) :
    oIdx y = ix2 i d := by
  funext a
  match a with
  | 0 => exact Fin.ext hi.symm
  | 1 => exact Fin.ext hd.symm

theorem brC_le (r t : Fin 8) (s : BitVec 32) (hs : s.toNat ≤ 512 * r.val + 64 * t.val) (lo : BitVec 32) (n : Nat) (hn : n ≤ 1024)
    (h : brC (Scalar.subi (stopW r t) s) lo (BitVec.ofNat 32 n) = 1#1) : 512 * r.val + 64 * t.val + 64 ≤ n + s.toNat := by
  have h2 : (Scalar.cmpi .sle (Scalar.subi (stopW r t) s) (BitVec.ofNat 32 n) : BitVec 1) = 1#1 := by
    unfold brC at h
    by_contra hne
    have h0 : (Scalar.cmpi .sle (Scalar.subi (stopW r t) s) (BitVec.ofNat 32 n) : BitVec 1) = 0#1 := by
      rcases BitVec.eq_zero_or_eq_one (Scalar.cmpi .sle (Scalar.subi (stopW r t) s) (BitVec.ofNat 32 n) : BitVec 1) with h | h
      · exact h
      · exact absurd h hne
    rw [h0] at h
    rcases BitVec.eq_zero_or_eq_one (Scalar.cmpi .sgt (Scalar.subi (stopW r t) s) lo : BitVec 1) with h' | h' <;> rw [h'] at h <;> exact absurd h (by decide)
  have h3 : (stopW r t - s).sle (BitVec.ofNat 32 n) = true := by
    by_contra hne
    have : (stopW r t - s).sle (BitVec.ofNat 32 n) = false := by simpa using hne
    change BitVec.ofBool ((stopW r t - s).sle (BitVec.ofNat 32 n)) = 1#1 at h2
    rw [this] at h2
    exact absurd h2 (by decide)
  rw [BitVec.sle_iff_toInt_le, stopW_eq, BitVec.toInt_sub, toInt_pos _ (by omega), toInt_pos n (by omega), BitVec.toInt_eq_toNat_of_lt (by omega), bmod_id _ (by omega) (by omega)] at h3
  omega

/-! ### The flag -/

theorem minsi_toInt (x y : BitVec 32) : (IntOp.minsi x y).toInt = min x.toInt y.toInt := by
  unfold IntOp.minsi
  split
  · next h => rw [BitVec.slt_iff_toInt_lt] at h; omega
  · next h => rw [BitVec.slt_iff_toInt_lt] at h; omega

theorem fold_minsi {ι : Type} [DecidableEq ι] (S : Finset ι) (a : BitVec 32) (ha : 0 ≤ a.toInt) (f : ι → BitVec 32) (hf : ∀ i, 0 ≤ (f i).toInt) :
    0 ≤ (S.fold IntOp.minsi a f).toInt ∧ ∀ i ∈ S, (S.fold IntOp.minsi a f).toInt ≤ (f i).toInt := by
  induction S using Finset.induction_on with
  | empty => exact ⟨ha, fun i h => absurd h (Finset.notMem_empty i)⟩
  | insert x S hx ih =>
    rw [Finset.fold_insert hx, minsi_toInt]
    refine ⟨le_min (hf x) ih.1, fun i hi => ?_⟩
    rcases Finset.mem_insert.1 hi with rfl | hi
    · exact min_le_left _ _
    · exact (min_le_right _ _).trans (ih.2 i hi)

/-- A flag that is set says every sum was safe. -/
theorem flag_all (ok : IVec S1x256 1) (h : flagV ok ≠ 0#32) (i : Fin 256) : ok (ix2 0 i) = 1#1 := by
  by_contra hne
  have h0 : ok (ix2 0 i) = 0#1 := by
    rcases BitVec.eq_zero_or_eq_one (ok (ix2 0 i)) with h | h
    · exact h
    · exact absurd h hne
  apply h
  set src : IVec S1x1x256 32 := shapeCast S1x1x256 (select ok (broadcast S1x256 1#32) (broadcast S1x256 0#32)) scFlag with hsrc
  obtain ⟨j, hj⟩ : ∃ j : S1.Idx, flagV ok = (Finset.univ.filter fun z => redFlag.drop z = j).fold IntOp.minsi 2147483647#32 src :=
    ⟨_, multiReductionI_eq_fold .minsi src 2147483647#32 redFlag rfl _⟩
  rw [hj]
  have hv : ∀ z, src z = 0#32 ∨ src z = 1#32 := by
    intro z
    show Scalar.select _ 1#32 0#32 = 0#32 ∨ Scalar.select _ 1#32 0#32 = 1#32
    unfold Scalar.select
    split
    · exact .inr rfl
    · exact .inl rfl
  have hz : src (ix3 0 0 i) = 0#32 := by
    rw [hsrc]
    pointwise
    rw [h0]
    rfl
  obtain ⟨a, c⟩ := fold_minsi (Finset.univ.filter fun z => redFlag.drop z = j) 2147483647#32 (by decide) src (fun z => by
    rcases hv z with h | h <;> rw [h] <;> decide)
  have c' := c (ix3 0 0 i) (Finset.mem_filter.2 ⟨Finset.mem_univ _, by
    funext e
    match e with
    | 0 => exact Fin.ext (by have h1 := (redFlag.drop (ix3 0 0 i) 0).isLt; have h2 := (j 0).isLt; change _ < 1 at h1; change _ < 1 at h2; omega)⟩)
  rw [hz] at c'
  apply BitVec.eq_of_toInt_eq
  exact le_antisymm c' a

/-- A safe sum is positive and finite. -/
theorem good_at (l : FVec Ideal S1x256 .f32) (i : Fin 256) (h : goodV l (ix2 0 i) = 1#1) : (0 : EReal) < l (ix2 0 i) ∧ (l (ix2 0 i) : EReal) ≠ ⊤ := by
  unfold goodV at h
  pointwise at h
  have h1 : Ideal.ofBits .f32 0x12800000#32 ≤ l (ix2 0 i) := by
    by_contra hc
    rw [decide_eq_false hc] at h
    exact absurd (h.symm.trans (BitVec.zero_and)) (by decide)
  have h2 : (l (ix2 0 i) : EReal) ≤ Ideal.ofBits .f32 0x79000000#32 := by
    by_contra hc
    rw [decide_eq_false hc] at h
    exact absurd (h.symm.trans (BitVec.and_zero)) (by decide)
  refine ⟨lt_of_lt_of_le ?_ h1, fun ht => ?_⟩
  · simp [Ideal.ofBits, Ideal.ieee]
    exact_mod_cast (by positivity : (0 : ℝ) < 8388608 * (2 ^ 113)⁻¹)
  · rw [ht, top_le_iff] at h2
    simp [Ideal.ofBits, Ideal.ieee] at h2
    refine absurd h2 ?_
    exact_mod_cast EReal.coe_ne_top (8388608 * 2 ^ 92 : ℝ)

theorem dirFlag_good (n : Nat) [Shp n] (le : Ideal .f32) (t : Fin 8) (hf : dirFlag n le r t I ≠ 0#32) (h : Fin 8) (i : Fin 256) :
    (0 : EReal) < sumV n (headP n le r t I h) (ix2 0 i) ∧ (sumV n (headP n le r t I h) (ix2 0 i) : EReal) ≠ ⊤ := by
  have e := flag_all _ hf i
  refine good_at _ i ?_
  have a2 : ∀ x y : BitVec 1, IntOp.andi x y = 1#1 → x = 1#1 ∧ y = 1#1 := by decide
  obtain ⟨e, e7⟩ := a2 _ _ e
  obtain ⟨e, e6⟩ := a2 _ _ e
  obtain ⟨e, e5⟩ := a2 _ _ e
  obtain ⟨e, e4⟩ := a2 _ _ e
  obtain ⟨e, e3⟩ := a2 _ _ e
  obtain ⟨e, e2⟩ := a2 _ _ e
  obtain ⟨e0, e1⟩ := a2 _ _ e
  fin_cases h
  · exact e0
  · exact e1
  · exact e2
  · exact e3
  · exact e4
  · exact e5
  · exact e6
  · exact e7

theorem iv_nat : ∀ h : Fin 8, (Scalar.indexCast (Scf.iv 0#32 1#32 h.val)).toNat = h.val := by decide +kernel

include R hs in
/-- A key before the tile's first segment, or after the tile, is not looked at. -/
theorem out_bot (t : Fin 8) (j : Fin 64) (h : Fin 8) (g : Fin 4) (s : Fin 4096)
    (ho : s.val < (st ⟨512 * r.val + 64 * t.val, by omega⟩).toNat ∨ 512 * r.val + 64 * t.val + 64 ≤ s.val) : scr A b (row r t j) h g s = ⊥ := by
  unfold scr
  refine if_neg fun hsee => ?_
  obtain ⟨h1, h2⟩ := (see_iff A b hs _ s _ (R.start _)).1 hsee
  have h3 := (R.start ⟨512 * r.val + 64 * t.val, by omega⟩).mono (R.start (row r t j)) (Nat.le_add_right _ _)
  have h4 : s.val ≤ 512 * r.val + 64 * t.val + j.val := h2
  omega

include R hs in
theorem headO_at (n : Nat) [Shp n] (t h : Fin 8) (lo : BitVec 32)
    (hc : brC (Scalar.subi (stopW r t) (st ⟨512 * r.val + 64 * t.val, by omega⟩)) lo (BitVec.ofNat 32 n) = 1#1)
    (hf : dirFlag n lam r t I ≠ 0#32) (i : Fin 256) (d : Fin 128) :
    headO n lam r t I h (ix2 i d) = attn A b (row r t (tileRow i)) h (tileGrp i) d := by
  have hn := shp_le n
  have hst : (st ⟨512 * r.val + 64 * t.val, by omega⟩).toNat ≤ 512 * r.val + 64 * t.val := (R.start ⟨512 * r.val + 64 * t.val, by omega⟩).le
  have hcov := brC_le r t _ hst lo n hn hc
  have hn0 : 0 < n := by omega
  obtain ⟨w, hw⟩ : ∃ w, w = 512 * r.val + 64 * t.val + 64 - n := ⟨_, rfl⟩
  have hww : winW n r t = BitVec.ofNat 32 w := by rw [stopN n hn, hw]
  have hwn : w + n ≤ 4096 := by omega
  have hoff : kOff n r t h = ![0, w, h.val * 128] := by
    unfold kOff
    rw [hww]
    have : (Scalar.indexCast (BitVec.ofNat 32 w)).toNat = w := by
      unfold Scalar.indexCast
      rw [BitVec.toNat_ofNat]
      omega
    rw [this]
  have hbias : dirBias n r t I = biasV n (BitVec.ofNat 32 w) (ldR (bR t) I.x6) (ldR (bR t) I.x7) := by
    unfold dirBias
    rw [hww]
    exact shapeCast_self _ _
  have hP : ∀ (s : Fin n) (i : Fin 256), headP n lam r t I h (ix2 s i) = Ideal.exp2 (scr A b (row r t (tileRow i)) h (tileGrp i) ⟨w + s.val, by omega⟩ * lam) := by
    intro s i
    refine congrArg Ideal.exp2 (expo_at R hs n t h w hwn _ (fun s d => ?_) _ (fun i => ?_) _ hbias s i)
    · exact (ldK_at n w hwn h _ hoff _ I.x4 s d).trans (R.x4 _ _)
    · exact (ldC_at h _ rfl _ I.x8 i).trans (R.x8 h i)
  have hV : ∀ (s : Fin n) (d : Fin 128), (ldR (kR n r t h) I.x5 (ix3 0 s d) : EReal) = A.v (ix3 b ⟨w + s.val, by omega⟩ (colK h d)) :=
    fun s d => (ldK_at n w hwn h _ hoff _ I.x5 s d).trans (R.x5 _ _)
  have hg := dirFlag_good n lam t hf h i
  have hS : (sumV n (headP n lam r t I h) (ix2 0 i) : EReal) = ∑ s ∈ keys w n, Ideal.exp2 (scr A b (row r t (tileRow i)) h (tileGrp i) s * lam) := by
    rw [sumV_at, ← sum_keys w n hwn fun s => Ideal.exp2 (scr A b (row r t (tileRow i)) h (tileGrp i) s * lam)]
    exact Finset.sum_congr rfl fun s _ => hP s i
  have hA : (accV n (ldR (kR n r t h) I.x5) (headP n lam r t I h) (ix2 d i) : EReal)
      = ∑ s ∈ keys w n, A.v (ix3 b s (colK h d)) * Ideal.exp2 (scr A b (row r t (tileRow i)) h (tileGrp i) s * lam) := by
    rw [accV_at, ← sum_keys w n hwn fun s => A.v (ix3 b s (colK h d)) * Ideal.exp2 (scr A b (row r t (tileRow i)) h (tileGrp i) s * lam)]
    exact Finset.sum_congr rfl fun s _ => by rw [hP s i, hV s d]
  rw [hS] at hg
  unfold headO
  rw [outV_at, hA, hS]
  have hv : (ldR (vsR h) I.x9 (Shape.Idx.first (one1.symm ▸ Nat.one_pos)) : EReal) = A.vs (ix1 h) := (ldV_at h _ rfl _ I.x9 _).trans (R.x9 h)
  rw [hv]
  unfold attn
  refine direct_out _ (fun s => A.v (ix3 b s (colK h d))) _ _ (fun s hsk => ?_) (fun s => rfl) _ hg.1 hg.2
  rw [out_bot R hs t (tileRow i) h (tileGrp i) s ?_, bot_mul_lam]
  rw [mem_keys] at hsk
  omega

/-! ### The general path -/

theorem maxf (x y : EReal) : FloatOps.maximumf (F := Ideal) (φ := .f32) x y = max x y := rfl

theorem floor_word : ∃ f : ℝ, Ideal.ofBits .f32 0xFF7FFFFF#32 = (f : EReal) := by
  simp [Ideal.ofBits, Ideal.ieee]
  refine ⟨-(16777215 * 2 ^ 104), ?_⟩
  push_cast
  rfl

/-- The floor the running maximum starts at. -/
def flo : EReal := Ideal.ofBits .f32 0xFF7FFFFF#32

include R hs in
/-- The running values after `k` chunks are those of the keys seen. -/
theorem gen_st (t h : Fin 8) (s : BitVec 32) (hst : s.toNat ≤ 512 * r.val + 64 * t.val) (hs' : GenOK r t s) (i : Fin 256) (d : Fin 128) :
    ∀ k, k ≤ (loopC r t s).trips → RunSt flo (fun s => scr A b (row r t (tileRow i)) h (tileGrp i) s * lam) (fun s => A.v (ix3 b s (colK h d)))
      (keys (256 * (s.toNat / 256)) (256 * k)) ((genAcc lam r t s hs' h I k).1 (ix2 0 i)) ((genAcc lam r t s hs' h I k).2.1 (ix2 0 i)) ((genAcc lam r t s hs' h I k).2.2 (ix2 d i))
  | 0, _ => by
    rw [keys_zero]
    have e : RunSt flo (fun s => scr A b (row r t (tileRow i)) h (tileGrp i) s * lam) (fun s => A.v (ix3 b s (colK h d))) ∅ flo 0 0 := RunSt.empty _ _ _
    have z : Ideal.ofBits .f32 0x00000000#32 = 0 := by simp [Ideal.ofBits, Ideal.ieee]
    unfold genAcc acc0
    show RunSt flo _ _ ∅ (Ideal.ofBits .f32 0xFF7FFFFF#32) (Ideal.ofBits .f32 0x00000000#32) (Ideal.ofBits .f32 0x00000000#32)
    rw [z]
    exact e
  | k + 1, hk => by
    have ih := gen_st t h s hst hs' i d k (by omega)
    have hlt : k < (loopC r t s).trips := by omega
    have hN := chunkN_lt r t s hst k hlt
    obtain ⟨w, hw⟩ : ∃ w, w = 256 * (s.toNat / 256 + k) := ⟨_, rfl⟩
    have hwn : w + 256 ≤ 4096 := by omega
    have hoff := chunkOff_eq r t s hst h k hlt
    rw [← hw] at hoff
    have hcw := chunkW_eq r t s hst k hlt
    rw [← hw] at hcw
    rw [genAcc_succ lam r t s hs' h I ⟨k, hlt⟩]
    generalize genAcc lam r t s hs' h I k = a at ih ⊢
    have hX : ∀ (z : Fin 256) (i : Fin 256), chunkX lam t h I (chunkW (loopC r t s).lb k) (hs'.1.2 h ⟨k, hlt⟩) (ix2 z i)
        = scr A b (row r t (tileRow i)) h (tileGrp i) ⟨w + z.val, by omega⟩ * lam := by
      intro z i
      unfold chunkX
      refine expo_at R hs 256 t h w hwn _ (fun s d => ?_) _ (fun i => ?_) _ (by rw [hcw]) z i
      · exact (ldK_at 256 w hwn h _ hoff _ I.x4 s d).trans (R.x4 _ _)
      · exact (ldC_at h _ (by rw [iv_nat h]) _ I.x8 i).trans (R.x8 h i)
    have hV : ∀ (z : Fin 256) (d : Fin 128), (ldR (Rect.unit (s := S1x4096x1024) (chunkOff (chunkW (loopC r t s).lb k) h) (Kn 256).size (hs'.1.2 h ⟨k, hlt⟩)) I.x5 (ix3 0 z d) : EReal)
        = A.v (ix3 b ⟨w + z.val, by omega⟩ (colK h d)) :=
      fun z d => (ldK_at 256 w hwn h _ hoff _ I.x5 z d).trans (R.x5 _ _)
    unfold chunkS
    dsimp only
    generalize chunkX lam t h I (chunkW (loopC r t s).lb k) (hs'.1.2 h ⟨k, hlt⟩) = x at hX ⊢
    generalize ldR (Rect.unit (s := S1x4096x1024) (chunkOff (chunkW (loopC r t s).lb k) h) (Kn 256).size (hs'.1.2 h ⟨k, hlt⟩)) I.x5 = v at hV ⊢
    have hm : (accStep x v a).1 (ix2 0 i) = max (a.1 (ix2 0 i) : EReal) ((keys w 256).sup fun s => scr A b (row r t (tileRow i)) h (tileGrp i) s * lam) := by
      show max (a.1 (ix2 0 i) : EReal) (maxV 256 x (ix2 0 i)) = _
      rw [maxV_at, ← sup_keys w 256 hwn fun s => scr A b (row r t (tileRow i)) h (tileGrp i) s * lam]
      simp only [hX]
    obtain ⟨m', hm'⟩ : ∃ m' : EReal, m' = (accStep x v a).1 (ix2 0 i) := ⟨_, rfl⟩
    have hp : ∀ z : Fin 256, (exp2 (subf x (broadcastTo (Wn 256) (maximumf a.1 (maxV 256 x)) Shp.bcW)) (ix2 z i) : EReal)
        = Ideal.exp2 (scr A b (row r t (tileRow i)) h (tileGrp i) ⟨w + z.val, by omega⟩ * lam - m') := by
      intro z
      rw [← hX z i, hm']
      pointwise
      rfl
    have hl : (accStep x v a).2.1 (ix2 0 i) = (a.2.1 (ix2 0 i) : EReal) * Ideal.exp2 (a.1 (ix2 0 i) - m')
        + ∑ s ∈ keys w 256, Ideal.exp2 (scr A b (row r t (tileRow i)) h (tileGrp i) s * lam - m') := by
      rw [← sum_keys w 256 hwn fun s => Ideal.exp2 (scr A b (row r t (tileRow i)) h (tileGrp i) s * lam - m')]
      refine congr (congrArg HAdd.hAdd ?_) ?_
      · rw [hm']; rfl
      · rw [sumV_at]
        exact Finset.sum_congr rfl fun z _ => hp z
    have ha : (accStep x v a).2.2 (ix2 d i) = (a.2.2 (ix2 d i) : EReal) * Ideal.exp2 (a.1 (ix2 0 i) - m')
        + ∑ s ∈ keys w 256, A.v (ix3 b s (colK h d)) * Ideal.exp2 (scr A b (row r t (tileRow i)) h (tileGrp i) s * lam - m') := by
      rw [← sum_keys w 256 hwn fun s => A.v (ix3 b s (colK h d)) * Ideal.exp2 (scr A b (row r t (tileRow i)) h (tileGrp i) s * lam - m')]
      refine congr (congrArg HAdd.hAdd ?_) ?_
      · rw [hm']
        pointwise
        rfl
      · rw [accV_at]
        exact Finset.sum_congr rfl fun z _ => by rw [hp z, hV z d]
    rw [hl, ha, ← hm']
    refine ih.step ?_ ?_ ?_ (hm'.trans hm)
    · obtain ⟨f, hf⟩ := floor_word
      unfold flo
      rw [hf]; exact EReal.coe_ne_bot f
    · rw [show w = 256 * (s.toNat / 256) + 256 * k by omega]
      exact keys_disjoint _ _ _
    · rw [show w = 256 * (s.toNat / 256) + 256 * k by omega, show 256 * (k + 1) = 256 * k + 256 by omega]
      exact keys_union _ _ _

include R hs in
theorem genO_at (t h : Fin 8) (hs' : GenOK r t (st ⟨512 * r.val + 64 * t.val, by omega⟩)) (i : Fin 256) (d : Fin 128) :
    genO lam r t (st ⟨512 * r.val + 64 * t.val, by omega⟩) hs' h I (ix2 i d) = attn A b (row r t (tileRow i)) h (tileGrp i) d := by
  have hst : (st ⟨512 * r.val + 64 * t.val, by omega⟩).toNat ≤ 512 * r.val + 64 * t.val := (R.start ⟨512 * r.val + 64 * t.val, by omega⟩).le
  obtain ⟨f, hf⟩ := floor_word
  have e := gen_st R hs t h _ hst hs' i d _ le_rfl
  have e' := e.univ fun s hsk => by
    rw [out_bot R hs t (tileRow i) h (tileGrp i) s ?_, bot_mul_lam]
    rw [mem_keys, loopC_trips r t _ hst] at hsk
    unfold lastN at hsk
    omega
  unfold flo at e'
  rw [hf] at e'
  unfold genO
  rw [outV_at]
  have hv : (ldR (gvR h) I.x9 (Shape.Idx.first (one1.symm ▸ Nat.one_pos)) : EReal) = A.vs (ix1 h) :=
    (ldV_at h _ (by rw [iv_nat h]) _ I.x9 _).trans (R.x9 h)
  rw [hv]
  exact e'.out _ (fun s => rfl) _

include R hs in
/-- Either way, a tile's rows are the attention. -/
theorem tile_ok (t : Fin 8) : TileOK I lam r t (st ⟨512 * r.val + 64 * t.val, by omega⟩) fun y z =>
    (z : EReal) = attn A b ⟨512 * r.val + (y 1).val, by have : (y 1).val < 512 := (y 1).isLt; omega⟩ (headC (y 2)) (groupC (y 2)) (depthC (y 2)) := by
  have key : ∀ (h : Fin 8) (y : S1x512x4096.Idx) (hT : InT t.val y) (hH : InH h.val y) (o : FVec Ideal S256x128 .bf16)
      (ho : ∀ (i : Fin 256) (d : Fin 128), (o (ix2 i d) : EReal) = attn A b (row r t (tileRow i)) h (tileGrp i) d),
      (o (oIdx y) : EReal) = attn A b ⟨512 * r.val + (y 1).val, by have : (y 1).val < 512 := (y 1).isLt; omega⟩ (headC (y 2)) (groupC (y 2)) (depthC (y 2)) := by
    intro h y hT hH o ho
    have h1 : (y 1).val < 512 := (y 1).isLt
    have h2 : (y 2).val < 4096 := (y 2).isLt
    unfold InT at hT
    unfold InH at hH
    rw [oIdx_eq y ⟨(y 2).val / 128 % 4 * 64 + (y 1).val % 64, by omega⟩ ⟨(y 2).val % 128, by omega⟩ rfl rfl, ho]
    have a1 : row r t (tileRow ⟨(y 2).val / 128 % 4 * 64 + (y 1).val % 64, by omega⟩) = ⟨512 * r.val + (y 1).val, by omega⟩ := Fin.ext (by simp only; omega)
    have a2 : h = headC (y 2) := Fin.ext hH.symm
    have a3 : tileGrp ⟨(y 2).val / 128 % 4 * 64 + (y 1).val % 64, by omega⟩ = groupC (y 2) := Fin.ext (by show ((y 2).val / 128 % 4 * 64 + (y 1).val % 64) / 64 = (y 2).val / 128 % 4; omega)
    rw [a1, a3, ← a2]
    rfl
  constructor
  · intro n _ lo hc hf h y hT hH
    exact key h y hT hH _ fun i d => headO_at R hs n t h lo hc hf i d
  · intro hs' h y hT hH
    exact key h y hT hH _ fun i d => genO_at R hs t h hs' i d

end
end Seg
end
-- ==== Proof.IdealBlocks.lean ====
module

public import proofs.«01_k».proof.Proof.IdealHost
public import proofs.«01_k».proof.Proof.Tile

/-!
# What the kernel's body reads

The host's lines and the windows' blocks over the extended reals: at every point the body reads the arrays as `Reads`
says, with the segment starts the host computed.
-/

@[expose] public section

noncomputable section

namespace Seg.Ideal

open Idealize.ShloMosaic Idealize.ShloMosaic.TcCoe Idealize.ShloMosaic.Tactic Idealize.ShloMosaic.StableHlo
open Idealize.ShloMosaic.Pipeline (Window)
open Cert.KernelIdeal Cert.KernelIdeal.Gen Cert.KernelIdeal.Facts Cert.KernelIdeal.Facts₀

variable (m : (ℓ : Loc nD τ sig) → Buf (Elt Idealize.ShloMosaic.Ideal) ℓ)

/-- The argument arrays. -/
def margs (c : Dev nD) : Args where
  x := m ((c : Thread nD τ).loc main_arg0)
  k := m ((c : Thread nD τ).loc main_arg1)
  v := m ((c : Thread nD τ).loc main_arg2)
  qs := m ((c : Thread nD τ).loc main_arg3)
  ks := m ((c : Thread nD τ).loc main_arg4)
  vs := m ((c : Thread nD τ).loc main_arg5)
  seg := m ((c : Thread nD τ).loc main_arg6)

/-- The starts, a lane per row of each tile, twice over; -/
theorem v27_at (c : Dev nD) (b r t : Fin 8) (l : Fin 128) :
    (V m c main_v27 : S8x8x8x128.Idx → BitVec 32) (ix4 b r t l) = V m c main_v8 (ix2 b (row r t ⟨l.val % 64, by omega⟩)) := by
  unfold V V0 lines
  after_reads_at
  exact congrArg _ (congrArg (ix2 b) (Fin.ext (by show (r.val * 8 + t.val) * 64 + l.val % 64 = 512 * r.val + 64 * t.val + l.val % 64; omega)))

/-- the rows, likewise; -/
theorem v28_at (c : Dev nD) (b r t : Fin 8) (l : Fin 128) :
    (V m c main_v28 : S8x8x8x128.Idx → BitVec 32) (ix4 b r t l) = BitVec.ofNat 32 (row r t ⟨l.val % 64, by omega⟩).val := by
  unfold V V0 lines
  after_reads_at
  exact congrArg _ (by show (r.val * 8 + t.val) * 64 + l.val % 64 = 512 * r.val + 64 * t.val + l.val % 64; omega)

/-- and the score scales. -/
theorem v26_at (c : Dev nD) (h : Fin 8) (i : Fin 256) : (V m c main_v26 : S8x256.Idx → EReal) (ix2 h i) = scl (margs m c) h (tileGrp i) := by
  unfold V V0 lines
  after_reads_at
  rfl

theorem ix_0 : ∀ t : Fin grid0.N, ∀ a : Fin 3, cc0_transform_0 (grid0.coords t) a = (![((grid0.coords t) 0).val, ((grid0.coords t) 1).val, 0] : Fin 3 → Nat) a := by decide +kernel
theorem ix_1 : ∀ t : Fin grid0.N, ∀ a : Fin 3, cc0_transform_1 (grid0.coords t) a = (![((grid0.coords t) 0).val, 0, 0] : Fin 3 → Nat) a := by decide +kernel
theorem ix_2 : ∀ t : Fin grid0.N, ∀ a : Fin 3, cc0_transform_2 (grid0.coords t) a = (![((grid0.coords t) 0).val, 0, 0] : Fin 3 → Nat) a := by decide +kernel
theorem ix_3 : ∀ t : Fin grid0.N, ∀ a : Fin 4, cc0_transform_3 (grid0.coords t) a = (![((grid0.coords t) 0).val, ((grid0.coords t) 1).val, 0, 0] : Fin 4 → Nat) a := by decide +kernel
theorem ix_4 : ∀ t : Fin grid0.N, ∀ a : Fin 4, cc0_transform_4 (grid0.coords t) a = (![((grid0.coords t) 0).val, ((grid0.coords t) 1).val, 0, 0] : Fin 4 → Nat) a := by decide +kernel
theorem ix_5 : ∀ t : Fin grid0.N, ∀ a : Fin 2, cc0_transform_5 (grid0.coords t) a = 0 := by decide +kernel
theorem ix_6 : ∀ t : Fin grid0.N, ∀ a : Fin 1, cc0_transform_6 (grid0.coords t) a = 0 := by decide +kernel
theorem ix_7 : ∀ t : Fin grid0.N, ∀ a : Fin 3, cc0_transform_7 (grid0.coords t) a = (![((grid0.coords t) 0).val, ((grid0.coords t) 1).val, 0] : Fin 3 → Nat) a := by decide +kernel

variable (c : Dev nD) (t : Fin (cfgM m).N)

/-- Where an element of a block lies on an axis, from the block's index there. -/
theorem place {x v : Nat} (h : x = v) (s y : Nat) : x * s + y = s * v + y := by rw [h, Nat.mul_comm]

theorem place0 {x : Nat} (h : x = 0) (s y : Nat) : x * s + y = y := by rw [h, Nat.zero_mul, Nat.zero_add]
theorem place1 {x v : Nat} (h : x = v) : x * 1 + 0 = v := by omega

/-- The point's batch and rows block. -/
abbrev pb : Fin 8 := (grid0.coords t) 0
abbrev pr : Fin 8 := (grid0.coords t) 1

variable (W : (b : Ref sig .tc) → Buf (Elt Idealize.ShloMosaic.Ideal) ((c : Thread nD τ).loc b))

theorem blk_0 (y : Fin 512) (j : Fin 4096) : ((((cfgM m).win 0).blk t).view.read (Elt Idealize.ShloMosaic.Ideal) (W (Pipeline.arrRef spec0 0)) : S1x512x4096.Idx → EReal) (ix3 0 y j)
    = (W main_arg0 : S8x4096x4096.Idx → EReal) (ix3 (pb m t) ⟨512 * (pr m t).val + y.val, by omega⟩ j) := by
  show W main_arg0 ((((cfgM m).win 0).rect t).emb (ix3 0 y j : S1x512x4096.Idx)) = _
  refine congrArg (W main_arg0) (funext fun a => Fin.ext ?_)
  refine (Window.rect_emb_val ((cfgM m).win 0) t (ix3 0 y j : S1x512x4096.Idx) a rfl).trans ?_
  match a with
  | ⟨0, _⟩ => exact place1 (ix_0 t 0)
  | ⟨1, _⟩ => exact place (ix_0 t 1) 512 y.val
  | ⟨2, _⟩ => exact place0 (ix_0 t 2) _ j.val

theorem blk_1 (s : Fin 4096) (j : Fin 1024) : ((((cfgM m).win 1).blk t).view.read (Elt Idealize.ShloMosaic.Ideal) (W (Pipeline.arrRef spec0 1)) : S1x4096x1024.Idx → EReal) (ix3 0 s j)
    = (W main_arg1 : S8x4096x1024.Idx → EReal) (ix3 (pb m t) s j) := by
  show W main_arg1 ((((cfgM m).win 1).rect t).emb (ix3 0 s j : S1x4096x1024.Idx)) = _
  refine congrArg (W main_arg1) (funext fun a => Fin.ext ?_)
  refine (Window.rect_emb_val ((cfgM m).win 1) t (ix3 0 s j : S1x4096x1024.Idx) a rfl).trans ?_
  match a with
  | ⟨0, _⟩ => exact place1 (ix_1 t 0)
  | ⟨1, _⟩ => exact place0 (ix_1 t 1) _ s.val
  | ⟨2, _⟩ => exact place0 (ix_1 t 2) _ j.val

theorem blk_2 (s : Fin 4096) (j : Fin 1024) : ((((cfgM m).win 2).blk t).view.read (Elt Idealize.ShloMosaic.Ideal) (W (Pipeline.arrRef spec0 2)) : S1x4096x1024.Idx → EReal) (ix3 0 s j)
    = (W main_arg2 : S8x4096x1024.Idx → EReal) (ix3 (pb m t) s j) := by
  show W main_arg2 ((((cfgM m).win 2).rect t).emb (ix3 0 s j : S1x4096x1024.Idx)) = _
  refine congrArg (W main_arg2) (funext fun a => Fin.ext ?_)
  refine (Window.rect_emb_val ((cfgM m).win 2) t (ix3 0 s j : S1x4096x1024.Idx) a rfl).trans ?_
  match a with
  | ⟨0, _⟩ => exact place1 (ix_2 t 0)
  | ⟨1, _⟩ => exact place0 (ix_2 t 1) _ s.val
  | ⟨2, _⟩ => exact place0 (ix_2 t 2) _ j.val

theorem blk_3 (u : Fin 8) (l : Fin 128) : ((((cfgM m).win 3).blk t).view.read (Elt Idealize.ShloMosaic.Ideal) (W (Pipeline.arrRef spec0 3)) : S1x1x8x128.Idx → BitVec 32) (ix4 0 0 u l)
    = (W main_v27 : S8x8x8x128.Idx → BitVec 32) (ix4 (pb m t) (pr m t) u l) := by
  show W main_v27 ((((cfgM m).win 3).rect t).emb (ix4 0 0 u l : S1x1x8x128.Idx)) = _
  refine congrArg (W main_v27) (funext fun a => Fin.ext ?_)
  refine (Window.rect_emb_val ((cfgM m).win 3) t (ix4 0 0 u l : S1x1x8x128.Idx) a rfl).trans ?_
  match a with
  | ⟨0, _⟩ => exact place1 (ix_3 t 0)
  | ⟨1, _⟩ => exact place1 (ix_3 t 1)
  | ⟨2, _⟩ => exact place0 (ix_3 t 2) _ u.val
  | ⟨3, _⟩ => exact place0 (ix_3 t 3) _ l.val

theorem blk_4 (u : Fin 8) (l : Fin 128) : ((((cfgM m).win 4).blk t).view.read (Elt Idealize.ShloMosaic.Ideal) (W (Pipeline.arrRef spec0 4)) : S1x1x8x128.Idx → BitVec 32) (ix4 0 0 u l)
    = (W main_v28 : S8x8x8x128.Idx → BitVec 32) (ix4 (pb m t) (pr m t) u l) := by
  show W main_v28 ((((cfgM m).win 4).rect t).emb (ix4 0 0 u l : S1x1x8x128.Idx)) = _
  refine congrArg (W main_v28) (funext fun a => Fin.ext ?_)
  refine (Window.rect_emb_val ((cfgM m).win 4) t (ix4 0 0 u l : S1x1x8x128.Idx) a rfl).trans ?_
  match a with
  | ⟨0, _⟩ => exact place1 (ix_4 t 0)
  | ⟨1, _⟩ => exact place1 (ix_4 t 1)
  | ⟨2, _⟩ => exact place0 (ix_4 t 2) _ u.val
  | ⟨3, _⟩ => exact place0 (ix_4 t 3) _ l.val

theorem blk_5 (h : Fin 8) (i : Fin 256) : ((((cfgM m).win 5).blk t).view.read (Elt Idealize.ShloMosaic.Ideal) (W (Pipeline.arrRef spec0 5)) : S8x256.Idx → EReal) (ix2 h i)
    = (W main_v26 : S8x256.Idx → EReal) (ix2 h i) := by
  show W main_v26 ((((cfgM m).win 5).rect t).emb (ix2 h i : S8x256.Idx)) = _
  refine congrArg (W main_v26) (funext fun a => Fin.ext ?_)
  refine (Window.rect_emb_val ((cfgM m).win 5) t (ix2 h i : S8x256.Idx) a rfl).trans ?_
  match a with
  | ⟨0, _⟩ => exact place0 (ix_5 t 0) _ h.val
  | ⟨1, _⟩ => exact place0 (ix_5 t 1) _ i.val

theorem blk_6 (h : Fin 8) : ((((cfgM m).win 6).blk t).view.read (Elt Idealize.ShloMosaic.Ideal) (W (Pipeline.arrRef spec0 6)) : S8.Idx → EReal) (ix1 h) = (W main_arg5 : S8.Idx → EReal) (ix1 h) := by
  show W main_arg5 ((((cfgM m).win 6).rect t).emb (ix1 h : S8.Idx)) = _
  refine congrArg (W main_arg5) (funext fun a => Fin.ext ?_)
  refine (Window.rect_emb_val ((cfgM m).win 6) t (ix1 h : S8.Idx) a rfl).trans ?_
  match a with
  | ⟨0, _⟩ => exact place0 (ix_6 t 0) _ h.val

theorem inp_0 (y : Fin 512) (j : Fin 4096) : ((inp m c t).x3 (ix3 0 y j) : EReal) = (V m c main_arg0 : S8x4096x4096.Idx → EReal) (ix3 (pb m t) ⟨512 * (pr m t).val + y.val, by omega⟩ j) := by
  have e : (inp m c t).x3 = (((cfgM m).win 0).blk t).view.read (Elt Idealize.ShloMosaic.Ideal) (V m c (Pipeline.arrRef spec0 0)) := by
    unfold inp iblk
    rfl
  have h := blk_0 m c t (V m c) y j
  rw [e]
  exact h

theorem inp_1 (s : Fin 4096) (j : Fin 1024) : ((inp m c t).x4 (ix3 0 s j) : EReal) = (V m c main_arg1 : S8x4096x1024.Idx → EReal) (ix3 (pb m t) s j) := by
  have e : (inp m c t).x4 = (((cfgM m).win 1).blk t).view.read (Elt Idealize.ShloMosaic.Ideal) (V m c (Pipeline.arrRef spec0 1)) := by
    unfold inp iblk
    rfl
  have h := blk_1 m c t (V m c) s j
  rw [e]
  exact h

theorem inp_2 (s : Fin 4096) (j : Fin 1024) : ((inp m c t).x5 (ix3 0 s j) : EReal) = (V m c main_arg2 : S8x4096x1024.Idx → EReal) (ix3 (pb m t) s j) := by
  have e : (inp m c t).x5 = (((cfgM m).win 2).blk t).view.read (Elt Idealize.ShloMosaic.Ideal) (V m c (Pipeline.arrRef spec0 2)) := by
    unfold inp iblk
    rfl
  have h := blk_2 m c t (V m c) s j
  rw [e]
  exact h

theorem ib_3 (u : Fin 8) (l : Fin 128) : (iblk m c 3 t : S1x1x8x128.Idx → BitVec 32) (ix4 0 0 u l) = (V m c main_v27 : S8x8x8x128.Idx → BitVec 32) (ix4 (pb m t) (pr m t) u l) := by
  unfold iblk
  exact blk_3 m c t (V m c) u l

attribute [local irreducible] iblk tbl in
theorem inp_3 (u : Fin 8) (l : Fin 128) : ((inp m c t).x6 (ix4 0 0 u l) : BitVec 32) = (V m c main_v27 : S8x8x8x128.Idx → BitVec 32) (ix4 (pb m t) (pr m t) u l) :=
  ib_3 m c t u l

theorem inp_4 (u : Fin 8) (l : Fin 128) : ((inp m c t).x7 (ix4 0 0 u l) : BitVec 32) = (V m c main_v28 : S8x8x8x128.Idx → BitVec 32) (ix4 (pb m t) (pr m t) u l) := by
  have e : (inp m c t).x7 = (((cfgM m).win 4).blk t).view.read (Elt Idealize.ShloMosaic.Ideal) (V m c (Pipeline.arrRef spec0 4)) := by
    unfold inp iblk
    rfl
  have h := blk_4 m c t (V m c) u l
  rw [e]
  exact h

theorem inp_5 (h : Fin 8) (i : Fin 256) : ((inp m c t).x8 (ix2 h i) : EReal) = (V m c main_v26 : S8x256.Idx → EReal) (ix2 h i) := by
  have e : (inp m c t).x8 = (((cfgM m).win 5).blk t).view.read (Elt Idealize.ShloMosaic.Ideal) (V m c (Pipeline.arrRef spec0 5)) := by
    unfold inp iblk
    rfl
  have h := blk_5 m c t (V m c) h i
  rw [e]
  exact h

theorem inp_6 (h : Fin 8) : ((inp m c t).x9 (ix1 h) : EReal) = (V m c main_arg5 : S8.Idx → EReal) (ix1 h) := by
  have e : (inp m c t).x9 = (((cfgM m).win 6).blk t).view.read (Elt Idealize.ShloMosaic.Ideal) (V m c (Pipeline.arrRef spec0 6)) := by
    unfold inp iblk
    rfl
  have h := blk_6 m c t (V m c) h
  rw [e]
  exact h

/-- What the body reads at a point. -/
theorem reads : Reads (margs m c) (pb m t) (pr m t) (fun q => V m c main_v8 (ix2 (pb m t) q)) (inp m c t) where
  x3 y j := by rw [inp_0, V_arg0]; rfl
  x4 s j := by rw [inp_1, V_arg1]; rfl
  x5 s j := by rw [inp_2, V_arg2]; rfl
  x6 u l := by rw [inp_3, v27_at]
  x7 u l := by rw [inp_4, v28_at]
  x8 h i := by rw [inp_5, v26_at]
  x9 h := by rw [inp_6, V_arg5]; rfl
  start q := v8_start m c _ q

theorem le_eq : (le (F := Idealize.ShloMosaic.Ideal)) = lam := rfl

/-- What the body leaves at an element of its block: the attention there. -/
def good (y : S1x512x4096.Idx) (z : EReal) : Prop :=
  z = attn (margs m c) (pb m t) ⟨512 * (pr m t).val + (y 1).val, by have : (y 1).val < 512 := (y 1).isLt; omega⟩ (headC (y 2)) (groupC (y 2)) (depthC (y 2))

theorem tiles (hs : Sorted (margs m c).seg (pb m t)) (u : Fin 8) :
    TileOK (inp m c t) (le (F := Idealize.ShloMosaic.Ideal)) ((grid0.coords t) 1) u (sW ((grid0.coords t) 0) ((grid0.coords t) 1) u (inp m c t)) (good m c t) := by
  obtain rfl : c = 0 := Subsingleton.elim _ _
  have e := sW_eq m 0 ((grid0.coords t) 0) ((grid0.coords t) 1) u (inp m 0 t) (inp_x2 m 0 t)
  have h := tile_ok (reads m 0 t) hs u
  rw [← e] at h
  exact h

end Seg.Ideal
end
-- ==== Proof.IdealFinal.lean ====
module

public import proofs.«01_k».proof.Proof.IdealBlocks
public import Idealize.ShloMosaic.Lib.Pipeline.Value

/-!
# The kernel's result

Every point writes its block back and the blocks cover the result, so the result's array ends at the attention of the
argument arrays.
-/

@[expose] public section

noncomputable section

namespace Seg.Ideal

open Idealize.ShloMosaic Idealize.ShloMosaic.TcCoe Idealize.ShloMosaic.Tactic
open Idealize.SL Idealize.SL.RA Idealize.SL.Sem
open Idealize.ShloMosaic.Pipeline (Dat RDat Cfg Window)
open Cert.KernelIdeal Cert.KernelIdeal.Gen

section
variable {F : FTy → Type} [FloatOps F] {cfg : Cfg sig Λ₀} {c : Dev nD}
variable (rd : RDat τ (Elt F) Unit ℕ (UR sig nD τ) ℕ cfg c)

/-- What every block the body may leave has, every element of the array under a written block has. -/
theorem arrAt_all (w : Fin cfg.W)
    (P : ((cfg.win w).arr.view.loc (c.tc : Thread nD τ)).2.ty.Idx → Elt F ((cfg.win w).arr.view.loc (c.tc : Thread nD τ)).2.ty.elt → Prop)
    (hP : ∀ t X, rd.Leaves w t X → ∀ y : ((cfg.win w).xblock (cfg.grid.coords t)).Idx,
      P (((cfg.win w).blk t).view.emb y) (_root_.cast (congrArg (Elt F) ((cfg.win w).blk t).view.elt_eq.symm) ((cfg.win w).cut (cfg.grid.coords t) X y))) :
    ∀ (n : Nat) (B) (hB : rd.ArrAt w n B) (t : Fin cfg.N) (i : ((cfg.win w).arr.view.loc (c.tc : Thread nD τ)).2.ty.Idx),
      t.val < n → (cfg.win w).flush t = true → i ∈ ((cfg.win w).blk t).view.set → P i (B i)
  | 0, _, _, _, _, ht, _, _ => absurd ht (Nat.not_lt_zero _)
  | n + 1, B, hB, t, i, ht, hf, hi => by
    by_cases hn : n < cfg.N
    swap
    · rw [rd.ArrAt_stable w (n + 1) (by omega), ← rd.ArrAt_stable w n (by omega)] at hB
      exact arrAt_all w P hP n B hB t i (by have := t.isLt; omega) hf hi
    have e := rd.ArrAt_succ w ⟨n, hn⟩
    dsimp only at e
    rw [e] at hB
    by_cases hfn : (cfg.win w).flush ⟨n, hn⟩ = true
    · rw [if_pos hfn] at hB
      obtain ⟨B0, X, hB0, hX, rfl⟩ := hB
      by_cases hin : i ∈ ((cfg.win w).blk ⟨n, hn⟩).view.set
      · obtain ⟨y, -, rfl⟩ := Finset.mem_map.mp hin
        rw [View.write_emb_of_mem _ _ (Finset.mem_univ y)]
        exact hP _ X hX y
      · rw [View.write_of_not_mem _ _ _ (by rwa [View.setOn_univ])]
        have htn : t.val ≠ n := fun e => hin (by have : t = ⟨n, hn⟩ := Fin.ext e; exact this ▸ hi)
        exact arrAt_all w P hP n B0 hB0 t i (by omega) hf hi
    · rw [if_neg hfn] at hB
      have htn : t.val ≠ n := fun e => hfn (by have : t = ⟨n, hn⟩ := Fin.ext e; exact this ▸ hf)
      exact arrAt_all w P hP n B hB t i (by omega) hf hi
end

variable (m : (ℓ : Loc nD τ sig) → Buf (Elt Idealize.ShloMosaic.Ideal) ℓ) (ρ : Dev nD → PrngReg)

theorem flush_7 : ∀ t : Fin grid0.N, Window.flushOf grid0 true cc0_transform_7 t = true := by decide +kernel

/-- The point of a batch and a rows block. -/
def ptOf (b r : Fin 8) : Fin grid0.N := ⟨8 * b.val + r.val, by have : grid0.N = 64 := N_0; omega⟩

theorem ptOf_b : ∀ b r : Fin 8, ((grid0.coords (ptOf b r)) 0).val = b.val := by decide +kernel
theorem ptOf_r : ∀ b r : Fin 8, ((grid0.coords (ptOf b r)) 1).val = r.val := by decide +kernel

/-- An element of a written block lies where the attention was computed for. -/
theorem emb_7 (t : Fin (cfgM m).N) (y : S1x512x4096.Idx) (a : Fin 3) :
    ((((((cfgM m).win 7).blk t).view.emb y : S8x4096x4096.Idx) a).val : Nat) = (![(pb m t).val, 512 * (pr m t).val + (y 1).val, (y 2).val] : Fin 3 → Nat) a := by
  have h0 : (y 0).val = 0 := by have : (y 0).val < 1 := (y 0).isLt; omega
  refine (Window.rect_emb_val ((cfgM m).win 7) t y a rfl).trans ?_
  match a with
  | ⟨0, _⟩ => exact (congrArg (_ + ·) h0).trans (place1 (ix_7 t 0))
  | ⟨1, _⟩ => exact place (ix_7 t 1) 512 (y 1).val
  | ⟨2, _⟩ => exact place0 (ix_7 t 2) 4096 (y 2).val

/-- The result, of the argument arrays. -/
def res (c : Dev nD) : S8x4096x4096.Idx → EReal := fun i => attn (margs m c) (i 0) (i 1) (headC (i 2)) (groupC (i 2)) (depthC (i 2))

/-- The blocks cover the result. -/
theorem cover_7 (i : S8x4096x4096.Idx) : ∃ (t : Fin (cfgM m).N) (y : S1x512x4096.Idx), ((((cfgM m).win 7).blk t).view.emb y : S8x4096x4096.Idx) = i := by
  have h1 : (i 1).val < 4096 := (i 1).isLt
  refine ⟨ptOf (i 0) ⟨(i 1).val / 512, by omega⟩, (ix3 0 ⟨(i 1).val % 512, by omega⟩ (i 2) : S1x512x4096.Idx), funext fun a => Fin.ext ?_⟩
  refine (emb_7 m _ _ a).trans ?_
  match a with
  | ⟨0, _⟩ => exact ptOf_b _ _
  | ⟨1, _⟩ =>
    refine (congrArg (fun r : Nat => 512 * r + (i 1).val % 512) (ptOf_r (i 0) ⟨(i 1).val / 512, by omega⟩)).trans ?_
    show 512 * ((i 1).val / 512) + (i 1).val % 512 = (i 1).val
    omega
  | ⟨2, _⟩ => rfl

theorem final (c : Dev nD) (B : Buf (Elt Idealize.ShloMosaic.Ideal) ((c.tc : Thread nD τ).loc main_v29))
    (hB : (rdat m (good m) c).ArrAt 7 (cfgM m).N B) : B = res m c := by
  refine funext fun i => ?_
  obtain ⟨u, x, hx⟩ := cover_7 m i
  refine arrAt_all (rdat m (good m) c) 7 (fun i z => z = res m c i) (fun t X hX y => ?_) _ B hB u i u.isLt (flush_7 u) (Finset.mem_map.2 ⟨x, Finset.mem_univ _, hx⟩)
  obtain ⟨Y, -, hG⟩ := hX
  have h := hG y
  have e0 := emb_7 m t y 0
  have e1 := emb_7 m t y 1
  have e2 := emb_7 m t y 2
  refine Eq.trans h ?_
  unfold res
  congr 1
  · exact Fin.ext e0.symm
  · exact Fin.ext e1.symm
  · exact congrArg headC (Fin.ext e2.symm)
  · exact congrArg groupC (Fin.ext e2.symm)
  · exact congrArg depthC (Fin.ext e2.symm)

/-- Every run of the kernel's program leaves its result at the attention and its arguments as they were. -/
theorem value (hs : ∀ c b, Sorted (margs m c).seg b) :
    θ_run defs (onTc (τ := τ) (main (F := Idealize.ShloMosaic.Ideal))) ⟨m, fun _ => 0, ρ⟩ (fun r => ∀ c : Dev nD,
      r.2.mem ((c.tc : Thread nD τ).loc main_v29) = res m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  (θ_run defs _ _).mono (fun r h c => ⟨final m c _ (h.1.1 c), h.1.2 c⟩)
    (run m ρ (good m) (fun c t u => tiles m c t (hs c _) u) (fun c t u => sW_le m c t u))

end Seg.Ideal
end
-- ==== Proof.RefValue.lean ====
module

public import proofs.«01_k».proof.Proof.Spec
public import proofs.«01_k».proof.Proof.Gen.ReferenceIdeal
public import proofs.«01_k».proof.Proof.Gen.ReferenceIdeal.Frame
public import Idealize.ShloMosaic.Lib.StableHlo.ReadAt
public import Idealize.ShloMosaic.Lib.Pipeline.Value

/-!
# The reference's value
-/

@[expose] public section

noncomputable section

namespace Seg.Ref

open Idealize.ShloMosaic Idealize.ShloMosaic.TcCoe Idealize.ShloMosaic.Tactic Idealize.ShloMosaic.StableHlo
open Idealize.SL Idealize.SL.Sem
open Cert.ReferenceIdeal Cert.ReferenceIdeal.Facts Cert.ReferenceIdeal.Facts₀
open Cert.ReferenceIdeal.Gen (hostOps1 hostOps1_1 hostOps1_2 hostOps1_3 hostOps1_4)

variable (W : Valuation τ sig (Elt Ideal))

/-- The host lines after the call, in order. -/
abbrev lines : List (HloOp τ sig (Elt Ideal)) := List.flatten [hostOps1, hostOps1_1, hostOps1_2, hostOps1_3, hostOps1_4]

/-- A buffer after them. -/
abbrev R (b : Ref sig .tc) := StableHlo.after lines W (Proc.devRef .tc b)

/-- The arrays the lines start from. -/
def args : Args where
  x := W (Proc.devRef .tc main_v0_0)
  k := W (Proc.devRef .tc main_v0_1)
  v := W (Proc.devRef .tc main_v0_2)
  qs := W (Proc.devRef .tc main_arg3)
  ks := W (Proc.devRef .tc main_arg4)
  vs := W (Proc.devRef .tc main_arg5)
  seg := W (Proc.devRef .tc main_arg6)

/-- The values laid out by heads, -/
def v3 : FVec Ideal S8x4096x8x128 .bf16 := R W main_v3
/-- the scores, -/
def v14 : FVec Ideal S8x8x4x4096x4096 .f32 := R W main_v14
/-- the mask, -/
def v29 : IVec S8x1x1x4096x4096 1 := R W main_v29
/-- the masked scores, -/
def v30 : FVec Ideal S8x8x4x4096x4096 .f32 := R W main_v30
/-- their exponentials, -/
def v35 : FVec Ideal S8x8x4x4096x4096 .f32 := R W main_v35
/-- the guarded sums, -/
def v40 : FVec Ideal S8x8x4x4096x1 .f32 := R W main_v40
/-- and the result. -/
def v50 : FVec Ideal S8x4096x4096 .bf16 := R W main_v50

/-- The mask's word says whether the query sees the key. -/
theorem seeBit (A : Args) (b : Fin 8) (q s : Fin 4096) : IntOp.andi (IntOp.cmpi CmpIPredicate.sle (BitVec.ofNat 32 s.val) (BitVec.ofNat 32 q.val))
      (IntOp.cmpi CmpIPredicate.eq (A.seg (ix2 b q)) (A.seg (ix2 b s))) = BitVec.ofBool (decide (see A b q s)) := by
  have h1 : (BitVec.ofNat 32 s.val).toInt = s.val := by
    have h := s.isLt
    have e : (BitVec.ofNat 32 s.val).toNat = s.val := by rw [BitVec.toNat_ofNat]; exact Nat.mod_eq_of_lt (by omega)
    rw [BitVec.toInt_eq_toNat_of_lt (by rw [e]; omega), e]
  have h2 : (BitVec.ofNat 32 q.val).toInt = q.val := by
    have h := q.isLt
    have e : (BitVec.ofNat 32 q.val).toNat = q.val := by rw [BitVec.toNat_ofNat]; exact Nat.mod_eq_of_lt (by omega)
    rw [BitVec.toInt_eq_toNat_of_lt (by rw [e]; omega), e]
  unfold see
  simp only [IntOp.cmpi, IntOp.andi, BitVec.sle, h1, h2]
  by_cases ha : s.val ≤ q.val <;> by_cases hb : A.seg (ix2 b q) = A.seg (ix2 b s) <;> simp [ha, hb, beq_eq_false_iff_ne.mpr]

/-- Minus infinity. -/
theorem bot_bits : Ideal.ofBits .f32 0xFF800000#32 = ⊥ := by
  simp [Ideal.ofBits, Ideal.ieee]

theorem v14_at (b h : Fin 8) (g : Fin 4) (q s : Fin 4096) : v14 W (ix5 b h g q s) = qk (args W) b q h g s * scl (args W) h g := by
  unfold v14 R lines
  after_reads_at
  pointwise
  unfold qk scl args
  simp only [colX, colK]
  congr 1
  refine Finset.sum_congr rfl fun d _ => ?_
  congr 3
  exact Fin.ext (by simp only []; omega)

theorem v29_at (b : Fin 8) (q s : Fin 4096) : v29 W (ix5 b 0 0 q s) = IntOp.andi (IntOp.cmpi CmpIPredicate.sle (BitVec.ofNat 32 s.val) (BitVec.ofNat 32 q.val))
      (IntOp.cmpi CmpIPredicate.eq ((args W).seg (ix2 b q)) ((args W).seg (ix2 b s))) := by
  unfold v29 R lines
  after_reads_at
  pointwise
  rfl

theorem v30_eq : v30 W = select (broadcastInDim S8x8x4x4096x4096 ![0, 1, 2, 3, 4] bcast_S8x1x1x4096x4096_S8x8x4x4096x4096_0_1_2_3_4 (v29 W)) (v14 W) (broadcastInDim S8x8x4x4096x4096 ![] bcast_S_S8x8x4x4096x4096 (constant S_ .f32 0xFF800000#32)) := by
  unfold v30 v29 v14 R lines
  after_reads_simp
  simp -implicitDefEqProofs only [StableHlo.TRef.toBuf, StableHlo.TRef.ofBuf, cast_cast, cast_eq, id]
  done

theorem v35_eq : v35 W = Host.exp (subf (v30 W) (broadcastInDim S8x8x4x4096x4096 ![0, 1, 2, 3, 4] bcast_S8x8x4x4096x1_S8x8x4x4096x4096_0_1_2_3_4 (broadcastInDim S8x8x4x4096x1 ![0, 1, 2, 3] bcast_S8x8x4x4096_S8x8x4x4096x1_0_1_2_3 (Host.reduce FloatOps.maximumf (v30 W) (constant S_ .f32 0xFF800000#32) reducesTo_S8x8x4x4096x4096_S8x8x4x4096_d4 h_S_)))) := by
  unfold v35 v30 R lines
  after_reads_simp

theorem v40_eq : v40 W = select (cmpf .ogt (broadcastInDim S8x8x4x4096x1 ![0, 1, 2, 3] bcast_S8x8x4x4096_S8x8x4x4096x1_0_1_2_3 (Host.reduceAdd (v35 W) (constant S_ .f32 0x00000000#32) reducesTo_S8x8x4x4096x4096_S8x8x4x4096_d4 h_S_)) (broadcastInDim S8x8x4x4096x1 ![] bcast_S_S8x8x4x4096x1 (constant S_ .f32 0x00000000#32))) (broadcastInDim S8x8x4x4096x1 ![0, 1, 2, 3] bcast_S8x8x4x4096_S8x8x4x4096x1_0_1_2_3 (Host.reduceAdd (v35 W) (constant S_ .f32 0x00000000#32) reducesTo_S8x8x4x4096x4096_S8x8x4x4096_d4 h_S_)) (broadcastInDim S8x8x4x4096x1 ![] bcast_S_S8x8x4x4096x1 (constant S_ .f32 0x3F800000#32)) := by
  unfold v40 v35 R lines
  after_reads_simp
  simp -implicitDefEqProofs only [StableHlo.TRef.toBuf, StableHlo.TRef.ofBuf, cast_cast, cast_eq, id]
  done

theorem v50_eq : v50 W = truncf .bf16 (shapeCast S8x4096x4096 (mulf (transpose S8x4096x8x4x128 [0, 4, 1, 3, 2] (Host.dotGeneral dot_S8x4096x8x128_S8x8x4x4096x4096_S8x8x128x4x4096_1_4_3_23_02_01 none (v3 W) (truncf .bf16 (Host.divf (v35 W) (broadcastInDim S8x8x4x4096x4096 ![0, 1, 2, 3, 4] bcast_S8x8x4x4096x1_S8x8x4x4096x4096_0_1_2_3_4 (v40 W))) bitsLt_bf16_f32)) transposes_S8x8x128x4x4096_S8x4096x8x4x128_0_4_1_3_2) (broadcastInDim S8x4096x8x4x128 ![0, 1, 2, 3, 4] bcast_S1x1x8x1x1_S8x4096x8x4x128_0_1_2_3_4 (broadcastInDim S1x1x8x1x1 ![2] bcast_S8_S1x1x8x1x1_2 (args W).vs))) shapeCasts_S8x4096x8x4x128_S8x4096x4096) bitsLt_bf16_f32 := by
  unfold v50 v3 v35 v40 R lines args
  after_reads_simp
  rfl

theorem v3_at (b h : Fin 8) (s : Fin 4096) (d : Fin 128) : v3 W (ix4 b s h d) = (args W).v (ix3 b s (colK h d)) := by
  unfold v3 R lines
  after_reads_at
  pointwise
  rfl

theorem v30_at (b h : Fin 8) (g : Fin 4) (q s : Fin 4096) : v30 W (ix5 b h g q s) = scr (args W) b q h g s := by
  rw [v30_eq]
  pointwise
  rw [v29_at, v14_at, seeBit, bot_bits]
  unfold scr
  by_cases hs : see (args W) b q s
  · simp only [hs, if_true, decide_true]; rfl
  · simp only [hs, if_false, decide_false]; rfl

theorem v35_at (b h : Fin 8) (g : Fin 4) (q s : Fin 4096) : v35 W (ix5 b h g q s) = Ideal.exp (scr (args W) b q h g s - softM (scr (args W) b q h g)) := by
  rw [v35_eq]
  pointwise
  simp only [v30_at, bot_bits]
  rfl

theorem v40_at (b h : Fin 8) (g : Fin 4) (q : Fin 4096) : v40 W (ix5 b h g q 0) = if 0 < softL (scr (args W) b q h g) then softL (scr (args W) b q h g) else 1 := by
  rw [v40_eq]
  pointwise
  simp only [v35_at]
  rfl

/-- The result at row `q` and column `c` is the attention there. -/
theorem v50_at (b : Fin 8) (q c : Fin 4096) : v50 W (ix3 b q c) = attn (args W) b q (headC c) (groupC c) (depthC c) := by
  rw [v50_eq]
  pointwise
  simp only [v35_at, v40_at, v3_at]
  rfl

end Seg.Ref
end
-- ==== Proof.RefRun.lean ====
module

public import proofs.«01_k».proof.Proof.RefValue
public import proofs.«01_k».proof.Proof.Gen.ReferenceIdeal.Frame
public import Idealize.ShloMosaic.Lib.Pipeline.Value
public import Idealize.ShloMosaic.Lib.Tactic

/-!
# The reference's run

The region copies the three fp8 arrays to wider formats, which over the extended reals changes nothing; the lines
after it compute the attention. So the reference ends with its result at `attn` of the argument arrays.
-/

@[expose] public section

noncomputable section

open Idealize.ShloMosaic Idealize.ShloMosaic.TcCoe Idealize.SL.Sem
open Idealize.ShloMosaic.Pipeline (Dat)

namespace Seg.Ref

open Cert.ReferenceIdeal Cert.ReferenceIdeal.Gen

variable (m : (ℓ : Loc nD τ sig) → Buf (Elt Ideal) ℓ) (ρ : Dev nD → PrngReg)

theorem hz : (![0, 0, 0] : Fin 3 → Nat) = fun _ => 0 := funext fun a => by fin_cases a <;> rfl

theorem out_3 (x0 : Vec Ideal S8x4096x4096 .fp8e4m3) (x1 x2 : Vec Ideal S8x4096x1024 .fp8e4m3) : out0_3 x0 x1 x2 = (x0 : S8x4096x4096.Idx → EReal) := by
  unfold out0_3
  rw [View.canon_unit_zero hz, View.ld_unit_zero (S := S8x4096x4096) hz]
  rfl
theorem out_4 (x0 : Vec Ideal S8x4096x4096 .fp8e4m3) (x1 x2 : Vec Ideal S8x4096x1024 .fp8e4m3) : out0_4 x0 x1 x2 = (x1 : S8x4096x1024.Idx → EReal) := by
  unfold out0_4
  rw [View.canon_unit_zero hz, View.ld_unit_zero (S := S8x4096x1024) hz]
  rfl
theorem out_5 (x0 : Vec Ideal S8x4096x4096 .fp8e4m3) (x1 x2 : Vec Ideal S8x4096x1024 .fp8e4m3) : out0_5 x0 x1 x2 = (x2 : S8x4096x1024.Idx → EReal) := by
  unfold out0_5
  rw [View.canon_unit_zero hz, View.ld_unit_zero (S := S8x4096x1024) hz]
  rfl

/-- The one point of the region. -/
abbrev pt : Fin cfg0.N := ⟨0, by decide⟩

theorem one (t : Fin cfg0.N) : t = pt := by
  have h : cfg0.N = 1 := by decide
  exact Fin.ext (by have := t.isLt; omega)

theorem iblk_0 (c : Dev nD) (t : Fin cfg0.N) : (iblk m c 0 t : S8x4096x4096.Idx → EReal) = m ((c : Thread nD τ).loc main_arg0) := by
  obtain rfl := one t
  have hz' : (fun a => win0_0.index pt a * main_arg0.ty.shape.size a) = fun _ => 0 := funext fun a => by fin_cases a <;> decide
  exact Memref.read_access_unit_zero (Elt Ideal) main_arg0 hz' (fun a => by rw [congrFun hz' a]; simp) (V m c main_arg0)
theorem iblk_1 (c : Dev nD) (t : Fin cfg0.N) : (iblk m c 1 t : S8x4096x1024.Idx → EReal) = m ((c : Thread nD τ).loc main_arg1) := by
  obtain rfl := one t
  have hz' : (fun a => win0_1.index pt a * main_arg1.ty.shape.size a) = fun _ => 0 := funext fun a => by fin_cases a <;> decide
  exact Memref.read_access_unit_zero (Elt Ideal) main_arg1 hz' (fun a => by rw [congrFun hz' a]; simp) (V m c main_arg1)
theorem iblk_2 (c : Dev nD) (t : Fin cfg0.N) : (iblk m c 2 t : S8x4096x1024.Idx → EReal) = m ((c : Thread nD τ).loc main_arg2) := by
  obtain rfl := one t
  have hz' : (fun a => win0_2.index pt a * main_arg2.ty.shape.size a) = fun _ => 0 := funext fun a => by fin_cases a <;> decide
  exact Memref.read_access_unit_zero (Elt Ideal) main_arg2 hz' (fun a => by rw [congrFun hz' a]; simp) (V m c main_arg2)

/-- The three widened arrays, as contents of the region's results. -/
abbrev wide0 (c : Dev nD) : Buf (Elt Ideal) ((c : Thread nD τ).loc main_v0_0) := fun i => (m ((c : Thread nD τ).loc main_arg0) i : EReal)
abbrev wide1 (c : Dev nD) : Buf (Elt Ideal) ((c : Thread nD τ).loc main_v0_1) := fun i => (m ((c : Thread nD τ).loc main_arg1) i : EReal)
abbrev wide2 (c : Dev nD) : Buf (Elt Ideal) ((c : Thread nD τ).loc main_v0_2) := fun i => (m ((c : Thread nD τ).loc main_arg2) i : EReal)

/-- The region's result 0 ends at the array it copies. -/
theorem arr_3 (c : Dev nD) : (dats m 0 c).arrAt 3 cfg0.N = wide0 m c := by
  have hz' : (fun a => win0_3.index pt a * main_v0_0.ty.shape.size a) = fun _ => 0 := funext fun a => by fin_cases a <;> decide
  refine (dats m 0 c).arrAt_eq_of_cover 3 (wide0 m c) (fun t hf => ?_) fun i => ⟨pt, flush0_3 _, ?_⟩
  · obtain rfl := one t
    show (cfg0.win 3).cut (grid0.coords pt) ((dats m 0 c).after 3 pt) = _
    rw [after0_3, out_3, iblk_0]
    exact (Memref.read_access_unit_zero (Elt Ideal) main_v0_0 hz' (fun a => by rw [congrFun hz' a]; simp) (wide0 m c)).symm
  · show i ∈ ((View.whole main_v0_0).slice (win0_3.rect pt)).set
    rw [View.set_slice_whole, Rect.mem_set_unit]
    intro a
    have h := (i a).isLt
    have hz0 := congrFun hz' a
    refine ⟨hz0.le.trans (Nat.zero_le _), ?_⟩
    exact lt_of_lt_of_le h ((by decide +kernel : ∀ a : Fin 3, main_v0_0.ty.shape.size a ≤ win0_3.index pt a * win0_3.size a + win0_3.xsize (grid0.coords pt) a) a)

/-- The region's result 1 ends at the array it copies. -/
theorem arr_4 (c : Dev nD) : (dats m 0 c).arrAt 4 cfg0.N = wide1 m c := by
  have hz' : (fun a => win0_4.index pt a * main_v0_1.ty.shape.size a) = fun _ => 0 := funext fun a => by fin_cases a <;> decide
  refine (dats m 0 c).arrAt_eq_of_cover 4 (wide1 m c) (fun t hf => ?_) fun i => ⟨pt, flush0_4 _, ?_⟩
  · obtain rfl := one t
    show (cfg0.win 4).cut (grid0.coords pt) ((dats m 0 c).after 4 pt) = _
    rw [after0_4, out_4, iblk_1]
    exact (Memref.read_access_unit_zero (Elt Ideal) main_v0_1 hz' (fun a => by rw [congrFun hz' a]; simp) (wide1 m c)).symm
  · show i ∈ ((View.whole main_v0_1).slice (win0_4.rect pt)).set
    rw [View.set_slice_whole, Rect.mem_set_unit]
    intro a
    have h := (i a).isLt
    have hz0 := congrFun hz' a
    refine ⟨hz0.le.trans (Nat.zero_le _), ?_⟩
    exact lt_of_lt_of_le h ((by decide +kernel : ∀ a : Fin 3, main_v0_1.ty.shape.size a ≤ win0_4.index pt a * win0_4.size a + win0_4.xsize (grid0.coords pt) a) a)

/-- The region's result 2 ends at the array it copies. -/
theorem arr_5 (c : Dev nD) : (dats m 0 c).arrAt 5 cfg0.N = wide2 m c := by
  have hz' : (fun a => win0_5.index pt a * main_v0_2.ty.shape.size a) = fun _ => 0 := funext fun a => by fin_cases a <;> decide
  refine (dats m 0 c).arrAt_eq_of_cover 5 (wide2 m c) (fun t hf => ?_) fun i => ⟨pt, flush0_5 _, ?_⟩
  · obtain rfl := one t
    show (cfg0.win 5).cut (grid0.coords pt) ((dats m 0 c).after 5 pt) = _
    rw [after0_5, out_5, iblk_2]
    exact (Memref.read_access_unit_zero (Elt Ideal) main_v0_2 hz' (fun a => by rw [congrFun hz' a]; simp) (wide2 m c)).symm
  · show i ∈ ((View.whole main_v0_2).slice (win0_5.rect pt)).set
    rw [View.set_slice_whole, Rect.mem_set_unit]
    intro a
    have h := (i a).isLt
    have hz0 := congrFun hz' a
    refine ⟨hz0.le.trans (Nat.zero_le _), ?_⟩
    exact lt_of_lt_of_le h ((by decide +kernel : ∀ a : Fin 3, main_v0_2.ty.shape.size a ≤ win0_5.index pt a * win0_5.size a + win0_5.xsize (grid0.coords pt) a) a)

/-- What the lines after the region start from. -/
abbrev W0 (c : Dev nD) : Valuation τ sig (Elt Ideal) :=
  Pipeline.withArrays (cfgs 0).spec c (V0 m c) fun w => (dats m 0 c).arrAt w (cfgs 0).N

/-- The argument arrays of a core. -/
def margs (c : Dev nD) : Args where
  x := m ((c : Thread nD τ).loc main_arg0)
  k := m ((c : Thread nD τ).loc main_arg1)
  v := m ((c : Thread nD τ).loc main_arg2)
  qs := m ((c : Thread nD τ).loc main_arg3)
  ks := m ((c : Thread nD τ).loc main_arg4)
  vs := m ((c : Thread nD τ).loc main_arg5)
  seg := m ((c : Thread nD τ).loc main_arg6)

theorem W0_arr (c : Dev nD) (w : Fin 6) : W0 m c (Proc.devRef .tc (Pipeline.arrRef spec0 w)) = (dats m 0 c).arrAt w cfg0.N :=
  Pipeline.withArrays_arr spec0 winFacts0.arr_inj c (V0 m c) (fun w => (dats m 0 c).arrAt w cfg0.N) w

theorem W0_ne (c : Dev nD) (b : Ref sig .tc) (hb : ∀ w, Pipeline.arrRef spec0 w ≠ b) : W0 m c (Proc.devRef .tc b) = V m c b :=
  Pipeline.withArrays_of_ne spec0 c (V0 m c) (fun w => (dats m 0 c).arrAt w cfg0.N) b hb

theorem args_eq {A B : Args} (h0 : A.x = B.x) (h1 : A.k = B.k) (h2 : A.v = B.v) (h3 : A.qs = B.qs) (h4 : A.ks = B.ks) (h5 : A.vs = B.vs)
    (h6 : A.seg = B.seg) : A = B := by
  cases A; cases B; simp_all

theorem W0_args (c : Dev nD) : args (W0 m c) = margs m c := by
  exact args_eq
    ((W0_arr m c 3).trans (arr_3 m c))
    ((W0_arr m c 4).trans (arr_4 m c))
    ((W0_arr m c 5).trans (arr_5 m c))
    ((W0_ne m c main_arg3 (by exact (by decide : ∀ w, Pipeline.arrRef spec0 w ≠ main_arg3))).trans (V_main_arg3 m c))
    ((W0_ne m c main_arg4 (by exact (by decide : ∀ w, Pipeline.arrRef spec0 w ≠ main_arg4))).trans (V_main_arg4 m c))
    ((W0_ne m c main_arg5 (by exact (by decide : ∀ w, Pipeline.arrRef spec0 w ≠ main_arg5))).trans (V_main_arg5 m c))
    ((W0_ne m c main_arg6 (by exact (by decide : ∀ w, Pipeline.arrRef spec0 w ≠ main_arg6))).trans (V_main_arg6 m c))

/-- The reference, run: the result at `attn` of the argument arrays, these unchanged. -/
theorem run : θ_run defs (onTc (τ := τ) (main (F := Ideal))) ⟨m, fun _ => 0, ρ⟩ (fun r => ∀ c : Dev nD,
      (∀ (b : Fin 8) (q x : Fin 4096), (r.2.mem ((c.tc : Thread nD τ).loc main_v50) : S8x4096x4096.Idx → EReal) (ix3 b q x) = attn (margs m c) b q (headC x) (groupC x) (depthC x))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (θ_run_and (run_main m ρ) (unchanged m ρ))
  refine ⟨fun b q x => ?_, h.2 c⟩
  have e := (h.1 c).2 main_v50 (Pipeline.mem_restRefs_of main_v50 (by decide) (by decide))
  rw [← W0_args, ← v50_at]
  exact congrFun e _

end Seg.Ref
end
-- ==== Proof.Sorted.lean ====
module

public import proofs.«01_k».proof.Defs
public import proofs.«01_k».proof.Proof.Mask
public import Idealize.ShloMosaic.Lib.Pointwise

/-!
# The precondition

`sorted_segments` says that no segment id is less than the one before it in its row.
-/

@[expose] public section

noncomputable section

namespace Seg

open Idealize.ShloMosaic Idealize.ShloMosaic.TcCoe

/-- The shape relations the precondition states. -/
instance preFacts : Cert.Pre_sorted_segments.Facts where
  slices_S8x4096_S8x4095_0_1 := by decide
  slices_S8x4096_S8x4095_0_0 := by decide
  reducesTo_S8x4095_S_d0_1 := by decide
  h_S_ := by decide

theorem fold_and {ι : Type} [DecidableEq ι] (s : Finset ι) (x : ι → BitVec 1) (h : s.fold IntOp.andi 1#1 x = 1#1) : ∀ i ∈ s, x i = 1#1 := by
  induction s using Finset.induction_on with
  | empty => exact fun i hi => absurd hi (Finset.notMem_empty i)
  | insert a s ha ih =>
    rw [Finset.fold_insert ha] at h
    have a2 : ∀ x y : BitVec 1, IntOp.andi x y = 1#1 → x = 1#1 ∧ y = 1#1 := by decide
    obtain ⟨h0, h1⟩ := a2 _ _ h
    intro i hi
    rcases Finset.mem_insert.1 hi with rfl | hi
    · exact h0
    · exact ih h1 i hi

/-- The precondition, read: the segment ids ascend along every row. -/
theorem sorted_of_pre (x0 x1 x2 x3 x4 x5) (seg : IVec Cert.Pre_sorted_segments.S8x4096 32)
    (h : Cert.Pre_sorted_segments.fn (F := Ideal) x0 x1 x2 x3 x4 x5 seg (Shape.Idx.first preFacts.h_S_) = 1#1) (b : Fin 8) : Sorted seg b := by
  intro p hp
  unfold Cert.Pre_sorted_segments.fn at h
  dsimp only at h
  rw [Host.reduce_eq_fold] at h
  have e := fold_and _ _ h (ix2 b (⟨p, by omega⟩ : Fin 4095)) (Finset.mem_filter.2 ⟨Finset.mem_univ _, funext fun a => a.elim0⟩)
  revert e
  pointwise
  have hi : (⟨1 + p, by omega⟩ : Fin 4096) = ⟨p + 1, hp⟩ := Fin.ext (Nat.add_comm _ _)
  rw [hi]
  intro e
  have ob : ∀ x : Bool, BitVec.ofBool x = 1#1 → x = true := by decide
  exact of_decide_eq_true (ob _ e)

end Seg
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelHost
public import proofs.«01_k».proof.Proof.IdealFinal
public import proofs.«01_k».proof.Proof.RefRun
public import proofs.«01_k».proof.Proof.Sorted

/-!
# The claims

The frame of each program, that the ideal program is the kernel with its constant named, and that the ideal program
computes what the reference computes.
-/

@[expose] public section

open Idealize.ShloMosaic Idealize.ShloMosaic.TcCoe Idealize.SL.Sem

noncomputable section

/-- Where the segment ids ascend along every row, the kernel's result is the reference's. -/
theorem Cert.Proof.algebraic : Cert.algebraic_KernelIdeal_ReferenceIdeal_pre_sorted_segments
    (hKernelIdeal := Cert.KernelIdeal.Gen.facts) (hReferenceIdeal := Cert.ReferenceIdeal.Gen.facts) (hPre_sorted_segments := Seg.preFacts) := by
  intro m g m' g' hpre hargs
  have hs : ∀ c b, Seg.Sorted (Seg.Ideal.margs m c).seg b := fun c b => Seg.sorted_of_pre _ _ _ _ _ _ _ (congrFun (hpre c) _) b
  refine ⟨Seg.Ideal.res m, Seg.Ideal.value m g hs, ?_⟩
  refine (θ_run _ _ _).mono (fun r h c => ⟨?_, (h c).2⟩) (Seg.Ref.run m' g')
  have e : Seg.Ref.margs m' c = Seg.Ideal.margs m c := by
    obtain ⟨h0, h1, h2, h3, h4, h5, h6⟩ := hargs c
    exact Seg.Ref.args_eq h0 h1 h2 h3 h4 h5 h6
  refine funext fun (i : Seg.AX.Idx) => ?_
  have hi : i = ix3 (i 0) (i 1) (i 2) := funext fun a => by fin_cases a <;> rfl
  refine (congrArg _ hi).trans (((h c).1 (i 0) (i 1) (i 2)).trans ?_)
  rw [e]
  rfl

/-- Everything this certificate claims. -/
theorem Cert.Proof.claim : Cert.Claim :=
  ⟨Cert.Kernel.Gen.facts, Cert.KernelIdeal.Gen.facts, Cert.ReferenceIdeal.Gen.facts, Seg.preFacts,
    fun m g _ => Seg.Word.frame m g,
    fun m g _ => Seg.Ideal.frame m g,
    fun m g _ => Seg.Ideal.frame m g,
    fun m g _ => Cert.ReferenceIdeal.Gen.frame m g,
    fun m g _ => Cert.ReferenceIdeal.Gen.frame m g,
    IdealRules.named_const.statement Cert.KernelIdeal.κ "log2e" .f32 0x3FB8AA3B#32 (((Real.log 2)⁻¹ : ℝ) : EReal) rfl,
    Cert.Proof.algebraic⟩

end
